-- ==== Defs.lean ====
def Pre_Kernel [hPre_pages_in_pool : Cert.Pre_pages_in_pool.Facts] (m : (ℓ : Loc Cert.Kernel.nD Cert.Kernel.τ Cert.Kernel.sig) → Buf (Elt Bits) ℓ) : Prop :=
  ∀ c : Dev Cert.Kernel.nD,
    (Cert.Pre_pages_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_pages_in_pool : Cert.Pre_pages_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_pages_in_pool : Cert.Pre_pages_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_MixerStep (m : (ℓ : Loc Cert.MixerStep.nD Cert.MixerStep.τ Cert.MixerStep.sig) → Buf (Elt Bits) ℓ) : Prop :=
  True

def Pre_MixerStepIdeal (m : (ℓ : Loc Cert.MixerStepIdeal.nD Cert.MixerStepIdeal.τ Cert.MixerStepIdeal.sig) → Buf (Elt Ideal) ℓ) : Prop :=
  True

def Pre_MixerStepRefIdeal (m : (ℓ : Loc Cert.MixerStepRefIdeal.nD Cert.MixerStepRefIdeal.τ Cert.MixerStepRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvStep (m : (ℓ : Loc Cert.QkvStep.nD Cert.QkvStep.τ Cert.QkvStep.sig) → Buf (Elt Bits) ℓ) : Prop :=
  True

def Pre_QkvStepIdeal (m : (ℓ : Loc Cert.QkvStepIdeal.nD Cert.QkvStepIdeal.τ Cert.QkvStepIdeal.sig) → Buf (Elt Ideal) ℓ) : Prop :=
  True

def Pre_QkvStepRefIdeal (m : (ℓ : Loc Cert.QkvStepRefIdeal.nD Cert.QkvStepRefIdeal.τ Cert.QkvStepRefIdeal.sig) → Buf (Elt Ideal) ℓ) : Prop :=
  True

def quiescent_Kernel [hKernel : Cert.Kernel.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] [hPre_pages_in_pool : Cert.Pre_pages_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2))
      ∧ r.2.sem = fun _ => 0)

def quiescent_MixerStep [hMixerStep : Cert.MixerStep.Facts] : Prop :=
  ∀ (m : (ℓ : Loc Cert.MixerStep.nD Cert.MixerStep.τ Cert.MixerStep.sig) → Buf (Elt Bits) ℓ) (g : Dev Cert.MixerStep.nD → PrngReg), Pre_MixerStep m →
    θ_run (Cert.MixerStep.defs (F := Bits)) (onTc (τ := Cert.MixerStep.τ) (Cert.MixerStep.main (F := Bits))) ⟨m, fun _ => 0, g⟩ (fun r => (∀ c : Dev Cert.MixerStep.nD,
      r.2.mem ((c.tc : Thread Cert.MixerStep.nD Cert.MixerStep.τ).loc Cert.MixerStep.main_arg0) = m ((c.tc : Thread Cert.MixerStep.nD Cert.MixerStep.τ).loc Cert.MixerStep.main_arg0)
      ∧ r.2.mem ((c.tc : Thread Cert.MixerStep.nD Cert.MixerStep.τ).loc Cert.MixerStep.main_arg1) = m ((c.tc : Thread Cert.MixerStep.nD Cert.MixerStep.τ).loc Cert.MixerStep.main_arg1)
      ∧ r.2.mem ((c.tc : Thread Cert.MixerStep.nD Cert.MixerStep.τ).loc Cert.MixerStep.main_arg2) = m ((c.tc : Thread Cert.MixerStep.nD Cert.MixerStep.τ).loc Cert.MixerStep.main_arg2)
      ∧ r.2.mem ((c.tc : Thread Cert.MixerStep.nD Cert.MixerStep.τ).loc Cert.MixerStep.main_arg3) = m ((c.tc : Thread Cert.MixerStep.nD Cert.MixerStep.τ).loc Cert.MixerStep.main_arg3))
      ∧ r.2.sem = fun _ => 0)

def quiescent_MixerStepIdeal [hMixerStepIdeal : Cert.MixerStepIdeal.Facts] : Prop :=
  ∀ (m : (ℓ : Loc Cert.MixerStepIdeal.nD Cert.MixerStepIdeal.τ Cert.MixerStepIdeal.sig) → Buf (Elt Ideal) ℓ) (g : Dev Cert.MixerStepIdeal.nD → PrngReg), Pre_MixerStepIdeal m →
    θ_run (Cert.MixerStepIdeal.defs (F := Ideal)) (onTc (τ := Cert.MixerStepIdeal.τ) (Cert.MixerStepIdeal.main (F := Ideal))) ⟨m, fun _ => 0, g⟩ (fun r => (∀ c : Dev Cert.MixerStepIdeal.nD,
      r.2.mem ((c.tc : Thread Cert.MixerStepIdeal.nD Cert.MixerStepIdeal.τ).loc Cert.MixerStepIdeal.main_arg0) = m ((c.tc : Thread Cert.MixerStepIdeal.nD Cert.MixerStepIdeal.τ).loc Cert.MixerStepIdeal.main_arg0)
      ∧ r.2.mem ((c.tc : Thread Cert.MixerStepIdeal.nD Cert.MixerStepIdeal.τ).loc Cert.MixerStepIdeal.main_arg1) = m ((c.tc : Thread Cert.MixerStepIdeal.nD Cert.MixerStepIdeal.τ).loc Cert.MixerStepIdeal.main_arg1)
      ∧ r.2.mem ((c.tc : Thread Cert.MixerStepIdeal.nD Cert.MixerStepIdeal.τ).loc Cert.MixerStepIdeal.main_arg2) = m ((c.tc : Thread Cert.MixerStepIdeal.nD Cert.MixerStepIdeal.τ).loc Cert.MixerStepIdeal.main_arg2)
      ∧ r.2.mem ((c.tc : Thread Cert.MixerStepIdeal.nD Cert.MixerStepIdeal.τ).loc Cert.MixerStepIdeal.main_arg3) = m ((c.tc : Thread Cert.MixerStepIdeal.nD Cert.MixerStepIdeal.τ).loc Cert.MixerStepIdeal.main_arg3))
      ∧ r.2.sem = fun _ => 0)

def quiescent_MixerStepRefIdeal [hMixerStepRefIdeal : Cert.MixerStepRefIdeal.Facts] : Prop :=
  ∀ (m : (ℓ : Loc Cert.MixerStepRefIdeal.nD Cert.MixerStepRefIdeal.τ Cert.MixerStepRefIdeal.sig) → Buf (Elt Ideal) ℓ) (g : Dev Cert.MixerStepRefIdeal.nD → PrngReg), Pre_MixerStepRefIdeal m →
    θ_run (Cert.MixerStepRefIdeal.defs (F := Ideal)) (onTc (τ := Cert.MixerStepRefIdeal.τ) (Cert.MixerStepRefIdeal.main (F := Ideal))) ⟨m, fun _ => 0, g⟩ (fun r => (∀ c : Dev Cert.MixerStepRefIdeal.nD,
      r.2.mem ((c.tc : Thread Cert.MixerStepRefIdeal.nD Cert.MixerStepRefIdeal.τ).loc Cert.MixerStepRefIdeal.main_arg0) = m ((c.tc : Thread Cert.MixerStepRefIdeal.nD Cert.MixerStepRefIdeal.τ).loc Cert.MixerStepRefIdeal.main_arg0)
      ∧ r.2.mem ((c.tc : Thread Cert.MixerStepRefIdeal.nD Cert.MixerStepRefIdeal.τ).loc Cert.MixerStepRefIdeal.main_arg1) = m ((c.tc : Thread Cert.MixerStepRefIdeal.nD Cert.MixerStepRefIdeal.τ).loc Cert.MixerStepRefIdeal.main_arg1)
      ∧ r.2.mem ((c.tc : Thread Cert.MixerStepRefIdeal.nD Cert.MixerStepRefIdeal.τ).loc Cert.MixerStepRefIdeal.main_arg2) = m ((c.tc : Thread Cert.MixerStepRefIdeal.nD Cert.MixerStepRefIdeal.τ).loc Cert.MixerStepRefIdeal.main_arg2)
      ∧ r.2.mem ((c.tc : Thread Cert.MixerStepRefIdeal.nD Cert.MixerStepRefIdeal.τ).loc Cert.MixerStepRefIdeal.main_arg3) = m ((c.tc : Thread Cert.MixerStepRefIdeal.nD Cert.MixerStepRefIdeal.τ).loc Cert.MixerStepRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_QkvStep [hQkvStep : Cert.QkvStep.Facts] : Prop :=
  ∀ (m : (ℓ : Loc Cert.QkvStep.nD Cert.QkvStep.τ Cert.QkvStep.sig) → Buf (Elt Bits) ℓ) (g : Dev Cert.QkvStep.nD → PrngReg), Pre_QkvStep m →
    θ_run (Cert.QkvStep.defs (F := Bits)) (onTc (τ := Cert.QkvStep.τ) (Cert.QkvStep.main (F := Bits))) ⟨m, fun _ => 0, g⟩ (fun r => (∀ c : Dev Cert.QkvStep.nD,
      r.2.mem ((c.tc : Thread Cert.QkvStep.nD Cert.QkvStep.τ).loc Cert.QkvStep.main_arg0) = m ((c.tc : Thread Cert.QkvStep.nD Cert.QkvStep.τ).loc Cert.QkvStep.main_arg0)
      ∧ r.2.mem ((c.tc : Thread Cert.QkvStep.nD Cert.QkvStep.τ).loc Cert.QkvStep.main_arg1) = m ((c.tc : Thread Cert.QkvStep.nD Cert.QkvStep.τ).loc Cert.QkvStep.main_arg1)
      ∧ r.2.mem ((c.tc : Thread Cert.QkvStep.nD Cert.QkvStep.τ).loc Cert.QkvStep.main_arg2) = m ((c.tc : Thread Cert.QkvStep.nD Cert.QkvStep.τ).loc Cert.QkvStep.main_arg2))
      ∧ r.2.sem = fun _ => 0)

def quiescent_QkvStepIdeal [hQkvStepIdeal : Cert.QkvStepIdeal.Facts] : Prop :=
  ∀ (m : (ℓ : Loc Cert.QkvStepIdeal.nD Cert.QkvStepIdeal.τ Cert.QkvStepIdeal.sig) → Buf (Elt Ideal) ℓ) (g : Dev Cert.QkvStepIdeal.nD → PrngReg), Pre_QkvStepIdeal m →
    θ_run (Cert.QkvStepIdeal.defs (F := Ideal)) (onTc (τ := Cert.QkvStepIdeal.τ) (Cert.QkvStepIdeal.main (F := Ideal))) ⟨m, fun _ => 0, g⟩ (fun r => (∀ c : Dev Cert.QkvStepIdeal.nD,
      r.2.mem ((c.tc : Thread Cert.QkvStepIdeal.nD Cert.QkvStepIdeal.τ).loc Cert.QkvStepIdeal.main_arg0) = m ((c.tc : Thread Cert.QkvStepIdeal.nD Cert.QkvStepIdeal.τ).loc Cert.QkvStepIdeal.main_arg0)
      ∧ r.2.mem ((c.tc : Thread Cert.QkvStepIdeal.nD Cert.QkvStepIdeal.τ).loc Cert.QkvStepIdeal.main_arg1) = m ((c.tc : Thread Cert.QkvStepIdeal.nD Cert.QkvStepIdeal.τ).loc Cert.QkvStepIdeal.main_arg1)
      ∧ r.2.mem ((c.tc : Thread Cert.QkvStepIdeal.nD Cert.QkvStepIdeal.τ).loc Cert.QkvStepIdeal.main_arg2) = m ((c.tc : Thread Cert.QkvStepIdeal.nD Cert.QkvStepIdeal.τ).loc Cert.QkvStepIdeal.main_arg2))
      ∧ r.2.sem = fun _ => 0)

def quiescent_QkvStepRefIdeal [hQkvStepRefIdeal : Cert.QkvStepRefIdeal.Facts] : Prop :=
  ∀ (m : (ℓ : Loc Cert.QkvStepRefIdeal.nD Cert.QkvStepRefIdeal.τ Cert.QkvStepRefIdeal.sig) → Buf (Elt Ideal) ℓ) (g : Dev Cert.QkvStepRefIdeal.nD → PrngReg), Pre_QkvStepRefIdeal m →
    θ_run (Cert.QkvStepRefIdeal.defs (F := Ideal)) (onTc (τ := Cert.QkvStepRefIdeal.τ) (Cert.QkvStepRefIdeal.main (F := Ideal))) ⟨m, fun _ => 0, g⟩ (fun r => (∀ c : Dev Cert.QkvStepRefIdeal.nD,
      r.2.mem ((c.tc : Thread Cert.QkvStepRefIdeal.nD Cert.QkvStepRefIdeal.τ).loc Cert.QkvStepRefIdeal.main_arg0) = m ((c.tc : Thread Cert.QkvStepRefIdeal.nD Cert.QkvStepRefIdeal.τ).loc Cert.QkvStepRefIdeal.main_arg0)
      ∧ r.2.mem ((c.tc : Thread Cert.QkvStepRefIdeal.nD Cert.QkvStepRefIdeal.τ).loc Cert.QkvStepRefIdeal.main_arg1) = m ((c.tc : Thread Cert.QkvStepRefIdeal.nD Cert.QkvStepRefIdeal.τ).loc Cert.QkvStepRefIdeal.main_arg1)
      ∧ r.2.mem ((c.tc : Thread Cert.QkvStepRefIdeal.nD Cert.QkvStepRefIdeal.τ).loc Cert.QkvStepRefIdeal.main_arg2) = m ((c.tc : Thread Cert.QkvStepRefIdeal.nD Cert.QkvStepRefIdeal.τ).loc Cert.QkvStepRefIdeal.main_arg2))
      ∧ r.2.sem = fun _ => 0)

def preserves_Kernel_KernelIdeal : Prop :=
  IdealRules.named_const.Statement Cert.KernelIdeal.κ "mask" .f32 0xF149F2CA#32 ⊥

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v10_0)) (v1 : (c : Dev Cert.PostIdeal.nD) → Buf (Elt Ideal) ((c.tc : Thread Cert.PostIdeal.nD Cert.PostIdeal.τ).loc Cert.PostIdeal.main_v10_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v10_0) = v0 c
          ∧ r.2.mem ((c.tc : Thread Cert.PostIdeal.nD Cert.PostIdeal.τ).loc Cert.PostIdeal.main_v10_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v59) = v0 c
          ∧ r.2.mem ((c.tc : Thread Cert.PostRefIdeal.nD Cert.PostRefIdeal.τ).loc Cert.PostRefIdeal.main_v119) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)) →
    ∃ (v0 : (c : Dev Cert.MixerIdeal.nD) → Buf (Elt Ideal) ((c.tc : Thread Cert.MixerIdeal.nD Cert.MixerIdeal.τ).loc Cert.MixerIdeal.main_v1_0)) (v1 : (c : Dev Cert.MixerIdeal.nD) → Buf (Elt Ideal) ((c.tc : Thread Cert.MixerIdeal.nD Cert.MixerIdeal.τ).loc Cert.MixerIdeal.main_v1_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v1_0) = v0 c
          ∧ r.2.mem ((c.tc : Thread Cert.MixerIdeal.nD Cert.MixerIdeal.τ).loc Cert.MixerIdeal.main_v1_1) = v1 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v30) = v0 c
          ∧ r.2.mem ((c.tc : Thread Cert.MixerRefIdeal.nD Cert.MixerRefIdeal.τ).loc Cert.MixerRefIdeal.main_v31) = v1 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2))

def preserves_MixerStep_MixerStepIdeal : Prop :=
  True

def algebraic_MixerStepIdeal_MixerStepRefIdeal [hMixerStepIdeal : Cert.MixerStepIdeal.Facts] [hMixerStepRefIdeal : Cert.MixerStepRefIdeal.Facts] : Prop :=
  ∀ (m : (ℓ : Loc Cert.MixerStepIdeal.nD Cert.MixerStepIdeal.τ Cert.MixerStepIdeal.sig) → Buf (Elt Ideal) ℓ) (g : Dev Cert.MixerStepIdeal.nD → PrngReg)
    (m' : (ℓ : Loc Cert.MixerStepRefIdeal.nD Cert.MixerStepRefIdeal.τ Cert.MixerStepRefIdeal.sig) → Buf (Elt Ideal) ℓ) (g' : Dev Cert.MixerStepRefIdeal.nD → PrngReg), Pre_MixerStepIdeal m →
    (∀ c : Dev Cert.MixerStepIdeal.nD,
      m' ((c.tc : Thread Cert.MixerStepRefIdeal.nD Cert.MixerStepRefIdeal.τ).loc Cert.MixerStepRefIdeal.main_arg0) = m ((c.tc : Thread Cert.MixerStepIdeal.nD Cert.MixerStepIdeal.τ).loc Cert.MixerStepIdeal.main_arg0)
      ∧ m' ((c.tc : Thread Cert.MixerStepRefIdeal.nD Cert.MixerStepRefIdeal.τ).loc Cert.MixerStepRefIdeal.main_arg1) = m ((c.tc : Thread Cert.MixerStepIdeal.nD Cert.MixerStepIdeal.τ).loc Cert.MixerStepIdeal.main_arg1)
      ∧ m' ((c.tc : Thread Cert.MixerStepRefIdeal.nD Cert.MixerStepRefIdeal.τ).loc Cert.MixerStepRefIdeal.main_arg2) = m ((c.tc : Thread Cert.MixerStepIdeal.nD Cert.MixerStepIdeal.τ).loc Cert.MixerStepIdeal.main_arg2)
      ∧ m' ((c.tc : Thread Cert.MixerStepRefIdeal.nD Cert.MixerStepRefIdeal.τ).loc Cert.MixerStepRefIdeal.main_arg3) = m ((c.tc : Thread Cert.MixerStepIdeal.nD Cert.MixerStepIdeal.τ).loc Cert.MixerStepIdeal.main_arg3)) →
    ∃ (v0 : (c : Dev Cert.MixerStepIdeal.nD) → Buf (Elt Ideal) ((c.tc : Thread Cert.MixerStepIdeal.nD Cert.MixerStepIdeal.τ).loc Cert.MixerStepIdeal.main_v5_0)) (v1 : (c : Dev Cert.MixerStepIdeal.nD) → Buf (Elt Ideal) ((c.tc : Thread Cert.MixerStepIdeal.nD Cert.MixerStepIdeal.τ).loc Cert.MixerStepIdeal.main_v5_1)),
      θ_run (Cert.MixerStepIdeal.defs (F := Ideal)) (onTc (τ := Cert.MixerStepIdeal.τ) (Cert.MixerStepIdeal.main (F := Ideal))) ⟨m, fun _ => 0, g⟩ (fun r => ∀ c : Dev Cert.MixerStepIdeal.nD,
          r.2.mem ((c.tc : Thread Cert.MixerStepIdeal.nD Cert.MixerStepIdeal.τ).loc Cert.MixerStepIdeal.main_v5_0) = v0 c
          ∧ r.2.mem ((c.tc : Thread Cert.MixerStepIdeal.nD Cert.MixerStepIdeal.τ).loc Cert.MixerStepIdeal.main_v5_1) = v1 c
          ∧ r.2.mem ((c.tc : Thread Cert.MixerStepIdeal.nD Cert.MixerStepIdeal.τ).loc Cert.MixerStepIdeal.main_arg0) = m ((c.tc : Thread Cert.MixerStepIdeal.nD Cert.MixerStepIdeal.τ).loc Cert.MixerStepIdeal.main_arg0)
          ∧ r.2.mem ((c.tc : Thread Cert.MixerStepIdeal.nD Cert.MixerStepIdeal.τ).loc Cert.MixerStepIdeal.main_arg1) = m ((c.tc : Thread Cert.MixerStepIdeal.nD Cert.MixerStepIdeal.τ).loc Cert.MixerStepIdeal.main_arg1)
          ∧ r.2.mem ((c.tc : Thread Cert.MixerStepIdeal.nD Cert.MixerStepIdeal.τ).loc Cert.MixerStepIdeal.main_arg2) = m ((c.tc : Thread Cert.MixerStepIdeal.nD Cert.MixerStepIdeal.τ).loc Cert.MixerStepIdeal.main_arg2)
          ∧ r.2.mem ((c.tc : Thread Cert.MixerStepIdeal.nD Cert.MixerStepIdeal.τ).loc Cert.MixerStepIdeal.main_arg3) = m ((c.tc : Thread Cert.MixerStepIdeal.nD Cert.MixerStepIdeal.τ).loc Cert.MixerStepIdeal.main_arg3))
      ∧ θ_run (Cert.MixerStepRefIdeal.defs (F := Ideal)) (onTc (τ := Cert.MixerStepRefIdeal.τ) (Cert.MixerStepRefIdeal.main (F := Ideal))) ⟨m', fun _ => 0, g'⟩ (fun r => ∀ c : Dev Cert.MixerStepRefIdeal.nD,
          r.2.mem ((c.tc : Thread Cert.MixerStepRefIdeal.nD Cert.MixerStepRefIdeal.τ).loc Cert.MixerStepRefIdeal.main_v33) = v0 c
          ∧ r.2.mem ((c.tc : Thread Cert.MixerStepRefIdeal.nD Cert.MixerStepRefIdeal.τ).loc Cert.MixerStepRefIdeal.main_v35) = v1 c
          ∧ r.2.mem ((c.tc : Thread Cert.MixerStepRefIdeal.nD Cert.MixerStepRefIdeal.τ).loc Cert.MixerStepRefIdeal.main_arg0) = m' ((c.tc : Thread Cert.MixerStepRefIdeal.nD Cert.MixerStepRefIdeal.τ).loc Cert.MixerStepRefIdeal.main_arg0)
          ∧ r.2.mem ((c.tc : Thread Cert.MixerStepRefIdeal.nD Cert.MixerStepRefIdeal.τ).loc Cert.MixerStepRefIdeal.main_arg1) = m' ((c.tc : Thread Cert.MixerStepRefIdeal.nD Cert.MixerStepRefIdeal.τ).loc Cert.MixerStepRefIdeal.main_arg1)
          ∧ r.2.mem ((c.tc : Thread Cert.MixerStepRefIdeal.nD Cert.MixerStepRefIdeal.τ).loc Cert.MixerStepRefIdeal.main_arg2) = m' ((c.tc : Thread Cert.MixerStepRefIdeal.nD Cert.MixerStepRefIdeal.τ).loc Cert.MixerStepRefIdeal.main_arg2)
          ∧ r.2.mem ((c.tc : Thread Cert.MixerStepRefIdeal.nD Cert.MixerStepRefIdeal.τ).loc Cert.MixerStepRefIdeal.main_arg3) = m' ((c.tc : Thread Cert.MixerStepRefIdeal.nD Cert.MixerStepRefIdeal.τ).loc Cert.MixerStepRefIdeal.main_arg3))

def preserves_Qkv_QkvIdeal : Prop :=
  IdealRules.named_const.Statement Cert.QkvIdeal.κ "q_scale" .f32 0x3E38AA3B#32 (((1 / 8) * (Real.log 2)⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v46_0)) (v1 : (c : Dev Cert.QkvIdeal.nD) → Buf (Elt Ideal) ((c.tc : Thread Cert.QkvIdeal.nD Cert.QkvIdeal.τ).loc Cert.QkvIdeal.main_v46_1)) (v2 : (c : Dev Cert.QkvIdeal.nD) → Buf (Elt Ideal) ((c.tc : Thread Cert.QkvIdeal.nD Cert.QkvIdeal.τ).loc Cert.QkvIdeal.main_v46_2)) (v3 : (c : Dev Cert.QkvIdeal.nD) → Buf (Elt Ideal) ((c.tc : Thread Cert.QkvIdeal.nD Cert.QkvIdeal.τ).loc Cert.QkvIdeal.main_v46_3)) (v4 : (c : Dev Cert.QkvIdeal.nD) → Buf (Elt Ideal) ((c.tc : Thread Cert.QkvIdeal.nD Cert.QkvIdeal.τ).loc Cert.QkvIdeal.main_v46_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v46_0) = v0 c
          ∧ r.2.mem ((c.tc : Thread Cert.QkvIdeal.nD Cert.QkvIdeal.τ).loc Cert.QkvIdeal.main_v46_1) = v1 c
          ∧ r.2.mem ((c.tc : Thread Cert.QkvIdeal.nD Cert.QkvIdeal.τ).loc Cert.QkvIdeal.main_v46_2) = v2 c
          ∧ r.2.mem ((c.tc : Thread Cert.QkvIdeal.nD Cert.QkvIdeal.τ).loc Cert.QkvIdeal.main_v46_3) = v3 c
          ∧ r.2.mem ((c.tc : Thread Cert.QkvIdeal.nD Cert.QkvIdeal.τ).loc Cert.QkvIdeal.main_v46_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v87) = v0 c
          ∧ r.2.mem ((c.tc : Thread Cert.QkvRefIdeal.nD Cert.QkvRefIdeal.τ).loc Cert.QkvRefIdeal.main_v88) = v1 c
          ∧ r.2.mem ((c.tc : Thread Cert.QkvRefIdeal.nD Cert.QkvRefIdeal.τ).loc Cert.QkvRefIdeal.main_v89) = v2 c
          ∧ r.2.mem ((c.tc : Thread Cert.QkvRefIdeal.nD Cert.QkvRefIdeal.τ).loc Cert.QkvRefIdeal.main_v90) = v3 c
          ∧ r.2.mem ((c.tc : Thread Cert.QkvRefIdeal.nD Cert.QkvRefIdeal.τ).loc Cert.QkvRefIdeal.main_v91) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_QkvStep_QkvStepIdeal : Prop :=
  True

def algebraic_QkvStepIdeal_QkvStepRefIdeal [hQkvStepIdeal : Cert.QkvStepIdeal.Facts] [hQkvStepRefIdeal : Cert.QkvStepRefIdeal.Facts] : Prop :=
  ∀ (m : (ℓ : Loc Cert.QkvStepIdeal.nD Cert.QkvStepIdeal.τ Cert.QkvStepIdeal.sig) → Buf (Elt Ideal) ℓ) (g : Dev Cert.QkvStepIdeal.nD → PrngReg)
    (m' : (ℓ : Loc Cert.QkvStepRefIdeal.nD Cert.QkvStepRefIdeal.τ Cert.QkvStepRefIdeal.sig) → Buf (Elt Ideal) ℓ) (g' : Dev Cert.QkvStepRefIdeal.nD → PrngReg), Pre_QkvStepIdeal m →
    (∀ c : Dev Cert.QkvStepIdeal.nD,
      m' ((c.tc : Thread Cert.QkvStepRefIdeal.nD Cert.QkvStepRefIdeal.τ).loc Cert.QkvStepRefIdeal.main_arg0) = m ((c.tc : Thread Cert.QkvStepIdeal.nD Cert.QkvStepIdeal.τ).loc Cert.QkvStepIdeal.main_arg0)
      ∧ m' ((c.tc : Thread Cert.QkvStepRefIdeal.nD Cert.QkvStepRefIdeal.τ).loc Cert.QkvStepRefIdeal.main_arg1) = m ((c.tc : Thread Cert.QkvStepIdeal.nD Cert.QkvStepIdeal.τ).loc Cert.QkvStepIdeal.main_arg1)
      ∧ m' ((c.tc : Thread Cert.QkvStepRefIdeal.nD Cert.QkvStepRefIdeal.τ).loc Cert.QkvStepRefIdeal.main_arg2) = m ((c.tc : Thread Cert.QkvStepIdeal.nD Cert.QkvStepIdeal.τ).loc Cert.QkvStepIdeal.main_arg2)) →
    ∃ (v0 : (c : Dev Cert.QkvStepIdeal.nD) → Buf (Elt Ideal) ((c.tc : Thread Cert.QkvStepIdeal.nD Cert.QkvStepIdeal.τ).loc Cert.QkvStepIdeal.main_v42_0)) (v1 : (c : Dev Cert.QkvStepIdeal.nD) → Buf (Elt Ideal) ((c.tc : Thread Cert.QkvStepIdeal.nD Cert.QkvStepIdeal.τ).loc Cert.QkvStepIdeal.main_v42_1)) (v2 : (c : Dev Cert.QkvStepIdeal.nD) → Buf (Elt Ideal) ((c.tc : Thread Cert.QkvStepIdeal.nD Cert.QkvStepIdeal.τ).loc Cert.QkvStepIdeal.main_v42_2)),
      θ_run (Cert.QkvStepIdeal.defs (F := Ideal)) (onTc (τ := Cert.QkvStepIdeal.τ) (Cert.QkvStepIdeal.main (F := Ideal))) ⟨m, fun _ => 0, g⟩ (fun r => ∀ c : Dev Cert.QkvStepIdeal.nD,
          r.2.mem ((c.tc : Thread Cert.QkvStepIdeal.nD Cert.QkvStepIdeal.τ).loc Cert.QkvStepIdeal.main_v42_0) = v0 c
          ∧ r.2.mem ((c.tc : Thread Cert.QkvStepIdeal.nD Cert.QkvStepIdeal.τ).loc Cert.QkvStepIdeal.main_v42_1) = v1 c
          ∧ r.2.mem ((c.tc : Thread Cert.QkvStepIdeal.nD Cert.QkvStepIdeal.τ).loc Cert.QkvStepIdeal.main_v42_2) = v2 c
          ∧ r.2.mem ((c.tc : Thread Cert.QkvStepIdeal.nD Cert.QkvStepIdeal.τ).loc Cert.QkvStepIdeal.main_arg0) = m ((c.tc : Thread Cert.QkvStepIdeal.nD Cert.QkvStepIdeal.τ).loc Cert.QkvStepIdeal.main_arg0)
          ∧ r.2.mem ((c.tc : Thread Cert.QkvStepIdeal.nD Cert.QkvStepIdeal.τ).loc Cert.QkvStepIdeal.main_arg1) = m ((c.tc : Thread Cert.QkvStepIdeal.nD Cert.QkvStepIdeal.τ).loc Cert.QkvStepIdeal.main_arg1)
          ∧ r.2.mem ((c.tc : Thread Cert.QkvStepIdeal.nD Cert.QkvStepIdeal.τ).loc Cert.QkvStepIdeal.main_arg2) = m ((c.tc : Thread Cert.QkvStepIdeal.nD Cert.QkvStepIdeal.τ).loc Cert.QkvStepIdeal.main_arg2))
      ∧ θ_run (Cert.QkvStepRefIdeal.defs (F := Ideal)) (onTc (τ := Cert.QkvStepRefIdeal.τ) (Cert.QkvStepRefIdeal.main (F := Ideal))) ⟨m', fun _ => 0, g'⟩ (fun r => ∀ c : Dev Cert.QkvStepRefIdeal.nD,
          r.2.mem ((c.tc : Thread Cert.QkvStepRefIdeal.nD Cert.QkvStepRefIdeal.τ).loc Cert.QkvStepRefIdeal.main_v76) = v0 c
          ∧ r.2.mem ((c.tc : Thread Cert.QkvStepRefIdeal.nD Cert.QkvStepRefIdeal.τ).loc Cert.QkvStepRefIdeal.main_v77) = v1 c
          ∧ r.2.mem ((c.tc : Thread Cert.QkvStepRefIdeal.nD Cert.QkvStepRefIdeal.τ).loc Cert.QkvStepRefIdeal.main_v81) = v2 c
          ∧ r.2.mem ((c.tc : Thread Cert.QkvStepRefIdeal.nD Cert.QkvStepRefIdeal.τ).loc Cert.QkvStepRefIdeal.main_arg0) = m' ((c.tc : Thread Cert.QkvStepRefIdeal.nD Cert.QkvStepRefIdeal.τ).loc Cert.QkvStepRefIdeal.main_arg0)
          ∧ r.2.mem ((c.tc : Thread Cert.QkvStepRefIdeal.nD Cert.QkvStepRefIdeal.τ).loc Cert.QkvStepRefIdeal.main_arg1) = m' ((c.tc : Thread Cert.QkvStepRefIdeal.nD Cert.QkvStepRefIdeal.τ).loc Cert.QkvStepRefIdeal.main_arg1)
          ∧ r.2.mem ((c.tc : Thread Cert.QkvStepRefIdeal.nD Cert.QkvStepRefIdeal.τ).loc Cert.QkvStepRefIdeal.main_arg2) = m' ((c.tc : Thread Cert.QkvStepRefIdeal.nD Cert.QkvStepRefIdeal.τ).loc Cert.QkvStepRefIdeal.main_arg2))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostRefIdeal : Cert.PostRefIdeal.Facts) (hMixer : Cert.Mixer.Facts) (hMixerIdeal : Cert.MixerIdeal.Facts) (hMixerRefIdeal : Cert.MixerRefIdeal.Facts) (hMixerStep : Cert.MixerStep.Facts) (hMixerStepIdeal : Cert.MixerStepIdeal.Facts) (hMixerStepRefIdeal : Cert.MixerStepRefIdeal.Facts) (hQkv : Cert.Qkv.Facts) (hQkvIdeal : Cert.QkvIdeal.Facts) (hQkvRefIdeal : Cert.QkvRefIdeal.Facts) (hQkvStep : Cert.QkvStep.Facts) (hQkvStepIdeal : Cert.QkvStepIdeal.Facts) (hQkvStepRefIdeal : Cert.QkvStepRefIdeal.Facts) (hPre_pages_in_pool : Cert.Pre_pages_in_pool.Facts),
    quiescent_Kernel (hKernel := hKernel) (hPre_pages_in_pool := hPre_pages_in_pool)
    ∧ quiescent_KernelIdeal (hKernelIdeal := hKernelIdeal) (hPre_pages_in_pool := hPre_pages_in_pool)
    ∧ quiescent_ReferenceIdeal (hReferenceIdeal := hReferenceIdeal) (hPre_pages_in_pool := hPre_pages_in_pool)
    ∧ quiescent_Post (hPost := hPost)
    ∧ quiescent_PostIdeal (hPostIdeal := hPostIdeal)
    ∧ quiescent_PostRefIdeal (hPostRefIdeal := hPostRefIdeal)
    ∧ quiescent_Mixer (hMixer := hMixer)
    ∧ quiescent_MixerIdeal (hMixerIdeal := hMixerIdeal)
    ∧ quiescent_MixerRefIdeal (hMixerRefIdeal := hMixerRefIdeal)
    ∧ quiescent_MixerStep (hMixerStep := hMixerStep)
    ∧ quiescent_MixerStepIdeal (hMixerStepIdeal := hMixerStepIdeal)
    ∧ quiescent_MixerStepRefIdeal (hMixerStepRefIdeal := hMixerStepRefIdeal)
    ∧ quiescent_Qkv (hQkv := hQkv)
    ∧ quiescent_QkvIdeal (hQkvIdeal := hQkvIdeal)
    ∧ quiescent_QkvRefIdeal (hQkvRefIdeal := hQkvRefIdeal)
    ∧ quiescent_QkvStep (hQkvStep := hQkvStep)
    ∧ quiescent_QkvStepIdeal (hQkvStepIdeal := hQkvStepIdeal)
    ∧ quiescent_QkvStepRefIdeal (hQkvStepRefIdeal := hQkvStepRefIdeal)
    ∧ preserves_Kernel_KernelIdeal
    ∧ preserves_Post_PostIdeal
    ∧ algebraic_PostIdeal_PostRefIdeal (hPostIdeal := hPostIdeal) (hPostRefIdeal := hPostRefIdeal)
    ∧ preserves_Mixer_MixerIdeal
    ∧ algebraic_MixerIdeal_MixerRefIdeal (hMixerIdeal := hMixerIdeal) (hMixerRefIdeal := hMixerRefIdeal)
    ∧ preserves_MixerStep_MixerStepIdeal
    ∧ algebraic_MixerStepIdeal_MixerStepRefIdeal (hMixerStepIdeal := hMixerStepIdeal) (hMixerStepRefIdeal := hMixerStepRefIdeal)
    ∧ preserves_Qkv_QkvIdeal
    ∧ algebraic_QkvIdeal_QkvRefIdeal (hQkvIdeal := hQkvIdeal) (hQkvRefIdeal := hQkvRefIdeal)
    ∧ preserves_QkvStep_QkvStepIdeal
    ∧ algebraic_QkvStepIdeal_QkvStepRefIdeal (hQkvStepIdeal := hQkvStepIdeal) (hQkvStepRefIdeal := hQkvStepRefIdeal)
-- ==== Pre_pages_in_pool.lean ====
abbrev S2x8192x8x2x64 : Shape := ⟨5, ![2, 8192, 8, 2, 64]⟩
abbrev S2x8192x8x128 : Shape := ⟨4, ![2, 8192, 8, 128]⟩
abbrev S128x16 : Shape := ⟨2, ![128, 16]⟩
abbrev S2560x128x8x2x64 : Shape := ⟨5, ![2560, 128, 8, 2, 64]⟩
abbrev S2560x128x8x128 : Shape := ⟨4, ![2560, 128, 8, 128]⟩
abbrev S128x1x8x2x64 : Shape := ⟨5, ![128, 1, 8, 2, 64]⟩
abbrev S128x1x8x128 : Shape := ⟨4, ![128, 1, 8, 128]⟩
abbrev S2x64 : Shape := ⟨2, ![2, 64]⟩
abbrev S2x128 : Shape := ⟨2, ![2, 128]⟩
abbrev S_ : Shape := ⟨0, ![]⟩

class Facts : Prop where
  bcast_S_S128x16 : S_.BroadcastsInDim S128x16 (![] : Fin 0 → Fin S128x16.rank)
  reducesTo_S128x16_S_d0_1 : S128x16.ReducesTo [0, 1] S_
  h_S_ : 0 < S_.numel

variable [Facts]

def fn {F : FTy → Type} [FloatOps F] (main_arg0 : FVec F S2x8192x8x2x64 .f32) (main_arg1 : FVec F S2x8192x8x2x64 .f32) (main_arg2 : FVec F S2x8192x8x128 .f32) (main_arg3 : IVec S128x16 32) (main_arg4 : FVec F S2560x128x8x2x64 .f32) (main_arg5 : FVec F S2560x128x8x128 .f32) (main_arg6 : FVec F S128x1x8x2x64 .f32) (main_arg7 : FVec F S128x1x8x2x64 .f32) (main_arg8 : FVec F S128x1x8x128 .f32) (main_arg9 : FVec F S2x64 .f32) (main_arg10 : FVec F S2x64 .f32) (main_arg11 : FVec F S2x64 .f32) (main_arg12 : FVec F S2x64 .f32) (main_arg13 : FVec F S2x128 .f32) : IVec S_ 1 :=
  let main_c : IVec S_ 32 := constantI S_ 32 0#32
  let main_v0 : IVec S128x16 32 := broadcastInDim S128x16 ![] bcast_S_S128x16 main_c
  let main_v1 : IVec S128x16 1 := cmpi .sge main_arg3 main_v0
  let main_c_0 : IVec S_ 32 := constantI S_ 32 2560#32
  let main_v2 : IVec S128x16 32 := broadcastInDim S128x16 ![] bcast_S_S128x16 main_c_0
  let main_v3 : IVec S128x16 1 := cmpi .slt main_arg3 main_v2
  let main_v4 : IVec S128x16 1 := andi main_v1 main_v3
  let main_c_1 : IVec S_ 1 := constantI S_ 1 1#1
  let main_v5 : IVec S_ 1 := (fun x v => Host.reduce IntOp.andi x v reducesTo_S128x16_S_d0_1 h_S_) main_v4 main_c_1
  main_v5
-- ==== Kernel.lean ====
abbrev S2x8192x8x2x64 : Shape := ⟨5, ![2, 8192, 8, 2, 64]⟩
abbrev S2x8192x8x128 : Shape := ⟨4, ![2, 8192, 8, 128]⟩
abbrev S128x16 : Shape := ⟨2, ![128, 16]⟩
abbrev S2560x128x8x2x64 : Shape := ⟨5, ![2560, 128, 8, 2, 64]⟩
abbrev S2560x128x8x128 : Shape := ⟨4, ![2560, 128, 8, 128]⟩
abbrev S128x1x8x2x64 : Shape := ⟨5, ![128, 1, 8, 2, 64]⟩
abbrev S128x1x8x128 : Shape := ⟨4, ![128, 1, 8, 128]⟩
abbrev S2x64 : Shape := ⟨2, ![2, 64]⟩
abbrev S2x128 : Shape := ⟨2, ![2, 128]⟩
abbrev S136 : Shape := ⟨1, ![136]⟩
abbrev S_ : Shape := ⟨0, ![]⟩
abbrev S2x8x128x8192 : Shape := ⟨4, ![2, 8, 128, 8192]⟩
abbrev S2x8x8192x128 : Shape := ⟨4, ![2, 8, 8192, 128]⟩
abbrev S2560x8x2x64x128 : Shape := ⟨5, ![2560, 8, 2, 64, 128]⟩
abbrev S2560x1024x128 : Shape := ⟨3, ![2560, 1024, 128]⟩
abbrev S128x1x1024 : Shape := ⟨3, ![128, 1, 1024]⟩
abbrev S128x8x128 : Shape := ⟨3, ![128, 8, 128]⟩
abbrev S2048 : Shape := ⟨1, ![2048]⟩
abbrev S2x8192x1024 : Shape := ⟨3, ![2, 8192, 1024]⟩
abbrev S1x8x128x512 : Shape := ⟨4, ![1, 8, 128, 512]⟩
abbrev S1 : Shape := ⟨1, ![1]⟩
abbrev S1x8x512x128 : Shape := ⟨4, ![1, 8, 512, 128]⟩
abbrev S1x1x1024 : Shape := ⟨3, ![1, 1, 1024]⟩
abbrev S1x8x128 : Shape := ⟨3, ![1, 8, 128]⟩
abbrev S1x1024x128 : Shape := ⟨3, ![1, 1024, 128]⟩
abbrev S1x512x1024 : Shape := ⟨3, ![1, 512, 1024]⟩
abbrev S8x128x1024 : Shape := ⟨3, ![8, 128, 1024]⟩
abbrev S8x1x1024 : Shape := ⟨3, ![8, 1, 1024]⟩
abbrev S8x144x1024 : Shape := ⟨3, ![8, 144, 1024]⟩
abbrev S512x1024 : Shape := ⟨2, ![512, 1024]⟩
abbrev S16x128 : Shape := ⟨2, ![16, 128]⟩
abbrev S128x1024 : Shape := ⟨2, ![128, 1024]⟩
abbrev S1x64 : Shape := ⟨2, ![1, 64]⟩
abbrev S1x1 : Shape := ⟨2, ![1, 1]⟩
abbrev S1x128 : Shape := ⟨2, ![1, 128]⟩
abbrev S16x1024 : Shape := ⟨2, ![16, 1024]⟩
abbrev S1x1024 : Shape := ⟨2, ![1, 1024]⟩
abbrev S1024x128 : Shape := ⟨2, ![1024, 128]⟩
abbrev S1024x256 : Shape := ⟨2, ![1024, 256]⟩
abbrev S16x256 : Shape := ⟨2, ![16, 256]⟩
abbrev S16x1 : Shape := ⟨2, ![16, 1]⟩
abbrev S16 : Shape := ⟨1, ![16]⟩
abbrev S128x128 : Shape := ⟨2, ![128, 128]⟩
abbrev S32x1024 : Shape := ⟨2, ![32, 1024]⟩
abbrev S32x256 : Shape := ⟨2, ![32, 256]⟩
abbrev S8x128 : Shape := ⟨2, ![8, 128]⟩
abbrev S8 : Shape := ⟨1, ![8]⟩
abbrev S8x1 : Shape := ⟨2, ![8, 1]⟩
abbrev S64x512 : Shape := ⟨2, ![64, 512]⟩
abbrev S1x1x64x512 : Shape := ⟨4, ![1, 1, 64, 512]⟩
abbrev S1x64x512 : Shape := ⟨3, ![1, 64, 512]⟩
abbrev S16x512 : Shape := ⟨2, ![16, 512]⟩
abbrev S1x1x512x128 : Shape := ⟨4, ![1, 1, 512, 128]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S1x1x128x512 : Shape := ⟨4, ![1, 1, 128, 512]⟩
abbrev S128x512 : Shape := ⟨2, ![128, 512]⟩
abbrev S144x512 : Shape := ⟨2, ![144, 512]⟩
abbrev S1x1x256 : Shape := ⟨3, ![1, 1, 256]⟩
abbrev S1x256 : Shape := ⟨2, ![1, 256]⟩
abbrev S256 : Shape := ⟨1, ![256]⟩
abbrev S1x144x256 : Shape := ⟨3, ![1, 144, 256]⟩
abbrev S144x256 : Shape := ⟨2, ![144, 256]⟩
abbrev S1x128x1024 : Shape := ⟨3, ![1, 128, 1024]⟩
abbrev S1x512 : Shape := ⟨2, ![1, 512]⟩
abbrev S512 : Shape := ⟨1, ![512]⟩
abbrev S1x512x128 : Shape := ⟨3, ![1, 512, 128]⟩

abbrev nBuf : Space → Nat
  | .hbm => 44
  | .vmem => 61
  | .smem => 3
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S128x16, .i32⟩
  | .hbm, ⟨4, _⟩ => ⟨S2560x128x8x2x64, .f32⟩
  | .hbm, ⟨5, _⟩ => ⟨S2560x128x8x128, .f32⟩
  | .hbm, ⟨6, _⟩ => ⟨S128x1x8x2x64, .f32⟩
  | .hbm, ⟨7, _⟩ => ⟨S128x1x8x2x64, .f32⟩
  | .hbm, ⟨8, _⟩ => ⟨S128x1x8x128, .f32⟩
  | .hbm, ⟨9, _⟩ => ⟨S2x64, .f32⟩
  | .hbm, ⟨10, _⟩ => ⟨S2x64, .f32⟩
  | .hbm, ⟨11, _⟩ => ⟨S2x64, .f32⟩
  | .hbm, ⟨12, _⟩ => ⟨S2x64, .f32⟩
  | .hbm, ⟨13, _⟩ => ⟨S2x128, .f32⟩
  | .hbm, ⟨14, _⟩ => ⟨S_, .f32⟩
  | .hbm, ⟨15, _⟩ => ⟨S2x8192x8x2x64, .f32⟩
  | .hbm, ⟨16, _⟩ => ⟨S2x8192x8x2x64, .f32⟩
  | .hbm, ⟨17, _⟩ => ⟨S_, .f32⟩
  | .hbm, ⟨18, _⟩ => ⟨S_, .f32⟩
  | .hbm, ⟨19, _⟩ => ⟨S2x8192x8x2x64, .f32⟩
  | .hbm, ⟨20, _⟩ => ⟨S2x8192x8x2x64, .f32⟩
  | .hbm, ⟨21, _⟩ => ⟨S2x8192x8x2x64, .bf16⟩
  | .hbm, ⟨22, _⟩ => ⟨S2x8192x8x128, .bf16⟩
  | .hbm, ⟨23, _⟩ => ⟨S2x8x128x8192, .bf16⟩
  | .hbm, ⟨24, _⟩ => ⟨S2x8192x8x2x64, .bf16⟩
  | .hbm, ⟨25, _⟩ => ⟨S2x8192x8x128, .bf16⟩
  | .hbm, ⟨26, _⟩ => ⟨S2x8x8192x128, .bf16⟩
  | .hbm, ⟨27, _⟩ => ⟨S2x8192x8x128, .bf16⟩
  | .hbm, ⟨28, _⟩ => ⟨S2x8x128x8192, .bf16⟩
  | .hbm, ⟨29, _⟩ => ⟨S2560x8x2x64x128, .f32⟩
  | .hbm, ⟨30, _⟩ => ⟨S2560x1024x128, .f32⟩
  | .hbm, ⟨31, _⟩ => ⟨S2560x1024x128, .f32⟩
  | .hbm, ⟨32, _⟩ => ⟨S_, .f32⟩
  | .hbm, ⟨33, _⟩ => ⟨S128x1x8x2x64, .f32⟩
  | .hbm, ⟨34, _⟩ => ⟨S128x1x8x2x64, .f32⟩
  | .hbm, ⟨35, _⟩ => ⟨S128x1x8x2x64, .bf16⟩
  | .hbm, ⟨36, _⟩ => ⟨S128x1x1024, .bf16⟩
  | .hbm, ⟨37, _⟩ => ⟨S128x1x8x2x64, .bf16⟩
  | .hbm, ⟨38, _⟩ => ⟨S128x1x1024, .bf16⟩
  | .hbm, ⟨39, _⟩ => ⟨S128x1x8x128, .bf16⟩
  | .hbm, ⟨40, _⟩ => ⟨S128x1x8x128, .f32⟩
  | .hbm, ⟨41, _⟩ => ⟨S128x8x128, .f32⟩
  | .hbm, ⟨42, _⟩ => ⟨S2x8192x1024, .bf16⟩
  | .hbm, ⟨43, _⟩ => ⟨S128x8x128, .f32⟩
  | .local _ .vmem, ⟨0, _⟩ => ⟨S1x8x128x512, .bf16⟩
  | .local _ .vmem, ⟨1, _⟩ => ⟨S1x8x128x512, .bf16⟩
  | .local _ .vmem, ⟨2, _⟩ => ⟨S1x8x512x128, .bf16⟩
  | .local _ .vmem, ⟨3, _⟩ => ⟨S1x8x512x128, .bf16⟩
  | .local _ .vmem, ⟨4, _⟩ => ⟨S1x8x128x512, .bf16⟩
  | .local _ .vmem, ⟨5, _⟩ => ⟨S1x8x128x512, .bf16⟩
  | .local _ .vmem, ⟨6, _⟩ => ⟨S2x64, .f32⟩
  | .local _ .vmem, ⟨7, _⟩ => ⟨S2x64, .f32⟩
  | .local _ .vmem, ⟨8, _⟩ => ⟨S2x64, .f32⟩
  | .local _ .vmem, ⟨9, _⟩ => ⟨S2x64, .f32⟩
  | .local _ .vmem, ⟨10, _⟩ => ⟨S2x128, .f32⟩
  | .local _ .vmem, ⟨11, _⟩ => ⟨S1x1x1024, .bf16⟩
  | .local _ .vmem, ⟨12, _⟩ => ⟨S1x1x1024, .bf16⟩
  | .local _ .vmem, ⟨13, _⟩ => ⟨S1x1x1024, .bf16⟩
  | .local _ .vmem, ⟨14, _⟩ => ⟨S1x1x1024, .bf16⟩
  | .local _ .vmem, ⟨15, _⟩ => ⟨S1x8x128, .f32⟩
  | .local _ .vmem, ⟨16, _⟩ => ⟨S1x8x128, .f32⟩
  | .local _ .vmem, ⟨17, _⟩ => ⟨S1x1024x128, .f32⟩
  | .local _ .vmem, ⟨18, _⟩ => ⟨S1x1024x128, .f32⟩
  | .local _ .vmem, ⟨19, _⟩ => ⟨S1x1024x128, .f32⟩
  | .local _ .vmem, ⟨20, _⟩ => ⟨S1x1024x128, .f32⟩
  | .local _ .vmem, ⟨21, _⟩ => ⟨S1x1024x128, .f32⟩
  | .local _ .vmem, ⟨22, _⟩ => ⟨S1x1024x128, .f32⟩
  | .local _ .vmem, ⟨23, _⟩ => ⟨S1x1024x128, .f32⟩
  | .local _ .vmem, ⟨24, _⟩ => ⟨S1x1024x128, .f32⟩
  | .local _ .vmem, ⟨25, _⟩ => ⟨S1x1024x128, .f32⟩
  | .local _ .vmem, ⟨26, _⟩ => ⟨S1x1024x128, .f32⟩
  | .local _ .vmem, ⟨27, _⟩ => ⟨S1x1024x128, .f32⟩
  | .local _ .vmem, ⟨28, _⟩ => ⟨S1x1024x128, .f32⟩
  | .local _ .vmem, ⟨29, _⟩ => ⟨S1x1024x128, .f32⟩
  | .local _ .vmem, ⟨30, _⟩ => ⟨S1x1024x128, .f32⟩
  | .local _ .vmem, ⟨31, _⟩ => ⟨S1x1024x128, .f32⟩
  | .local _ .vmem, ⟨32, _⟩ => ⟨S1x1024x128, .f32⟩
  | .local _ .vmem, ⟨33, _⟩ => ⟨S1x1024x128, .f32⟩
  | .local _ .vmem, ⟨34, _⟩ => ⟨S1x1024x128, .f32⟩
  | .local _ .vmem, ⟨35, _⟩ => ⟨S1x1024x128, .f32⟩
  | .local _ .vmem, ⟨36, _⟩ => ⟨S1x1024x128, .f32⟩
  | .local _ .vmem, ⟨37, _⟩ => ⟨S1x1024x128, .f32⟩
  | .local _ .vmem, ⟨38, _⟩ => ⟨S1x1024x128, .f32⟩
  | .local _ .vmem, ⟨39, _⟩ => ⟨S1x1024x128, .f32⟩
  | .local _ .vmem, ⟨40, _⟩ => ⟨S1x1024x128, .f32⟩
  | .local _ .vmem, ⟨41, _⟩ => ⟨S1x1024x128, .f32⟩
  | .local _ .vmem, ⟨42, _⟩ => ⟨S1x1024x128, .f32⟩
  | .local _ .vmem, ⟨43, _⟩ => ⟨S1x1024x128, .f32⟩
  | .local _ .vmem, ⟨44, _⟩ => ⟨S1x1024x128, .f32⟩
  | .local _ .vmem, ⟨45, _⟩ => ⟨S1x1024x128, .f32⟩
  | .local _ .vmem, ⟨46, _⟩ => ⟨S1x1024x128, .f32⟩
  | .local _ .vmem, ⟨47, _⟩ => ⟨S1x1024x128, .f32⟩
  | .local _ .vmem, ⟨48, _⟩ => ⟨S1x1024x128, .f32⟩
  | .local _ .vmem, ⟨49, _⟩ => ⟨S1x512x1024, .bf16⟩
  | .local _ .vmem, ⟨50, _⟩ => ⟨S1x512x1024, .bf16⟩
  | .local _ .vmem, ⟨51, _⟩ => ⟨S1x8x128, .f32⟩
  | .local _ .vmem, ⟨52, _⟩ => ⟨S1x8x128, .f32⟩
  | .local _ .vmem, ⟨53, _⟩ => ⟨S8x128x1024, .bf16⟩
  | .local _ .vmem, ⟨54, _⟩ => ⟨S8x1x1024, .f32⟩
  | .local _ .vmem, ⟨55, _⟩ => ⟨S8x144x1024, .f32⟩
  | .local _ .vmem, ⟨56, _⟩ => ⟨S512x1024, .f32⟩
  | .local _ .vmem, ⟨57, _⟩ => ⟨S16x128, .f32⟩
  | .local _ .vmem, ⟨58, _⟩ => ⟨S16x128, .f32⟩
  | .local _ .vmem, ⟨59, _⟩ => ⟨S16x128, .f32⟩
  | .local _ .vmem, ⟨60, _⟩ => ⟨S128x1024, .bf16⟩
  | .local _ .smem, ⟨0, _⟩ => ⟨S136, .i32⟩
  | .local _ .smem, ⟨1, _⟩ => ⟨S136, .i32⟩
  | .local _ .smem, ⟨2, _⟩ => ⟨S2048, .i32⟩
  | _, _ => ⟨S2x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v26_0 : Ref sig .tc := ⟨.hbm, 42, rfl⟩
abbrev main_v26_1 : Ref sig .tc := ⟨.hbm, 43, rfl⟩
abbrev main_c : Ref sig .tc := ⟨.smem, 0, rfl⟩
abbrev main_c_0 : Ref sig .tc := ⟨.smem, 1, rfl⟩
abbrev main_v25 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg25_1 : Ref sig .tc := ⟨.vmem, 46, rfl⟩
abbrev cc0_stg26_0 : Ref sig .tc := ⟨.vmem, 47, rfl⟩
abbrev cc0_stg26_1 : Ref sig .tc := ⟨.vmem, 48, rfl⟩
abbrev cc0_stg27_0 : Ref sig .tc := ⟨.vmem, 49, rfl⟩
abbrev cc0_stg27_1 : Ref sig .tc := ⟨.vmem, 50, rfl⟩
abbrev cc0_stg28_0 : Ref sig .tc := ⟨.vmem, 51, rfl⟩
abbrev cc0_stg28_1 : Ref sig .tc := ⟨.vmem, 52, rfl⟩
abbrev cc0_scratch0 : Ref sig .tc := ⟨.vmem, 53, rfl⟩
abbrev cc0_scratch1 : Ref sig .tc := ⟨.vmem, 54, rfl⟩
abbrev cc0_scratch2 : Ref sig .tc := ⟨.vmem, 55, rfl⟩
abbrev cc0_scratch3 : Ref sig .tc := ⟨.vmem, 56, rfl⟩
abbrev cc0_scratch4 : Ref sig .tc := ⟨.vmem, 57, rfl⟩
abbrev cc0_scratch5 : Ref sig .tc := ⟨.vmem, 58, rfl⟩
abbrev cc0_scratch6 : Ref sig .tc := ⟨.vmem, 59, rfl⟩
abbrev cc0_scratch7 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44
abbrev cc0_sem25_0 : DmaSem sig := 45
abbrev cc0_sem25_1 : DmaSem sig := 46
abbrev cc0_sem26_0 : DmaSem sig := 47
abbrev cc0_sem26_1 : DmaSem sig := 48
abbrev cc0_sem27_0 : DmaSem sig := 49
abbrev cc0_sem27_1 : DmaSem sig := 50
abbrev cc0_sem28_0 : DmaSem sig := 51
abbrev cc0_sem28_1 : DmaSem sig := 52

abbrev nD : Nat := 1
abbrev τ : Topo := Topo.v7x

variable {F : FTy → Type} [FloatOps F]

abbrev grid0 : Pipeline.Grid := ⟨2, ![2, 136], ![false, false]⟩

abbrev pre0 : Pipeline.Prefetch sig := ⟨3, ![main_c.idx, main_c_0.idx, main_v25.idx], fun | 0 => main_c.names | 1 => main_c_0.names | 2 => main_v25.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (c0_i32_11 : BitVec 32) : Fin 1 → Nat :=
  let arg0 : BitVec 32 := BitVec.ofNat 32 (i 0).val
  let c136_i32 : BitVec 32 := 136#32
  let v0 : BitVec 32 := Scalar.muli arg0 c136_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let c0_i32_8 : BitVec 32 := 0#32
  let v26 : BitVec 1 := Scalar.cmpi .ne v25 c0_i32_8
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let v35 : BitVec 32 := Scalar.addi v34 c0_i32_11
  let v36 : Index := Scalar.indexCast v35
  ![v36.toNat]
def k0_cond7 (v1 : BitVec 32) (v3 : BitVec 32) : BitVec 1 :=
  let v38 : BitVec 1 := Scalar.cmpi .eq v3 v1
  let v39 : BitVec 32 := Scalar.extui v38
  let c0_i32_18 : BitVec 32 := 0#32
  let v40 : BitVec 1 := Scalar.cmpi .ne v39 c0_i32_18
  v40

def k0_cond2 (i : grid0.Coords) : BitVec 1 :=
  let arg0 : BitVec 32 := BitVec.ofNat 32 (i 0).val
  let c136_i32 : BitVec 32 := 136#32
  let v27 : BitVec 32 := Scalar.muli arg0 c136_i32
  let arg1 : BitVec 32 := BitVec.ofNat 32 (i 1).val
  let v28 : BitVec 32 := Scalar.addi v27 arg1
  let c256_i32 : BitVec 32 := 256#32
  let v29 : BitVec 1 := Scalar.cmpi .slt v28 c256_i32
  let v30 : BitVec 32 := Scalar.extui v29
  let c0_i32_14 : BitVec 32 := 0#32
  let v31 : BitVec 1 := Scalar.cmpi .ne v30 c0_i32_14
  v31

def k0_cond4 (i : grid0.Coords) : BitVec 1 :=
  let arg0 : BitVec 32 := BitVec.ofNat 32 (i 0).val
  let c136_i32 : BitVec 32 := 136#32
  let v27 : BitVec 32 := Scalar.muli arg0 c136_i32
  let arg1 : BitVec 32 := BitVec.ofNat 32 (i 1).val
  let v28 : BitVec 32 := Scalar.addi v27 arg1
  let c1_i32 : BitVec 32 := 1#32
  let v41 : BitVec 32 := Scalar.andi v28 c1_i32
  let c1_i32_106 : BitVec 32 := 1#32
  let v213 : BitVec 1 := Scalar.cmpi .eq v41 c1_i32_106
  let v214 : BitVec 32 := Scalar.extui v213
  let c0_i32_107 : BitVec 32 := 0#32
  let v215 : BitVec 1 := Scalar.cmpi .ne v214 c0_i32_107
  v215

def cc0_transform_0 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![arg0.toNat, c0_i32.toNat, c0_i32_0.toNat, v1.toNat]

def cc0_transform_1 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  ![arg0.toNat, c0_i32.toNat, c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c0_i32_4 : BitVec 32 := 0#32
  let c0_i32_5 : BitVec 32 := 0#32
  let c0_i32_6 : BitVec 32 := 0#32
  ![v19.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c0_i32_4 : BitVec 32 := 0#32
  let c0_i32_5 : BitVec 32 := 0#32
  let c0_i32_6 : BitVec 32 := 0#32
  ![v19.toNat, c0_i32_4.toNat, c0_i32_5.toNat]

def cc0_transform_10 (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c0_i32_4 : BitVec 32 := 0#32
  let c0_i32_5 : BitVec 32 := 0#32
  let c0_i32_6 : BitVec 32 := 0#32
  ![v19.toNat, c0_i32_4.toNat, c0_i32_5.toNat]

def cc0_transform_11 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c0_i32_11 : BitVec 32 := 0#32
  let v35 : BitVec 32 := Scalar.addi v34 c0_i32_11
  let v36 : Index := Scalar.indexCast v35
  let v37 : BitVec 32 := pf.at 2 (Rect.unit (s := S2048) ![v36.toNat] S1.size (k0_off2_inb i 0)) numel1_S1
  let c0_i32_12 : BitVec 32 := 0#32
  let c0_i32_13 : BitVec 32 := 0#32
  let c0_i32_14 : BitVec 32 := 0#32
  ![v37.toNat, c0_i32_12.toNat, c0_i32_13.toNat]

def cc0_transform_12 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c1_i32_11 : BitVec 32 := 1#32
  let v35 : BitVec 32 := Scalar.addi v34 c1_i32_11
  let v36 : Index := Scalar.indexCast v35
  let v37 : BitVec 32 := pf.at 2 (Rect.unit (s := S2048) ![v36.toNat] S1.size (k0_off2_inb i 1)) numel1_S1
  let c0_i32_12 : BitVec 32 := 0#32
  let c0_i32_13 : BitVec 32 := 0#32
  let c0_i32_14 : BitVec 32 := 0#32
  ![v37.toNat, c0_i32_12.toNat, c0_i32_13.toNat]

def cc0_transform_13 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c2_i32_11 : BitVec 32 := 2#32
  let v35 : BitVec 32 := Scalar.addi v34 c2_i32_11
  let v36 : Index := Scalar.indexCast v35
  let v37 : BitVec 32 := pf.at 2 (Rect.unit (s := S2048) ![v36.toNat] S1.size (k0_off2_inb i 2)) numel1_S1
  let c0_i32_12 : BitVec 32 := 0#32
  let c0_i32_13 : BitVec 32 := 0#32
  let c0_i32_14 : BitVec 32 := 0#32
  ![v37.toNat, c0_i32_12.toNat, c0_i32_13.toNat]

def cc0_transform_14 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c3_i32 : BitVec 32 := 3#32
  let v35 : BitVec 32 := Scalar.addi v34 c3_i32
  let v36 : Index := Scalar.indexCast v35
  let v37 : BitVec 32 := pf.at 2 (Rect.unit (s := S2048) ![v36.toNat] S1.size (k0_off2_inb i 3)) numel1_S1
  let c0_i32_11 : BitVec 32 := 0#32
  let c0_i32_12 : BitVec 32 := 0#32
  let c0_i32_13 : BitVec 32 := 0#32
  ![v37.toNat, c0_i32_11.toNat, c0_i32_12.toNat]

def cc0_transform_15 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c4_i32 : BitVec 32 := 4#32
  let v35 : BitVec 32 := Scalar.addi v34 c4_i32
  let v36 : Index := Scalar.indexCast v35
  let v37 : BitVec 32 := pf.at 2 (Rect.unit (s := S2048) ![v36.toNat] S1.size (k0_off2_inb i 4)) numel1_S1
  let c0_i32_11 : BitVec 32 := 0#32
  let c0_i32_12 : BitVec 32 := 0#32
  let c0_i32_13 : BitVec 32 := 0#32
  ![v37.toNat, c0_i32_11.toNat, c0_i32_12.toNat]

def cc0_transform_16 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c5_i32 : BitVec 32 := 5#32
  let v35 : BitVec 32 := Scalar.addi v34 c5_i32
  let v36 : Index := Scalar.indexCast v35
  let v37 : BitVec 32 := pf.at 2 (Rect.unit (s := S2048) ![v36.toNat] S1.size (k0_off2_inb i 5)) numel1_S1
  let c0_i32_11 : BitVec 32 := 0#32
  let c0_i32_12 : BitVec 32 := 0#32
  let c0_i32_13 : BitVec 32 := 0#32
  ![v37.toNat, c0_i32_11.toNat, c0_i32_12.toNat]

def cc0_transform_17 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c6_i32 : BitVec 32 := 6#32
  let v35 : BitVec 32 := Scalar.addi v34 c6_i32
  let v36 : Index := Scalar.indexCast v35
  let v37 : BitVec 32 := pf.at 2 (Rect.unit (s := S2048) ![v36.toNat] S1.size (k0_off2_inb i 6)) numel1_S1
  let c0_i32_11 : BitVec 32 := 0#32
  let c0_i32_12 : BitVec 32 := 0#32
  let c0_i32_13 : BitVec 32 := 0#32
  ![v37.toNat, c0_i32_11.toNat, c0_i32_12.toNat]

def cc0_transform_18 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c7_i32 : BitVec 32 := 7#32
  let v35 : BitVec 32 := Scalar.addi v34 c7_i32
  let v36 : Index := Scalar.indexCast v35
  let v37 : BitVec 32 := pf.at 2 (Rect.unit (s := S2048) ![v36.toNat] S1.size (k0_off2_inb i 7)) numel1_S1
  let c0_i32_11 : BitVec 32 := 0#32
  let c0_i32_12 : BitVec 32 := 0#32
  let c0_i32_13 : BitVec 32 := 0#32
  ![v37.toNat, c0_i32_11.toNat, c0_i32_12.toNat]

def cc0_transform_19 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c0_i32_11 : BitVec 32 := 0#32
  let v35 : BitVec 32 := Scalar.addi v34 c0_i32_11
  let v36 : Index := Scalar.indexCast v35
  let v37 : BitVec 32 := pf.at 2 (Rect.unit (s := S2048) ![v36.toNat] S1.size (k0_off2_inb i 0)) numel1_S1
  let c0_i32_12 : BitVec 32 := 0#32
  let c0_i32_13 : BitVec 32 := 0#32
  let c0_i32_14 : BitVec 32 := 0#32
  ![v37.toNat, c0_i32_12.toNat, c0_i32_13.toNat]

def cc0_transform_20 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c1_i32_11 : BitVec 32 := 1#32
  let v35 : BitVec 32 := Scalar.addi v34 c1_i32_11
  let v36 : Index := Scalar.indexCast v35
  let v37 : BitVec 32 := pf.at 2 (Rect.unit (s := S2048) ![v36.toNat] S1.size (k0_off2_inb i 1)) numel1_S1
  let c0_i32_12 : BitVec 32 := 0#32
  let c0_i32_13 : BitVec 32 := 0#32
  let c0_i32_14 : BitVec 32 := 0#32
  ![v37.toNat, c0_i32_12.toNat, c0_i32_13.toNat]

def cc0_transform_21 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c2_i32_11 : BitVec 32 := 2#32
  let v35 : BitVec 32 := Scalar.addi v34 c2_i32_11
  let v36 : Index := Scalar.indexCast v35
  let v37 : BitVec 32 := pf.at 2 (Rect.unit (s := S2048) ![v36.toNat] S1.size (k0_off2_inb i 2)) numel1_S1
  let c0_i32_12 : BitVec 32 := 0#32
  let c0_i32_13 : BitVec 32 := 0#32
  let c0_i32_14 : BitVec 32 := 0#32
  ![v37.toNat, c0_i32_12.toNat, c0_i32_13.toNat]

def cc0_transform_22 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c3_i32 : BitVec 32 := 3#32
  let v35 : BitVec 32 := Scalar.addi v34 c3_i32
  let v36 : Index := Scalar.indexCast v35
  let v37 : BitVec 32 := pf.at 2 (Rect.unit (s := S2048) ![v36.toNat] S1.size (k0_off2_inb i 3)) numel1_S1
  let c0_i32_11 : BitVec 32 := 0#32
  let c0_i32_12 : BitVec 32 := 0#32
  let c0_i32_13 : BitVec 32 := 0#32
  ![v37.toNat, c0_i32_11.toNat, c0_i32_12.toNat]

def cc0_transform_23 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c4_i32 : BitVec 32 := 4#32
  let v35 : BitVec 32 := Scalar.addi v34 c4_i32
  let v36 : Index := Scalar.indexCast v35
  let v37 : BitVec 32 := pf.at 2 (Rect.unit (s := S2048) ![v36.toNat] S1.size (k0_off2_inb i 4)) numel1_S1
  let c0_i32_11 : BitVec 32 := 0#32
  let c0_i32_12 : BitVec 32 := 0#32
  let c0_i32_13 : BitVec 32 := 0#32
  ![v37.toNat, c0_i32_11.toNat, c0_i32_12.toNat]

def cc0_transform_24 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c5_i32 : BitVec 32 := 5#32
  let v35 : BitVec 32 := Scalar.addi v34 c5_i32
  let v36 : Index := Scalar.indexCast v35
  let v37 : BitVec 32 := pf.at 2 (Rect.unit (s := S2048) ![v36.toNat] S1.size (k0_off2_inb i 5)) numel1_S1
  let c0_i32_11 : BitVec 32 := 0#32
  let c0_i32_12 : BitVec 32 := 0#32
  let c0_i32_13 : BitVec 32 := 0#32
  ![v37.toNat, c0_i32_11.toNat, c0_i32_12.toNat]

def cc0_transform_25 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c6_i32 : BitVec 32 := 6#32
  let v35 : BitVec 32 := Scalar.addi v34 c6_i32
  let v36 : Index := Scalar.indexCast v35
  let v37 : BitVec 32 := pf.at 2 (Rect.unit (s := S2048) ![v36.toNat] S1.size (k0_off2_inb i 6)) numel1_S1
  let c0_i32_11 : BitVec 32 := 0#32
  let c0_i32_12 : BitVec 32 := 0#32
  let c0_i32_13 : BitVec 32 := 0#32
  ![v37.toNat, c0_i32_11.toNat, c0_i32_12.toNat]

def cc0_transform_26 (k0_off2_inb : ∀ i : grid0.Coords, ∀ (r : Fin 8), ∀ a, (k0_off2 i (BitVec.ofNat 32 r.val)) a + S1.size a ≤ S2048.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c16_i32 : BitVec 32 := 16#32
  let v20 : BitVec 32 := Scalar.muli v19 c16_i32
  let c136_i32_4 : BitVec 32 := 136#32
  let v21 : BitVec 32 := Scalar.muli arg0 c136_i32_4
  let v22 : BitVec 32 := Scalar.addi v21 arg1
  let c2_i32_5 : BitVec 32 := 2#32
  let c0_i32_6 : BitVec 32 := 0#32
  let v23 : BitVec 1 := Scalar.cmpi .eq c2_i32_5 c0_i32_6
  let c1_i32_7 : BitVec 32 := 1#32
  let v24 : BitVec 32 := Scalar.select v23 c1_i32_7 c2_i32_5
  let v25 : BitVec 32 := Scalar.remsi v22 v24
  let c0_i32_8 : BitVec 32 := 0#32
  let v26 : BitVec 1 := Scalar.cmpi .ne v25 c0_i32_8
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let v30 : BitVec 1 := Scalar.andi v29 v26
  let v31 : BitVec 32 := Scalar.addi v25 v24
  let v32 : BitVec 32 := Scalar.select v30 v31 v25
  let c8_i32 : BitVec 32 := 8#32
  let v33 : BitVec 32 := Scalar.muli v32 c8_i32
  let v34 : BitVec 32 := Scalar.addi v20 v33
  let c7_i32 : BitVec 32 := 7#32
  let v35 : BitVec 32 := Scalar.addi v34 c7_i32
  let v36 : Index := Scalar.indexCast v35
  let v37 : BitVec 32 := pf.at 2 (Rect.unit (s := S2048) ![v36.toNat] S1.size (k0_off2_inb i 7)) numel1_S1
  let c0_i32_11 : BitVec 32 := 0#32
  let c0_i32_12 : BitVec 32 := 0#32
  let c0_i32_13 : BitVec 32 := 0#32
  ![v37.toNat, c0_i32_11.toNat, c0_i32_12.toNat]

def cc0_transform_27 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_28 (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c127_i32 : BitVec 32 := 127#32
  let v19 : BitVec 32 := Scalar.minsi v18 c127_i32
  let c0_i32_4 : BitVec 32 := 0#32
  let c0_i32_5 : BitVec 32 := 0#32
  let c0_i32_6 : BitVec 32 := 0#32
  ![v19.toNat, c0_i32_4.toNat, c0_i32_5.toNat]

abbrev stage0_0 : Fin 2 → Memref sig .tc .vmem S1x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1024x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1024x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1024x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1024x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x1024x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x8x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x8x2x64 : Shape := ⟨5, ![2, 8192, 8, 2, 64]⟩
abbrev S2x8192x8x128 : Shape := ⟨4, ![2, 8192, 8, 128]⟩
abbrev S128x16 : Shape := ⟨2, ![128, 16]⟩
abbrev S2560x128x8x2x64 : Shape := ⟨5, ![2560, 128, 8, 2, 64]⟩
abbrev S2560x128x8x128 : Shape := ⟨4, ![2560, 128, 8, 128]⟩
abbrev S128x1x8x2x64 : Shape := ⟨5, ![128, 1, 8, 2, 64]⟩
abbrev S128x1x8x128 : Shape := ⟨4, ![128, 1, 8, 128]⟩
abbrev S2x64 : Shape := ⟨2, ![2, 64]⟩
abbrev S2x128 : Shape := ⟨2, ![2, 128]⟩
abbrev S1x64 : Shape := ⟨2, ![1, 64]⟩
abbrev S64 : Shape := ⟨1, ![64]⟩
abbrev S_ : Shape := ⟨0, ![]⟩
abbrev S8192 : Shape := ⟨1, ![8192]⟩
abbrev S2x8x2x8192x8192 : Shape := ⟨5, ![2, 8, 2, 8192, 8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S1x128 : Shape := ⟨2, ![1, 128]⟩
abbrev S128 : Shape := ⟨1, ![128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S2x8192x1024 : Shape := ⟨3, ![2, 8192, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S128x16, .i32⟩
  | .hbm, ⟨4, _⟩ => ⟨S2560x128x8x2x64, .f32⟩
  | .hbm, ⟨5, _⟩ => ⟨S2560x128x8x128, .f32⟩
  | .hbm, ⟨6, _⟩ => ⟨S128x1x8x2x64, .f32⟩
  | .hbm, ⟨7, _⟩ => ⟨S128x1x8x2x64, .f32⟩
  | .hbm, ⟨8, _⟩ => ⟨S128x1x8x128, .f32⟩
  | .hbm, ⟨9, _⟩ => ⟨S2x64, .f32⟩
  | .hbm, ⟨10, _⟩ => ⟨S2x64, .f32⟩
  | .hbm, ⟨11, _⟩ => ⟨S2x64, .f32⟩
  | .hbm, ⟨12, _⟩ => ⟨S2x64, .f32⟩
  | .hbm, ⟨13, _⟩ => ⟨S2x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192, .i32⟩
  | .hbm, ⟨34, _⟩ => ⟨S2x8x2x8192x8192, .f32⟩
  | .hbm, ⟨35, _⟩ => ⟨S_, .f32⟩
  | .hbm, ⟨36, _⟩ => ⟨S2x8x2x8192x8192, .f32⟩
  | .hbm, ⟨37, _⟩ => ⟨S2x8x2x8192x8192, .f32⟩
  | .hbm, ⟨38, _⟩ => ⟨S1x8192, .i32⟩
  | .hbm, ⟨39, _⟩ => ⟨S8192x1, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S_, .f32⟩
  | .hbm, ⟨44, _⟩ => ⟨S_, .f32⟩
  | .hbm, ⟨45, _⟩ => ⟨S2x8x2x8192x8192, .i1⟩
  | .hbm, ⟨46, _⟩ => ⟨S2x8x2x8192x8192, .f32⟩
  | .hbm, ⟨47, _⟩ => ⟨S2x8x2x8192x8192, .f32⟩
  | .hbm, ⟨48, _⟩ => ⟨S_, .f32⟩
  | .hbm, ⟨49, _⟩ => ⟨S2x8x2x8192, .f32⟩
  | .hbm, ⟨50, _⟩ => ⟨S_, .f32⟩
  | .hbm, ⟨51, _⟩ => ⟨S2x8x2x8192, .f32⟩
  | .hbm, ⟨52, _⟩ => ⟨S2x8x2x8192, .f32⟩
  | .hbm, ⟨53, _⟩ => ⟨S2x8x2x8192x1, .f32⟩
  | .hbm, ⟨54, _⟩ => ⟨S2x8x2x8192x8192, .f32⟩
  | .hbm, ⟨55, _⟩ => ⟨S2x8x2x8192x8192, .f32⟩
  | .hbm, ⟨56, _⟩ => ⟨S2x8x2x8192x8192, .f32⟩
  | .hbm, ⟨57, _⟩ => ⟨S_, .f32⟩
  | .hbm, ⟨58, _⟩ => ⟨S2x8x2x8192, .f32⟩
  | .hbm, ⟨59, _⟩ => ⟨S2x8x2x8192x1, .f32⟩
  | .hbm, ⟨60, _⟩ => ⟨S2x8x2x8192x8192, .f32⟩
  | .hbm, ⟨61, _⟩ => ⟨S2x8x2x8192x8192, .f32⟩
  | .hbm, ⟨62, _⟩ => ⟨S2x8x1x8192x8192, .f32⟩
  | .hbm, ⟨63, _⟩ => ⟨S2x8x8192x8192, .f32⟩
  | .hbm, ⟨64, _⟩ => ⟨S2x8x1x8192x8192, .f32⟩
  | .hbm, ⟨65, _⟩ => ⟨S2x8x8192x8192, .f32⟩
  | .hbm, ⟨66, _⟩ => ⟨S2x8x8192x8192, .f32⟩
  | .hbm, ⟨67, _⟩ => ⟨S2x8x8192x8192, .f32⟩
  | .hbm, ⟨68, _⟩ => ⟨S2x8x8192x8192, .f32⟩
  | .hbm, ⟨69, _⟩ => ⟨S2x8x128x8192, .f32⟩
  | .hbm, ⟨70, _⟩ => ⟨S2x8192x8x128, .f32⟩
  | .hbm, ⟨71, _⟩ => ⟨S1x128, .f32⟩
  | .hbm, ⟨72, _⟩ => ⟨S128, .f32⟩
  | .hbm, ⟨73, _⟩ => ⟨S2x8192x8x128, .f32⟩
  | .hbm, ⟨74, _⟩ => ⟨S_, .f32⟩
  | .hbm, ⟨75, _⟩ => ⟨S2x8192x8, .f32⟩
  | .hbm, ⟨76, _⟩ => ⟨S2x8192x8x1, .f32⟩
  | .hbm, ⟨77, _⟩ => ⟨S_, .f32⟩
  | .hbm, ⟨78, _⟩ => ⟨S2x8192x8x1, .f32⟩
  | .hbm, ⟨79, _⟩ => ⟨S2x8192x8x1, .f32⟩
  | .hbm, ⟨80, _⟩ => ⟨S_, .f32⟩
  | .hbm, ⟨81, _⟩ => ⟨S2x8192x8x1, .f32⟩
  | .hbm, ⟨82, _⟩ => ⟨S2x8192x8x1, .f32⟩
  | .hbm, ⟨83, _⟩ => ⟨S2x8192x8x1, .f32⟩
  | .hbm, ⟨84, _⟩ => ⟨S2x8192x8x128, .f32⟩
  | .hbm, ⟨85, _⟩ => ⟨S2x8192x8x128, .f32⟩
  | .hbm, ⟨86, _⟩ => ⟨S1x1x1x128, .f32⟩
  | .hbm, ⟨87, _⟩ => ⟨S2x8192x8x128, .f32⟩
  | .hbm, ⟨88, _⟩ => ⟨S2x8192x8x128, .f32⟩
  | .hbm, ⟨89, _⟩ => ⟨S_, .f32⟩
  | .hbm, ⟨90, _⟩ => ⟨S2x8192x8x128, .f32⟩
  | .hbm, ⟨91, _⟩ => ⟨S2x8192x8x128, .f32⟩
  | .hbm, ⟨92, _⟩ => ⟨S2x8192x1024, .f32⟩
  | .hbm, ⟨93, _⟩ => ⟨S2x8192x1024, .bf16⟩
  | _, _ => ⟨S2x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]
-- ==== Post.lean ====
abbrev S16384x1024 : Shape := ⟨2, ![16384, 1024]⟩
abbrev S128x1024 : Shape := ⟨2, ![128, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S64x1024 : Shape := ⟨2, ![64, 1024]⟩
abbrev S64 : Shape := ⟨1, ![64]⟩
abbrev S64x1 : Shape := ⟨2, ![64, 1]⟩
abbrev S64x2816 : Shape := ⟨2, ![64, 2816]⟩

abbrev nBuf : Space → Nat
  | .hbm => 24
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S1024, .f32⟩
  | .hbm, ⟨12, _⟩ => ⟨S16384x1024, .bf16⟩
  | .hbm, ⟨13, _⟩ => ⟨S128x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S1x1024, .f32⟩
  | .hbm, ⟨21, _⟩ => ⟨S1x1024, .f32⟩
  | .hbm, ⟨22, _⟩ => ⟨S16384x1024, .f32⟩
  | .hbm, ⟨23, _⟩ => ⟨S128x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S128x1024, .f32⟩
  | .local _ .vmem, ⟨5, _⟩ => ⟨S128x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .eq arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PostRefIdeal.lean ====
abbrev S16384x1024 : Shape := ⟨2, ![16384, 1024]⟩
abbrev S128x1024 : Shape := ⟨2, ![128, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S128 : Shape := ⟨1, ![128]⟩
abbrev S128x1 : Shape := ⟨2, ![128, 1]⟩
abbrev S128x2816 : Shape := ⟨2, ![128, 2816]⟩

abbrev nBuf : Space → Nat
  | .hbm => 172
  | .vmem => 0
  | .smem => 0
  | _ => 0

abbrev hbmTy0_0 (i : Nat) : BufTy := match i % 128 with
  | 0 => ⟨S16384x1024, .f32⟩
  | 1 => ⟨S16384x1024, .f32⟩
  | 2 => ⟨S128x1024, .f32⟩
  | 3 => ⟨S128x1024, .f32⟩
  | 4 => ⟨S1024x1024, .f32⟩
  | 5 => ⟨S1024, .f32⟩
  | 6 => ⟨S1024, .f32⟩
  | 7 => ⟨S1024x2816, .f32⟩
  | 8 => ⟨S1024x2816, .f32⟩
  | 9 => ⟨S2816x1024, .f32⟩
  | 10 => ⟨S1024, .f32⟩
  | 11 => ⟨S1024, .f32⟩
  | 12 => ⟨S_, .f32⟩
  | 13 => ⟨S16384x1024, .f32⟩
  | 14 => ⟨S16384x1024, .f32⟩
  | 15 => ⟨S16384x1024, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S16384x1024, .f32⟩
  | 24 => ⟨S16384x1024, .f32⟩
  | 25 => ⟨S16384x1024, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S16384x1024, .f32⟩
  | 33 => ⟨S16384x1024, .f32⟩
  | 34 => ⟨S_, .f32⟩
  | 35 => ⟨S16384x1, .f32⟩
  | 36 => ⟨S16384x1, .f32⟩
  | 37 => ⟨S16384x1, .f32⟩
  | 38 => ⟨S16384x1024, .f32⟩
  | 39 => ⟨S16384x1024, .f32⟩
  | 40 => ⟨S1x1024, .f32⟩
  | 41 => ⟨S16384x1024, .f32⟩
  | 42 => ⟨S16384x1024, .f32⟩
  | 43 => ⟨S1x1024, .f32⟩
  | 44 => ⟨S16384x1024, .f32⟩
  | 45 => ⟨S16384x1024, .f32⟩
  | 46 => ⟨S_, .f32⟩
  | 47 => ⟨S16384x1024, .f32⟩
  | 48 => ⟨S16384x1024, .f32⟩
  | 49 => ⟨S16384x2816, .f32⟩
  | 50 => ⟨S16384x2816, .f32⟩
  | 51 => ⟨S16384x2816, .f32⟩
  | 52 => ⟨S_, .f32⟩
  | 53 => ⟨S16384x2816, .f32⟩
  | 54 => ⟨S16384x2816, .f32⟩
  | 55 => ⟨S_, .f32⟩
  | 56 => ⟨S16384x2816, .f32⟩
  | 57 => ⟨S16384x2816, .f32⟩
  | 58 => ⟨S16384x2816, .f32⟩
  | 59 => ⟨S16384x2816, .f32⟩
  | 60 => ⟨S16384x2816, .f32⟩
  | 61 => ⟨S16384x1024, .f32⟩
  | 62 => ⟨S16384x1024, .f32⟩
  | 63 => ⟨S_, .f32⟩
  | 64 => ⟨S16384, .f32⟩
  | 65 => ⟨S16384x1, .f32⟩
  | 66 => ⟨S_, .f32⟩
  | 67 => ⟨S16384x1, .f32⟩
  | 68 => ⟨S16384x1, .f32⟩
  | 69 => ⟨S16384x1024, .f32⟩
  | 70 => ⟨S16384x1024, .f32⟩
  | 71 => ⟨S16384x1024, .f32⟩
  | 72 => ⟨S_, .f32⟩
  | 73 => ⟨S16384, .f32⟩
  | 74 => ⟨S16384x1, .f32⟩
  | 75 => ⟨S_, .f32⟩
  | 76 => ⟨S16384x1, .f32⟩
  | 77 => ⟨S16384x1, .f32⟩
  | 78 => ⟨S16384x1024, .f32⟩
  | 79 => ⟨S16384x1024, .f32⟩
  | 80 => ⟨S_, .f32⟩
  | 81 => ⟨S16384x1, .f32⟩
  | 82 => ⟨S16384x1, .f32⟩
  | 83 => ⟨S16384x1, .f32⟩
  | 84 => ⟨S16384x1024, .f32⟩
  | 85 => ⟨S16384x1024, .f32⟩
  | 86 => ⟨S1x1024, .f32⟩
  | 87 => ⟨S16384x1024, .f32⟩
  | 88 => ⟨S16384x1024, .f32⟩
  | 89 => ⟨S1x1024, .f32⟩
  | 90 => ⟨S16384x1024, .f32⟩
  | 91 => ⟨S16384x1024, .f32⟩
  | 92 => ⟨S_, .f32⟩
  | 93 => ⟨S128x1024, .f32⟩
  | 94 => ⟨S128x1024, .f32⟩
  | 95 => ⟨S128x1024, .f32⟩
  | 96 => ⟨S128x1024, .f32⟩
  | 97 => ⟨S_, .f32⟩
  | 98 => ⟨S128, .f32⟩
  | 99 => ⟨S128x1, .f32⟩
  | 100 => ⟨S_, .f32⟩
  | 101 => ⟨S128x1, .f32⟩
  | 102 => ⟨S128x1, .f32⟩
  | 103 => ⟨S128x1024, .f32⟩
  | 104 => ⟨S128x1024, .f32⟩
  | 105 => ⟨S128x1024, .f32⟩
  | 106 => ⟨S_, .f32⟩
  | 107 => ⟨S128, .f32⟩
  | 108 => ⟨S128x1, .f32⟩
  | 109 => ⟨S_, .f32⟩
  | 110 => ⟨S128x1, .f32⟩
  | 111 => ⟨S128x1, .f32⟩
  | 112 => ⟨S128x1024, .f32⟩
  | 113 => ⟨S128x1024, .f32⟩
  | 114 => ⟨S_, .f32⟩
  | 115 => ⟨S128x1, .f32⟩
  | 116 => ⟨S128x1, .f32⟩
  | 117 => ⟨S128x1, .f32⟩
  | 118 => ⟨S128x1024, .f32⟩
  | 119 => ⟨S128x1024, .f32⟩
  | 120 => ⟨S1x1024, .f32⟩
  | 121 => ⟨S128x1024, .f32⟩
  | 122 => ⟨S128x1024, .f32⟩
  | 123 => ⟨S1x1024, .f32⟩
  | 124 => ⟨S128x1024, .f32⟩
  | 125 => ⟨S128x1024, .f32⟩
  | 126 => ⟨S_, .f32⟩
  | 127 => ⟨S128x1024, .f32⟩
  | _ => ⟨S16384x1024, .f32⟩

abbrev hbmTy0_1 (i : Nat) : BufTy := match i % 128 with
  | 0 => ⟨S128x1024, .f32⟩
  | 1 => ⟨S128x2816, .f32⟩
  | 2 => ⟨S128x2816, .f32⟩
  | 3 => ⟨S128x2816, .f32⟩
  | 4 => ⟨S_, .f32⟩
  | 5 => ⟨S128x2816, .f32⟩
  | 6 => ⟨S128x2816, .f32⟩
  | 7 => ⟨S_, .f32⟩
  | 8 => ⟨S128x2816, .f32⟩
  | 9 => ⟨S128x2816, .f32⟩
  | 10 => ⟨S128x2816, .f32⟩
  | 11 => ⟨S128x2816, .f32⟩
  | 12 => ⟨S128x2816, .f32⟩
  | 13 => ⟨S128x1024, .f32⟩
  | 14 => ⟨S128x1024, .f32⟩
  | 15 => ⟨S_, .f32⟩
  | 16 => ⟨S128, .f32⟩
  | 17 => ⟨S128x1, .f32⟩
  | 18 => ⟨S_, .f32⟩
  | 19 => ⟨S128x1, .f32⟩
  | 20 => ⟨S128x1, .f32⟩
  | 21 => ⟨S128x1024, .f32⟩
  | 22 => ⟨S128x1024, .f32⟩
  | 23 => ⟨S128x1024, .f32⟩
  | 24 => ⟨S_, .f32⟩
  | 25 => ⟨S128, .f32⟩
  | 26 => ⟨S128x1, .f32⟩
  | 27 => ⟨S_, .f32⟩
  | 28 => ⟨S128x1, .f32⟩
  | 29 => ⟨S128x1, .f32⟩
  | 30 => ⟨S128x1024, .f32⟩
  | 31 => ⟨S128x1024, .f32⟩
  | 32 => ⟨S_, .f32⟩
  | 33 => ⟨S128x1, .f32⟩
  | 34 => ⟨S128x1, .f32⟩
  | 35 => ⟨S128x1, .f32⟩
  | 36 => ⟨S128x1024, .f32⟩
  | 37 => ⟨S128x1024, .f32⟩
  | 38 => ⟨S1x1024, .f32⟩
  | 39 => ⟨S128x1024, .f32⟩
  | 40 => ⟨S128x1024, .f32⟩
  | 41 => ⟨S1x1024, .f32⟩
  | 42 => ⟨S128x1024, .f32⟩
  | 43 => ⟨S128x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_cst_15 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call1_v0 : Ref sig .tc := ⟨.hbm, 130, rfl⟩
abbrev main_call1_v1 : Ref sig .tc := ⟨.hbm, 131, rfl⟩
abbrev main_call1_cst : Ref sig .tc := ⟨.hbm, 132, rfl⟩
abbrev main_call1_v2 : Ref sig .tc := ⟨.hbm, 133, rfl⟩
abbrev main_call1_v3 : Ref sig .tc := ⟨.hbm, 134, rfl⟩
abbrev main_call1_cst_0 : Ref sig .tc := ⟨.hbm, 135, rfl⟩
abbrev main_call1_v4 : Ref sig .tc := ⟨.hbm, 136, rfl⟩
abbrev main_call1_v5 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_18 : Ref sig .tc := ⟨.hbm, 143, rfl⟩
abbrev main_v96 : Ref sig .tc := ⟨.hbm, 144, rfl⟩
abbrev main_v97 : Ref sig .tc := ⟨.hbm, 145, rfl⟩
abbrev main_cst_19 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_20 : Ref sig .tc := ⟨.hbm, 152, rfl⟩
abbrev main_v103 : Ref sig .tc := ⟨.hbm, 153, rfl⟩
abbrev main_v104 : Ref sig .tc := ⟨.hbm, 154, rfl⟩
abbrev main_cst_21 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_22 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩

abbrev nD : Nat := 1
abbrev τ : Topo := Topo.v7x

variable {F : FTy → Type} [FloatOps F]
-- ==== Mixer.lean ====
abbrev S2x8192x1024 : Shape := ⟨3, ![2, 8192, 1024]⟩
abbrev S1024x3072 : Shape := ⟨2, ![1024, 3072]⟩
abbrev S3x1024 : Shape := ⟨2, ![3, 1024]⟩
abbrev S2x8x1024 : Shape := ⟨3, ![2, 8, 1024]⟩
abbrev S1x512x1024 : Shape := ⟨3, ![1, 512, 1024]⟩
abbrev S1x8x1024 : Shape := ⟨3, ![1, 8, 1024]⟩
abbrev S8x1024 : Shape := ⟨2, ![8, 1024]⟩
abbrev S512x1024 : Shape := ⟨2, ![512, 1024]⟩
abbrev S512x3072 : Shape := ⟨2, ![512, 3072]⟩
abbrev S1x1024 : Shape := ⟨2, ![1, 1024]⟩
abbrev S504x1024 : Shape := ⟨2, ![504, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1024x3072, .f32⟩
  | .hbm, ⟨2, _⟩ => ⟨S3x1024, .f32⟩
  | .hbm, ⟨3, _⟩ => ⟨S1024x3072, .bf16⟩
  | .hbm, ⟨4, _⟩ => ⟨S2x8192x1024, .bf16⟩
  | .hbm, ⟨5, _⟩ => ⟨S2x8x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S3x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x8x1024, .f32⟩
  | .local _ .vmem, ⟨7, _⟩ => ⟨S1x8x1024, .f32⟩
  | .local _ .vmem, ⟨8, _⟩ => ⟨S8x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MixerRefIdeal.lean ====
abbrev S2x8192x1024 : Shape := ⟨3, ![2, 8192, 1024]⟩
abbrev S1024x3072 : Shape := ⟨2, ![1024, 3072]⟩
abbrev S3x1024 : Shape := ⟨2, ![3, 1024]⟩
abbrev S2x8192x3072 : Shape := ⟨3, ![2, 8192, 3072]⟩
abbrev S_ : Shape := ⟨0, ![]⟩
abbrev S2x2x1024 : Shape := ⟨3, ![2, 2, 1024]⟩
abbrev S2x8194x1024 : Shape := ⟨3, ![2, 8194, 1024]⟩
abbrev S1x1024 : Shape := ⟨2, ![1, 1024]⟩
abbrev S1024 : Shape := ⟨1, ![1024]⟩
abbrev S1x1x1024 : Shape := ⟨3, ![1, 1, 1024]⟩
abbrev S2x8x1024 : Shape := ⟨3, ![2, 8, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x3072, .f32⟩
  | .hbm, ⟨2, _⟩ => ⟨S3x1024, .f32⟩
  | .hbm, ⟨3, _⟩ => ⟨S2x8192x3072, .f32⟩
  | .hbm, ⟨4, _⟩ => ⟨S2x8192x1024, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S_, .f32⟩
  | .hbm, ⟨9, _⟩ => ⟨S2x2x1024, .f32⟩
  | .hbm, ⟨10, _⟩ => ⟨S2x8194x1024, .f32⟩
  | .hbm, ⟨11, _⟩ => ⟨S1x1024, .f32⟩
  | .hbm, ⟨12, _⟩ => ⟨S1024, .f32⟩
  | .hbm, ⟨13, _⟩ => ⟨S2x8192x1024, .f32⟩
  | .hbm, ⟨14, _⟩ => ⟨S1x1x1024, .f32⟩
  | .hbm, ⟨15, _⟩ => ⟨S2x8192x1024, .f32⟩
  | .hbm, ⟨16, _⟩ => ⟨S2x8192x1024, .f32⟩
  | .hbm, ⟨17, _⟩ => ⟨S_, .f32⟩
  | .hbm, ⟨18, _⟩ => ⟨S2x8192x1024, .f32⟩
  | .hbm, ⟨19, _⟩ => ⟨S2x8192x1024, .f32⟩
  | .hbm, ⟨20, _⟩ => ⟨S1x1024, .f32⟩
  | .hbm, ⟨21, _⟩ => ⟨S1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S1x1024, .f32⟩
  | .hbm, ⟨28, _⟩ => ⟨S1024, .f32⟩
  | .hbm, ⟨29, _⟩ => ⟨S2x8192x1024, .f32⟩
  | .hbm, ⟨30, _⟩ => ⟨S1x1x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .bf16⟩
  | .hbm, ⟨36, _⟩ => ⟨S2x8x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== MixerStep.lean ====
abbrev S128x1024 : Shape := ⟨2, ![128, 1024]⟩
abbrev S128x2x1024 : Shape := ⟨3, ![128, 2, 1024]⟩
abbrev S1024x3072 : Shape := ⟨2, ![1024, 3072]⟩
abbrev S3x1024 : Shape := ⟨2, ![3, 1024]⟩
abbrev S128x1x1024 : Shape := ⟨3, ![128, 1, 1024]⟩
abbrev S128x3072 : Shape := ⟨2, ![128, 3072]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x2x1024, .f32⟩
  | .hbm, ⟨2, _⟩ => ⟨S1024x3072, .f32⟩
  | .hbm, ⟨3, _⟩ => ⟨S3x1024, .f32⟩
  | .hbm, ⟨4, _⟩ => ⟨S128x1x1024, .f32⟩
  | .hbm, ⟨5, _⟩ => ⟨S128x1024, .f32⟩
  | .hbm, ⟨6, _⟩ => ⟨S128x1x1024, .f32⟩
  | .hbm, ⟨7, _⟩ => ⟨S128x1024, .f32⟩
  | .hbm, ⟨8, _⟩ => ⟨S1024x3072, .bf16⟩
  | .hbm, ⟨9, _⟩ => ⟨S128x1024, .bf16⟩
  | .hbm, ⟨10, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1024x3072, .bf16⟩
  | .local _ .vmem, ⟨4, _⟩ => ⟨S3x1024, .f32⟩
  | .local _ .vmem, ⟨5, _⟩ => ⟨S128x1024, .bf16⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixerStepRefIdeal.lean ====
abbrev S128x1024 : Shape := ⟨2, ![128, 1024]⟩
abbrev S128x2x1024 : Shape := ⟨3, ![128, 2, 1024]⟩
abbrev S1024x3072 : Shape := ⟨2, ![1024, 3072]⟩
abbrev S3x1024 : Shape := ⟨2, ![3, 1024]⟩
abbrev S128x3072 : Shape := ⟨2, ![128, 3072]⟩
abbrev S128x1x1024 : Shape := ⟨3, ![128, 1, 1024]⟩
abbrev S128x3x1024 : Shape := ⟨3, ![128, 3, 1024]⟩
abbrev S1x1024 : Shape := ⟨2, ![1, 1024]⟩
abbrev S1024 : Shape := ⟨1, ![1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x2x1024, .f32⟩
  | .hbm, ⟨2, _⟩ => ⟨S1024x3072, .f32⟩
  | .hbm, ⟨3, _⟩ => ⟨S3x1024, .f32⟩
  | .hbm, ⟨4, _⟩ => ⟨S128x3072, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1x1024, .f32⟩
  | .hbm, ⟨10, _⟩ => ⟨S128x3x1024, .f32⟩
  | .hbm, ⟨11, _⟩ => ⟨S1x1024, .f32⟩
  | .hbm, ⟨12, _⟩ => ⟨S1024, .f32⟩
  | .hbm, ⟨13, _⟩ => ⟨S128x1x1024, .f32⟩
  | .hbm, ⟨14, _⟩ => ⟨S128x1024, .f32⟩
  | .hbm, ⟨15, _⟩ => ⟨S1x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S1x1024, .f32⟩
  | .hbm, ⟨22, _⟩ => ⟨S1024, .f32⟩
  | .hbm, ⟨23, _⟩ => ⟨S128x1x1024, .f32⟩
  | .hbm, ⟨24, _⟩ => ⟨S128x1024, .f32⟩
  | .hbm, ⟨25, _⟩ => ⟨S1x1024, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S1x1024, .f32⟩
  | .hbm, ⟨30, _⟩ => ⟨S1024, .f32⟩
  | .hbm, ⟨31, _⟩ => ⟨S128x1x1024, .f32⟩
  | .hbm, ⟨32, _⟩ => ⟨S128x1024, .f32⟩
  | .hbm, ⟨33, _⟩ => ⟨S1x1024, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S128x1024, .bf16⟩
  | .hbm, ⟨39, _⟩ => ⟨S128x1x1024, .f32⟩
  | .hbm, ⟨40, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== Qkv.lean ====
abbrev S16384x1024 : Shape := ⟨2, ![16384, 1024]⟩
abbrev S1024x2048 : Shape := ⟨2, ![1024, 2048]⟩
abbrev S1024x1024 : Shape := ⟨2, ![1024, 1024]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8x8192 : Shape := ⟨2, ![8, 8192]⟩
abbrev S2x1024x8192 : Shape := ⟨3, ![2, 1024, 8192]⟩
abbrev S2x8x8192x128 : Shape := ⟨4, ![2, 8, 8192, 128]⟩
abbrev S2x8x128x8192 : Shape := ⟨4, ![2, 8, 128, 8192]⟩
abbrev S256x1024 : Shape := ⟨2, ![256, 1024]⟩
abbrev S256x128 : Shape := ⟨2, ![256, 128]⟩
abbrev S8x256 : Shape := ⟨2, ![8, 256]⟩
abbrev S1x1024x256 : Shape := ⟨3, ![1, 1024, 256]⟩
abbrev S1x8x256x128 : Shape := ⟨4, ![1, 8, 256, 128]⟩
abbrev S1x8x128x256 : Shape := ⟨4, ![1, 8, 128, 256]⟩
abbrev S1024x256 : Shape := ⟨2, ![1024, 256]⟩
abbrev S48x256 : Shape := ⟨2, ![48, 256]⟩
abbrev S1x1x256x128 : Shape := ⟨4, ![1, 1, 256, 128]⟩
abbrev S128x256 : Shape := ⟨2, ![128, 256]⟩
abbrev S1x1x128x256 : Shape := ⟨4, ![1, 1, 128, 256]⟩

abbrev nBuf : Space → Nat
  | .hbm => 62
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S8192, .i32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8192, .f32⟩
  | .hbm, ⟨23, _⟩ => ⟨S8192x1, .f32⟩
  | .hbm, ⟨24, _⟩ => ⟨S1x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S1024x1024, .bf16⟩
  | .hbm, ⟨31, _⟩ => ⟨S1024x1024, .bf16⟩
  | .hbm, ⟨32, _⟩ => ⟨S1024x1024, .f32⟩
  | .hbm, ⟨33, _⟩ => ⟨S1024x1024, .bf16⟩
  | .hbm, ⟨34, _⟩ => ⟨S_, .f32⟩
  | .hbm, ⟨35, _⟩ => ⟨S8192x48, .f32⟩
  | .hbm, ⟨36, _⟩ => ⟨S8192x64, .f32⟩
  | .hbm, ⟨37, _⟩ => ⟨S8192x8, .f32⟩
  | .hbm, ⟨38, _⟩ => ⟨S_, .f32⟩
  | .hbm, ⟨39, _⟩ => ⟨S8192x56, .f32⟩
  | .hbm, ⟨40, _⟩ => ⟨S8192x64, .f32⟩
  | .hbm, ⟨41, _⟩ => ⟨S_, .f32⟩
  | .hbm, ⟨42, _⟩ => ⟨S8192x8, .f32⟩
  | .hbm, ⟨43, _⟩ => ⟨S_, .f32⟩
  | .hbm, ⟨44, _⟩ => ⟨S8192x48, .f32⟩
  | .hbm, ⟨45, _⟩ => ⟨S8192x64, .f32⟩
  | .hbm, ⟨46, _⟩ => ⟨S1x8192x1x64, .f32⟩
  | .hbm, ⟨47, _⟩ => ⟨S1x8192x2x64, .f32⟩
  | .hbm, ⟨48, _⟩ => ⟨S8192x128, .f32⟩
  | .hbm, ⟨49, _⟩ => ⟨S1x8192x1x64, .f32⟩
  | .hbm, ⟨50, _⟩ => ⟨S1x8192x2x64, .f32⟩
  | .hbm, ⟨51, _⟩ => ⟨S8192x128, .f32⟩
  | .hbm, ⟨52, _⟩ => ⟨S1x8192x1x64, .f32⟩
  | .hbm, ⟨53, _⟩ => ⟨S1x8192x2x64, .f32⟩
  | .hbm, ⟨54, _⟩ => ⟨S8192x128, .f32⟩
  | .hbm, ⟨55, _⟩ => ⟨S8x8192, .f32⟩
  | .hbm, ⟨56, _⟩ => ⟨S8x8192, .f32⟩
  | .hbm, ⟨57, _⟩ => ⟨S2x1024x8192, .f32⟩
  | .hbm, ⟨58, _⟩ => ⟨S16384x1024, .f32⟩
  | .hbm, ⟨59, _⟩ => ⟨S2x8x8192x128, .bf16⟩
  | .hbm, ⟨60, _⟩ => ⟨S2x8x128x8192, .bf16⟩
  | .hbm, ⟨61, _⟩ => ⟨S2x8x128x8192, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S8x256, .f32⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S1x1024x256, .f32⟩
  | .local _ .vmem, ⟨18, _⟩ => ⟨S1x1024x256, .f32⟩
  | .local _ .vmem, ⟨19, _⟩ => ⟨S256x1024, .f32⟩
  | .local _ .vmem, ⟨20, _⟩ => ⟨S256x1024, .f32⟩
  | .local _ .vmem, ⟨21, _⟩ => ⟨S1x8x256x128, .bf16⟩
  | .local _ .vmem, ⟨22, _⟩ => ⟨S1x8x256x128, .bf16⟩
  | .local _ .vmem, ⟨23, _⟩ => ⟨S1x8x128x256, .bf16⟩
  | .local _ .vmem, ⟨24, _⟩ => ⟨S1x8x128x256, .bf16⟩
  | .local _ .vmem, ⟨25, _⟩ => ⟨S1x8x128x256, .bf16⟩
  | .local _ .vmem, ⟨26, _⟩ => ⟨S1x8x128x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46_0 : Ref sig .tc := ⟨.hbm, 57, rfl⟩
abbrev main_v46_1 : Ref sig .tc := ⟨.hbm, 58, rfl⟩
abbrev main_v46_2 : Ref sig .tc := ⟨.hbm, 59, rfl⟩
abbrev main_v46_3 : Ref sig .tc := ⟨.hbm, 60, rfl⟩
abbrev main_v46_4 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_15 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== QkvIdeal.lean ====
variable {F : FTy → Type} [FloatOps F] [Named F]
def κ : String → Option EReal := fun
  | "q_scale" => some (((1 / 8) * (Real.log 2)⁻¹ : ℝ) : EReal)
  | _ => none
-- ==== QkvRefIdeal.lean ====
abbrev S16384x1024 : Shape := ⟨2, ![16384, 1024]⟩
abbrev S1024x2048 : Shape := ⟨2, ![1024, 2048]⟩
abbrev S1024x1024 : Shape := ⟨2, ![1024, 1024]⟩
abbrev S8192 : Shape := ⟨1, ![8192]⟩
abbrev S16384x2048 : Shape := ⟨2, ![16384, 2048]⟩
abbrev S2x8192x8x2x64 : Shape := ⟨5, ![2, 8192, 8, 2, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S1x8192x1x1x8 : Shape := ⟨5, ![1, 8192, 1, 1, 8]⟩
abbrev S2x8192x8x2x8 : Shape := ⟨5, ![2, 8192, 8, 2, 8]⟩
abbrev S2x8192x8x2x48 : Shape := ⟨5, ![2, 8192, 8, 2, 48]⟩
abbrev S2x8192x8x128 : Shape := ⟨4, ![2, 8192, 8, 128]⟩
abbrev S2x8x8192x128 : Shape := ⟨4, ![2, 8, 8192, 128]⟩
abbrev S2x8x128x8192 : Shape := ⟨4, ![2, 8, 128, 8192]⟩
abbrev S2x8x2x64x8192 : Shape := ⟨5, ![2, 8, 2, 64, 8192]⟩
abbrev S2x1024x8192 : Shape := ⟨3, ![2, 1024, 8192]⟩

abbrev nBuf : Space → Nat
  | .hbm => 105
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S1024x1024, .f32⟩
  | .hbm, ⟨3, _⟩ => ⟨S8192, .i32⟩
  | .hbm, ⟨4, _⟩ => ⟨S16384x2048, .f32⟩
  | .hbm, ⟨5, _⟩ => ⟨S16384x1024, .f32⟩
  | .hbm, ⟨6, _⟩ => ⟨S2x8192x8x2x64, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8192, .f32⟩
  | .hbm, ⟨22, _⟩ => ⟨S8192x1, .f32⟩
  | .hbm, ⟨23, _⟩ => ⟨S1x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S1x8192x1x1x8, .f32⟩
  | .hbm, ⟨29, _⟩ => ⟨S8192x8, .f32⟩
  | .hbm, ⟨30, _⟩ => ⟨S1x8192x1x1x8, .f32⟩
  | .hbm, ⟨31, _⟩ => ⟨S2x8192x8x2x8, .f32⟩
  | .hbm, ⟨32, _⟩ => ⟨S2x8192x8x2x8, .f32⟩
  | .hbm, ⟨33, _⟩ => ⟨S2x8192x8x2x8, .f32⟩
  | .hbm, ⟨34, _⟩ => ⟨S2x8192x8x2x8, .f32⟩
  | .hbm, ⟨35, _⟩ => ⟨S2x8192x8x2x8, .f32⟩
  | .hbm, ⟨36, _⟩ => ⟨S2x8192x8x2x8, .f32⟩
  | .hbm, ⟨37, _⟩ => ⟨S2x8192x8x2x8, .f32⟩
  | .hbm, ⟨38, _⟩ => ⟨S2x8192x8x2x8, .f32⟩
  | .hbm, ⟨39, _⟩ => ⟨S2x8192x8x2x8, .f32⟩
  | .hbm, ⟨40, _⟩ => ⟨S2x8192x8x2x8, .f32⟩
  | .hbm, ⟨41, _⟩ => ⟨S2x8192x8x2x8, .f32⟩
  | .hbm, ⟨42, _⟩ => ⟨S2x8192x8x2x8, .f32⟩
  | .hbm, ⟨43, _⟩ => ⟨S2x8192x8x2x48, .f32⟩
  | .hbm, ⟨44, _⟩ => ⟨S2x8192x8x2x64, .f32⟩
  | .hbm, ⟨45, _⟩ => ⟨S16384x1024, .f32⟩
  | .hbm, ⟨46, _⟩ => ⟨S2x8192x8x128, .f32⟩
  | .hbm, ⟨47, _⟩ => ⟨S16384x1024, .f32⟩
  | .hbm, ⟨48, _⟩ => ⟨S2x8192x8x2x64, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8192, .f32⟩
  | .hbm, ⟨64, _⟩ => ⟨S8192x1, .f32⟩
  | .hbm, ⟨65, _⟩ => ⟨S1x8, .f32⟩
  | .hbm, ⟨66, _⟩ => ⟨S8192x8, .f32⟩
  | .hbm, ⟨67, _⟩ => ⟨S8192x8, .f32⟩
  | .hbm, ⟨68, _⟩ => ⟨S8192x8, .f32⟩
  | .hbm, ⟨69, _⟩ => ⟨S8192x8, .f32⟩
  | .hbm, ⟨70, _⟩ => ⟨S1x8192x1x1x8, .f32⟩
  | .hbm, ⟨71, _⟩ => ⟨S8192x8, .f32⟩
  | .hbm, ⟨72, _⟩ => ⟨S1x8192x1x1x8, .f32⟩
  | .hbm, ⟨73, _⟩ => ⟨S2x8192x8x2x8, .f32⟩
  | .hbm, ⟨74, _⟩ => ⟨S2x8192x8x2x8, .f32⟩
  | .hbm, ⟨75, _⟩ => ⟨S2x8192x8x2x8, .f32⟩
  | .hbm, ⟨76, _⟩ => ⟨S2x8192x8x2x8, .f32⟩
  | .hbm, ⟨77, _⟩ => ⟨S2x8192x8x2x8, .f32⟩
  | .hbm, ⟨78, _⟩ => ⟨S2x8192x8x2x8, .f32⟩
  | .hbm, ⟨79, _⟩ => ⟨S2x8192x8x2x8, .f32⟩
  | .hbm, ⟨80, _⟩ => ⟨S2x8192x8x2x8, .f32⟩
  | .hbm, ⟨81, _⟩ => ⟨S2x8192x8x2x8, .f32⟩
  | .hbm, ⟨82, _⟩ => ⟨S2x8192x8x2x8, .f32⟩
  | .hbm, ⟨83, _⟩ => ⟨S2x8192x8x2x8, .f32⟩
  | .hbm, ⟨84, _⟩ => ⟨S2x8192x8x2x8, .f32⟩
  | .hbm, ⟨85, _⟩ => ⟨S2x8192x8x2x48, .f32⟩
  | .hbm, ⟨86, _⟩ => ⟨S2x8192x8x2x64, .f32⟩
  | .hbm, ⟨87, _⟩ => ⟨S2x8192x8x128, .f32⟩
  | .hbm, ⟨88, _⟩ => ⟨S2x8x8192x128, .f32⟩
  | .hbm, ⟨89, _⟩ => ⟨S2x8x128x8192, .f32⟩
  | .hbm, ⟨90, _⟩ => ⟨S_, .f32⟩
  | .hbm, ⟨91, _⟩ => ⟨S2x8192x8x2x64, .f32⟩
  | .hbm, ⟨92, _⟩ => ⟨S2x8192x8x2x64, .f32⟩
  | .hbm, ⟨93, _⟩ => ⟨S_, .f32⟩
  | .hbm, ⟨94, _⟩ => ⟨S_, .f32⟩
  | .hbm, ⟨95, _⟩ => ⟨S2x8192x8x2x64, .f32⟩
  | .hbm, ⟨96, _⟩ => ⟨S2x8192x8x2x64, .f32⟩
  | .hbm, ⟨97, _⟩ => ⟨S2x8192x8x128, .f32⟩
  | .hbm, ⟨98, _⟩ => ⟨S2x8x128x8192, .f32⟩
  | .hbm, ⟨99, _⟩ => ⟨S2x8x2x64x8192, .f32⟩
  | .hbm, ⟨100, _⟩ => ⟨S2x1024x8192, .f32⟩
  | .hbm, ⟨101, _⟩ => ⟨S16384x1024, .f32⟩
  | .hbm, ⟨102, _⟩ => ⟨S2x8x8192x128, .bf16⟩
  | .hbm, ⟨103, _⟩ => ⟨S2x8x128x8192, .bf16⟩
  | .hbm, ⟨104, _⟩ => ⟨S2x8x128x8192, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_7 : Ref sig .tc := ⟨.hbm, 90, rfl⟩
abbrev main_v79 : Ref sig .tc := ⟨.hbm, 91, rfl⟩
abbrev main_v80 : Ref sig .tc := ⟨.hbm, 92, rfl⟩
abbrev main_cst_8 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩

abbrev nD : Nat := 1
abbrev τ : Topo := Topo.v7x

variable {F : FTy → Type} [FloatOps F]
-- ==== QkvStep.lean ====
abbrev S128x1024 : Shape := ⟨2, ![128, 1024]⟩
abbrev S1024x2048 : Shape := ⟨2, ![1024, 2048]⟩
abbrev S1024x1024 : Shape := ⟨2, ![1024, 1024]⟩
abbrev S1 : Shape := ⟨1, ![1]⟩
abbrev S_ : Shape := ⟨0, ![]⟩
abbrev S8 : Shape := ⟨1, ![8]⟩
abbrev S1x1 : Shape := ⟨2, ![1, 1]⟩
abbrev S1x8 : Shape := ⟨2, ![1, 8]⟩
abbrev S1x48 : Shape := ⟨2, ![1, 48]⟩
abbrev S1x64 : Shape := ⟨2, ![1, 64]⟩
abbrev S1x56 : Shape := ⟨2, ![1, 56]⟩
abbrev S1x1x1x64 : Shape := ⟨4, ![1, 1, 1, 64]⟩
abbrev S1x1x2x64 : Shape := ⟨4, ![1, 1, 2, 64]⟩
abbrev S1x128 : Shape := ⟨2, ![1, 128]⟩
abbrev S128x128 : Shape := ⟨2, ![128, 128]⟩
abbrev S1024x3072 : Shape := ⟨2, ![1024, 3072]⟩
abbrev S128x3072 : Shape := ⟨2, ![128, 3072]⟩

abbrev nBuf : Space → Nat
  | .hbm => 57
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S1024x2048, .f32⟩
  | .hbm, ⟨2, _⟩ => ⟨S1024x1024, .f32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S1, .f32⟩
  | .hbm, ⟨22, _⟩ => ⟨S1x1, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S1x8, .f32⟩
  | .hbm, ⟨27, _⟩ => ⟨S1x8, .f32⟩
  | .hbm, ⟨28, _⟩ => ⟨S_, .f32⟩
  | .hbm, ⟨29, _⟩ => ⟨S1x48, .f32⟩
  | .hbm, ⟨30, _⟩ => ⟨S1x64, .f32⟩
  | .hbm, ⟨31, _⟩ => ⟨S1x8, .f32⟩
  | .hbm, ⟨32, _⟩ => ⟨S_, .f32⟩
  | .hbm, ⟨33, _⟩ => ⟨S1x56, .f32⟩
  | .hbm, ⟨34, _⟩ => ⟨S1x64, .f32⟩
  | .hbm, ⟨35, _⟩ => ⟨S_, .f32⟩
  | .hbm, ⟨36, _⟩ => ⟨S1x8, .f32⟩
  | .hbm, ⟨37, _⟩ => ⟨S_, .f32⟩
  | .hbm, ⟨38, _⟩ => ⟨S1x48, .f32⟩
  | .hbm, ⟨39, _⟩ => ⟨S1x64, .f32⟩
  | .hbm, ⟨40, _⟩ => ⟨S1x1x1x64, .f32⟩
  | .hbm, ⟨41, _⟩ => ⟨S1x1x2x64, .f32⟩
  | .hbm, ⟨42, _⟩ => ⟨S1x128, .f32⟩
  | .hbm, ⟨43, _⟩ => ⟨S1x1x1x64, .f32⟩
  | .hbm, ⟨44, _⟩ => ⟨S1x1x2x64, .f32⟩
  | .hbm, ⟨45, _⟩ => ⟨S1x128, .f32⟩
  | .hbm, ⟨46, _⟩ => ⟨S1x1x1x64, .f32⟩
  | .hbm, ⟨47, _⟩ => ⟨S1x1x2x64, .f32⟩
  | .hbm, ⟨48, _⟩ => ⟨S1x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S1024x3072, .f32⟩
  | .hbm, ⟨53, _⟩ => ⟨S1024x3072, .bf16⟩
  | .hbm, ⟨54, _⟩ => ⟨S128x1024, .f32⟩
  | .hbm, ⟨55, _⟩ => ⟨S128x1024, .f32⟩
  | .hbm, ⟨56, _⟩ => ⟨S128x1024, .bf16⟩
  | .local _ .vmem, ⟨0, _⟩ => ⟨S128x1024, .f32⟩
  | .local _ .vmem, ⟨1, _⟩ => ⟨S1024x3072, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x1024, .f32⟩
  | .local _ .vmem, ⟨6, _⟩ => ⟨S128x1024, .f32⟩
  | .local _ .vmem, ⟨7, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QkvStepRefIdeal.lean ====
abbrev S128x1024 : Shape := ⟨2, ![128, 1024]⟩
abbrev S1024x2048 : Shape := ⟨2, ![1024, 2048]⟩
abbrev S1024x1024 : Shape := ⟨2, ![1024, 1024]⟩
abbrev S1 : Shape := ⟨1, ![1]⟩
abbrev S_ : Shape := ⟨0, ![]⟩
abbrev S128x2048 : Shape := ⟨2, ![128, 2048]⟩
abbrev S128x1x8x2x64 : Shape := ⟨5, ![128, 1, 8, 2, 64]⟩
abbrev S8 : Shape := ⟨1, ![8]⟩
abbrev S1x1 : Shape := ⟨2, ![1, 1]⟩
abbrev S1x8 : Shape := ⟨2, ![1, 8]⟩
abbrev S1x1x1x1x8 : Shape := ⟨5, ![1, 1, 1, 1, 8]⟩
abbrev S128x1x8x2x8 : Shape := ⟨5, ![128, 1, 8, 2, 8]⟩
abbrev S128x1x8x2x48 : Shape := ⟨5, ![128, 1, 8, 2, 48]⟩
abbrev S128x1x8x128 : Shape := ⟨4, ![128, 1, 8, 128]⟩

abbrev nBuf : Space → Nat
  | .hbm => 95
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x2048, .f32⟩
  | .hbm, ⟨2, _⟩ => ⟨S1024x1024, .f32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S128x2048, .f32⟩
  | .hbm, ⟨8, _⟩ => ⟨S128x1024, .f32⟩
  | .hbm, ⟨9, _⟩ => ⟨S128x1x8x2x64, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S1, .f32⟩
  | .hbm, ⟨25, _⟩ => ⟨S1x1, .f32⟩
  | .hbm, ⟨26, _⟩ => ⟨S1x8, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S1x1x1x1x8, .f32⟩
  | .hbm, ⟨31, _⟩ => ⟨S1x8, .f32⟩
  | .hbm, ⟨32, _⟩ => ⟨S1x1x1x1x8, .f32⟩
  | .hbm, ⟨33, _⟩ => ⟨S128x1x8x2x8, .f32⟩
  | .hbm, ⟨34, _⟩ => ⟨S128x1x8x2x8, .f32⟩
  | .hbm, ⟨35, _⟩ => ⟨S128x1x8x2x8, .f32⟩
  | .hbm, ⟨36, _⟩ => ⟨S128x1x8x2x8, .f32⟩
  | .hbm, ⟨37, _⟩ => ⟨S128x1x8x2x8, .f32⟩
  | .hbm, ⟨38, _⟩ => ⟨S128x1x8x2x8, .f32⟩
  | .hbm, ⟨39, _⟩ => ⟨S128x1x8x2x8, .f32⟩
  | .hbm, ⟨40, _⟩ => ⟨S128x1x8x2x8, .f32⟩
  | .hbm, ⟨41, _⟩ => ⟨S128x1x8x2x8, .f32⟩
  | .hbm, ⟨42, _⟩ => ⟨S128x1x8x2x8, .f32⟩
  | .hbm, ⟨43, _⟩ => ⟨S128x1x8x2x8, .f32⟩
  | .hbm, ⟨44, _⟩ => ⟨S128x1x8x2x8, .f32⟩
  | .hbm, ⟨45, _⟩ => ⟨S128x1x8x2x48, .f32⟩
  | .hbm, ⟨46, _⟩ => ⟨S128x1x8x2x64, .f32⟩
  | .hbm, ⟨47, _⟩ => ⟨S128x1024, .f32⟩
  | .hbm, ⟨48, _⟩ => ⟨S128x1x8x128, .f32⟩
  | .hbm, ⟨49, _⟩ => ⟨S128x1024, .f32⟩
  | .hbm, ⟨50, _⟩ => ⟨S128x1x8x2x64, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S_, .f32⟩
  | .hbm, ⟨63, _⟩ => ⟨S8, .f32⟩
  | .hbm, ⟨64, _⟩ => ⟨S8, .f32⟩
  | .hbm, ⟨65, _⟩ => ⟨S1, .f32⟩
  | .hbm, ⟨66, _⟩ => ⟨S1x1, .f32⟩
  | .hbm, ⟨67, _⟩ => ⟨S1x8, .f32⟩
  | .hbm, ⟨68, _⟩ => ⟨S1x8, .f32⟩
  | .hbm, ⟨69, _⟩ => ⟨S1x8, .f32⟩
  | .hbm, ⟨70, _⟩ => ⟨S1x8, .f32⟩
  | .hbm, ⟨71, _⟩ => ⟨S1x1x1x1x8, .f32⟩
  | .hbm, ⟨72, _⟩ => ⟨S1x8, .f32⟩
  | .hbm, ⟨73, _⟩ => ⟨S1x1x1x1x8, .f32⟩
  | .hbm, ⟨74, _⟩ => ⟨S128x1x8x2x8, .f32⟩
  | .hbm, ⟨75, _⟩ => ⟨S128x1x8x2x8, .f32⟩
  | .hbm, ⟨76, _⟩ => ⟨S128x1x8x2x8, .f32⟩
  | .hbm, ⟨77, _⟩ => ⟨S128x1x8x2x8, .f32⟩
  | .hbm, ⟨78, _⟩ => ⟨S128x1x8x2x8, .f32⟩
  | .hbm, ⟨79, _⟩ => ⟨S128x1x8x2x8, .f32⟩
  | .hbm, ⟨80, _⟩ => ⟨S128x1x8x2x8, .f32⟩
  | .hbm, ⟨81, _⟩ => ⟨S128x1x8x2x8, .f32⟩
  | .hbm, ⟨82, _⟩ => ⟨S128x1x8x2x8, .f32⟩
  | .hbm, ⟨83, _⟩ => ⟨S128x1x8x2x8, .f32⟩
  | .hbm, ⟨84, _⟩ => ⟨S128x1x8x2x8, .f32⟩
  | .hbm, ⟨85, _⟩ => ⟨S128x1x8x2x8, .f32⟩
  | .hbm, ⟨86, _⟩ => ⟨S128x1x8x2x48, .f32⟩
  | .hbm, ⟨87, _⟩ => ⟨S128x1x8x2x64, .f32⟩
  | .hbm, ⟨88, _⟩ => ⟨S128x1024, .f32⟩
  | .hbm, ⟨89, _⟩ => ⟨S128x1024, .f32⟩
  | .hbm, ⟨90, _⟩ => ⟨S_, .f32⟩
  | .hbm, ⟨91, _⟩ => ⟨S128x1x8x2x64, .f32⟩
  | .hbm, ⟨92, _⟩ => ⟨S128x1x8x2x64, .f32⟩
  | .hbm, ⟨93, _⟩ => ⟨S128x1024, .f32⟩
  | .hbm, ⟨94, _⟩ => ⟨S128x1024, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_7 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩

abbrev nD : Nat := 1
abbrev τ : Topo := Topo.v7x

variable {F : FTy → Type} [FloatOps F]
-- ==== Proof.Attn.Cut.lean ====
module

public import proofs.«01_k».proof.Proof.Gen.KernelIdeal.Skeleton
public import proofs.«01_k».proof.Proof.Gen.KernelIdeal.Launch
public import Idealize.ShloMosaic.Lib.Tactic.Stretches
public import Idealize.ShloMosaic.Lib.Tactic

@[expose] public section

set_option synthInstance.maxSize 4096
set_option maxRecDepth 16384
set_option Elab.async false

namespace Cert.KernelIdeal.Attn

open Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.Rounds
open Cert.KernelIdeal Cert.KernelIdeal.Gen

variable {F : FTy → Type} [FloatOps F] [Named F]

local notation "𝕄" => MT nD τ sig Unit (Elt F) ℕ (UR sig nD τ) ℕ

cut_chain att := cc0_attention_skel at 2, 3, 4

end Cert.KernelIdeal.Attn
end
-- ==== Proof.Attn.Run1.lean ====
module

public import proofs.«01_k».proof.Proof.Gen.KernelIdeal.Skeleton
public import proofs.«01_k».proof.Proof.Gen.KernelIdeal.Launch
public import Idealize.ShloMosaic.Lib.Tactic.Stretches
public import Idealize.ShloMosaic.Lib.Tactic
public import proofs.«01_k».proof.Proof.Attn.Cut

@[expose] public section

set_option synthInstance.maxSize 4096
set_option maxRecDepth 16384
set_option Elab.async false

namespace Cert.KernelIdeal.Attn

open Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 4000000 in
theorem seg1 (c : Dev nD) (i : grid0.Coords) (arg4 : Memref sig .tc .smem S2048 .i32) (harg4 : arg4.IsWhole) (arg5 : Memref sig .tc .vmem S1x8x128x512 .bf16) (harg5 : arg5.IsWhole) (arg6 : Memref sig .tc .vmem S1x8x512x128 .bf16) (harg6 : arg6.IsWhole) (arg7 : Memref sig .tc .vmem S1x8x128x512 .bf16) (harg7 : arg7.IsWhole) (arg8 : Memref sig .tc .vmem S2x64 .f32) (harg8 : arg8.IsWhole) (arg9 : Memref sig .tc .vmem S2x64 .f32) (harg9 : arg9.IsWhole) (arg10 : Memref sig .tc .vmem S2x64 .f32) (harg10 : arg10.IsWhole) (arg11 : Memref sig .tc .vmem S2x64 .f32) (harg11 : arg11.IsWhole) (arg12 : Memref sig .tc .vmem S2x128 .f32) (harg12 : arg12.IsWhole) (arg13 : Memref sig .tc .vmem S1x1x1024 .bf16) (harg13 : arg13.IsWhole) (arg14 : Memref sig .tc .vmem S1x1x1024 .bf16) (harg14 : arg14.IsWhole) (arg15 : Memref sig .tc .vmem S1x8x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x1024x128 .f32) (harg24 : arg24.IsWhole) (arg25 : Memref sig .tc .vmem S1x1024x128 .f32) (harg25 : arg25.IsWhole) (arg26 : Memref sig .tc .vmem S1x1024x128 .f32) (harg26 : arg26.IsWhole) (arg27 : Memref sig .tc .vmem S1x1024x128 .f32) (harg27 : arg27.IsWhole) (arg28 : Memref sig .tc .vmem S1x1024x128 .f32) (harg28 : arg28.IsWhole) (arg29 : Memref sig .tc .vmem S1x1024x128 .f32) (harg29 : arg29.IsWhole) (arg30 : Memref sig .tc .vmem S1x1024x128 .f32) (harg30 : arg30.IsWhole) (arg31 : Memref sig .tc .vmem S1x1024x128 .f32) (harg31 : arg31.IsWhole) (arg32 : Memref sig .tc .vmem S1x512x1024 .bf16) (harg32 : arg32.IsWhole) (arg33 : Memref sig .tc .vmem S1x8x128 .f32) (harg33 : arg33.IsWhole) (arg34 : Memref sig .tc .vmem S8x128x1024 .bf16) (harg34 : arg34.IsWhole) (arg35 : Memref sig .tc .vmem S8x1x1024 .f32) (harg35 : arg35.IsWhole) (arg36 : Memref sig .tc .vmem S8x144x1024 .f32) (harg36 : arg36.IsWhole) (arg37 : Memref sig .tc .vmem S512x1024 .f32) (harg37 : arg37.IsWhole) (arg38 : Memref sig .tc .vmem S16x128 .f32) (harg38 : arg38.IsWhole) (arg39 : Memref sig .tc .vmem S16x128 .f32) (harg39 : arg39.IsWhole) (arg40 : Memref sig .tc .vmem S16x128 .f32) (harg40 : arg40.IsWhole) (arg41 : Memref sig .tc .vmem S128x1024 .bf16) (harg41 : arg41.IsWhole)
    (T2 : Buf (Elt F) ((c.tc : Thread nD τ).loc main_c)) (T3 : Buf (Elt F) ((c.tc : Thread nD τ).loc main_c_0)) (x8 : Vec F S2x64 .f32) (x9 : Vec F S2x64 .f32) (x10 : Vec F S2x64 .f32) (x11 : Vec F S2x64 .f32) (x12 : Vec F S2x128 .f32) (x13 : Vec F S1x1x1024 .bf16) (x14 : Vec F S1x1x1024 .bf16) (x15 : Vec F S1x8x128 .f32) (x16 : Vec F S1x1024x128 .f32) (x17 : Vec F S1x1024x128 .f32) (x18 : Vec F S1x1024x128 .f32) (x19 : Vec F S1x1024x128 .f32) (x20 : Vec F S1x1024x128 .f32) (x21 : Vec F S1x1024x128 .f32) (x22 : Vec F S1x1024x128 .f32) (x23 : Vec F S1x1024x128 .f32) (x24 : Vec F S1x1024x128 .f32) (x25 : Vec F S1x1024x128 .f32) (x26 : Vec F S1x1024x128 .f32) (x27 : Vec F S1x1024x128 .f32) (x28 : Vec F S1x1024x128 .f32) (x29 : Vec F S1x1024x128 .f32) (x30 : Vec F S1x1024x128 .f32) (x31 : Vec F S1x1024x128 .f32)
    {R : Type} (κ : Elt F EltTy.i32 → Elt F EltTy.i32 → FVec F S1x1 FTy.f32 → FVec F S1x128 FTy.f32 → BitVec 32 → BitVec 32 → Prog (TpuEff nD τ sig (Elt F) Λ₀ .tc) R) (Q : R → sProp 𝕄) :
    iprop((((Memref.whole main_c).view.loc (c : Thread nD τ) ↦{fullShare.right} T2) ∗ ((Memref.whole main_c_0).view.loc (c : Thread nD τ) ↦{fullShare.right} T3) ∗ (arg8.view.loc (c : Thread nD τ) ↦[arg8.view.set]{fullShare} arg8.view.rep x8) ∗ (arg9.view.loc (c : Thread nD τ) ↦[arg9.view.set]{fullShare} arg9.view.rep x9) ∗ (arg10.view.loc (c : Thread nD τ) ↦[arg10.view.set]{fullShare} arg10.view.rep x10) ∗ (arg11.view.loc (c : Thread nD τ) ↦[arg11.view.set]{fullShare} arg11.view.rep x11) ∗ (arg12.view.loc (c : Thread nD τ) ↦[arg12.view.set]{fullShare} arg12.view.rep x12) ∗ (arg13.view.loc (c : Thread nD τ) ↦[arg13.view.set]{fullShare} arg13.view.rep x13) ∗ (arg14.view.loc (c : Thread nD τ) ↦[arg14.view.set]{fullShare} arg14.view.rep x14) ∗ (arg15.view.loc (c : Thread nD τ) ↦[arg15.view.set]{fullShare} arg15.view.rep x15) ∗ (arg16.view.loc (c : Thread nD τ) ↦[arg16.view.set]{fullShare} arg16.view.rep x16) ∗ (arg17.view.loc (c : Thread nD τ) ↦[arg17.view.set]{fullShare} arg17.view.rep x17) ∗ (arg18.view.loc (c : Thread nD τ) ↦[arg18.view.set]{fullShare} arg18.view.rep x18) ∗ (arg19.view.loc (c : Thread nD τ) ↦[arg19.view.set]{fullShare} arg19.view.rep x19) ∗ (arg20.view.loc (c : Thread nD τ) ↦[arg20.view.set]{fullShare} arg20.view.rep x20) ∗ (arg21.view.loc (c : Thread nD τ) ↦[arg21.view.set]{fullShare} arg21.view.rep x21) ∗ (arg22.view.loc (c : Thread nD τ) ↦[arg22.view.set]{fullShare} arg22.view.rep x22) ∗ (arg23.view.loc (c : Thread nD τ) ↦[arg23.view.set]{fullShare} arg23.view.rep x23) ∗ (arg24.view.loc (c : Thread nD τ) ↦[arg24.view.set]{fullShare} arg24.view.rep x24) ∗ (arg25.view.loc (c : Thread nD τ) ↦[arg25.view.set]{fullShare} arg25.view.rep x25) ∗ (arg26.view.loc (c : Thread nD τ) ↦[arg26.view.set]{fullShare} arg26.view.rep x26) ∗ (arg27.view.loc (c : Thread nD τ) ↦[arg27.view.set]{fullShare} arg27.view.rep x27) ∗ (arg28.view.loc (c : Thread nD τ) ↦[arg28.view.set]{fullShare} arg28.view.rep x28) ∗ (arg29.view.loc (c : Thread nD τ) ↦[arg29.view.set]{fullShare} arg29.view.rep x29) ∗ (arg30.view.loc (c : Thread nD τ) ↦[arg30.view.set]{fullShare} arg30.view.rep x30) ∗ (arg31.view.loc (c : Thread nD τ) ↦[arg31.view.set]{fullShare} arg31.view.rep x31) ∗ (∃ f, arg33.view.loc (c : Thread nD τ) ↦[arg33.view.set]{fullShare} f) ∗ (∃ f, arg37.view.loc (c : Thread nD τ) ↦[arg37.view.set]{fullShare} f) ∗ (∃ f, arg38.view.loc (c : Thread nD τ) ↦[arg38.view.set]{fullShare} f) ∗ (∃ f, arg39.view.loc (c : Thread nD τ) ↦[arg39.view.set]{fullShare} f) ∗ (∃ f, arg40.view.loc (c : Thread nD τ) ↦[arg40.view.set]{fullShare} f) ∗ (∃ f, arg41.view.loc (c : Thread nD τ) ↦[arg41.view.set]{fullShare} f)) ∗ (∀ v1 v3 v18 v21 v33 w, (((Memref.whole main_c).view.loc (c : Thread nD τ) ↦{fullShare.right} T2) ∗ ((Memref.whole main_c_0).view.loc (c : Thread nD τ) ↦{fullShare.right} T3) ∗ (arg8.view.loc (c : Thread nD τ) ↦[arg8.view.set]{fullShare} arg8.view.rep x8) ∗ (arg9.view.loc (c : Thread nD τ) ↦[arg9.view.set]{fullShare} arg9.view.rep x9) ∗ (arg10.view.loc (c : Thread nD τ) ↦[arg10.view.set]{fullShare} arg10.view.rep x10) ∗ (arg11.view.loc (c : Thread nD τ) ↦[arg11.view.set]{fullShare} arg11.view.rep x11) ∗ (arg12.view.loc (c : Thread nD τ) ↦[arg12.view.set]{fullShare} arg12.view.rep x12) ∗ (arg13.view.loc (c : Thread nD τ) ↦[arg13.view.set]{fullShare} arg13.view.rep x13) ∗ (arg14.view.loc (c : Thread nD τ) ↦[arg14.view.set]{fullShare} arg14.view.rep x14) ∗ (arg15.view.loc (c : Thread nD τ) ↦[arg15.view.set]{fullShare} arg15.view.rep x15) ∗ (arg16.view.loc (c : Thread nD τ) ↦[arg16.view.set]{fullShare} arg16.view.rep x16) ∗ (arg17.view.loc (c : Thread nD τ) ↦[arg17.view.set]{fullShare} arg17.view.rep x17) ∗ (arg18.view.loc (c : Thread nD τ) ↦[arg18.view.set]{fullShare} arg18.view.rep x18) ∗ (arg19.view.loc (c : Thread nD τ) ↦[arg19.view.set]{fullShare} arg19.view.rep x19) ∗ (arg20.view.loc (c : Thread nD τ) ↦[arg20.view.set]{fullShare} arg20.view.rep x20) ∗ (arg21.view.loc (c : Thread nD τ) ↦[arg21.view.set]{fullShare} arg21.view.rep x21) ∗ (arg22.view.loc (c : Thread nD τ) ↦[arg22.view.set]{fullShare} arg22.view.rep x22) ∗ (arg23.view.loc (c : Thread nD τ) ↦[arg23.view.set]{fullShare} arg23.view.rep x23) ∗ (arg24.view.loc (c : Thread nD τ) ↦[arg24.view.set]{fullShare} arg24.view.rep x24) ∗ (arg25.view.loc (c : Thread nD τ) ↦[arg25.view.set]{fullShare} arg25.view.rep x25) ∗ (arg26.view.loc (c : Thread nD τ) ↦[arg26.view.set]{fullShare} arg26.view.rep x26) ∗ (arg27.view.loc (c : Thread nD τ) ↦[arg27.view.set]{fullShare} arg27.view.rep x27) ∗ (arg28.view.loc (c : Thread nD τ) ↦[arg28.view.set]{fullShare} arg28.view.rep x28) ∗ (arg29.view.loc (c : Thread nD τ) ↦[arg29.view.set]{fullShare} arg29.view.rep x29) ∗ (arg30.view.loc (c : Thread nD τ) ↦[arg30.view.set]{fullShare} arg30.view.rep x30) ∗ (arg31.view.loc (c : Thread nD τ) ↦[arg31.view.set]{fullShare} arg31.view.rep x31) ∗ (∃ f, arg33.view.loc (c : Thread nD τ) ↦[arg33.view.set]{fullShare} f) ∗ (∃ f, arg37.view.loc (c : Thread nD τ) ↦[arg37.view.set]{fullShare} f) ∗ (∃ f, arg38.view.loc (c : Thread nD τ) ↦[arg38.view.set]{fullShare} f) ∗ (∃ f, arg39.view.loc (c : Thread nD τ) ↦[arg39.view.set]{fullShare} f) ∗ (∃ f, arg40.view.loc (c : Thread nD τ) ↦[arg40.view.set]{fullShare} f) ∗ (∃ f, arg41.view.loc (c : Thread nD τ) ↦[arg41.view.set]{fullShare} f)) -∗ wp frame (wpE (defs₀ (F := F)) Variants.none c none) Set.univ (κ v1 v3 v18 v21 v33 w) Q))
      ⊢ wp frame (wpE (defs₀ (F := F)) Variants.none c none) Set.univ (att1 i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 κ) Q := by
  iintro ⟨⟨HT2, HT3, H8, H9, H10, H11, H12, H13, H14, H15, H16, H17, H18, H19, H20, H21, H22, H23, H24, H25, H26, H27, H28, H29, H30, H31, ⟨%f33, H33⟩, ⟨%f37, H37⟩, ⟨%f38, H38⟩, ⟨%f39, H39⟩, ⟨%f40, H40⟩, ⟨%f41, H41⟩⟩, Hk⟩
  by_cases hC1 : Scalar.cmpi .ne (Scalar.extui (Scalar.andi (Scalar.cmpi .eq (BitVec.ofNat 32 (i 0).val) 0#32) (Scalar.cmpi .eq (BitVec.ofNat 32 (i 1).val) 0#32))) 0#32 = 1#1
  · by_cases hC2 : k0_cond2 i = 1#1
    · by_cases hC3 : Scalar.cmpi .ne (Scalar.extui (Scalar.cmpi .eq (Scalar.andi (Scalar.addi (Scalar.muli (BitVec.ofNat 32 (i 0).val) 136#32) (BitVec.ofNat 32 (i 1).val)) 1#32) 0#32)) 0#32 = 1#1
      · by_cases hC4 : k0_cond4 i = 1#1
        · sl_exec_parts
          iapply Hk
          isplitl [HT2]; · iexact HT2
          isplitl [HT3]; · iexact HT3
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]; · iexact H25
          isplitl [H26]; · iexact H26
          isplitl [H27]; · iexact H27
          isplitl [H28]; · iexact H28
          isplitl [H29]; · iexact H29
          isplitl [H30]; · iexact H30
          isplitl [H31]; · iexact H31
          isplitl [H33]; · iexists _; iexact H33
          isplitl [H37]; · iexists _; iexact H37
          isplitl [H38]; · iexists _; iexact H38
          isplitl [H39]; · iexists _; iexact H39
          isplitl [H40]; · iexists _; iexact H40
          iexists _; iexact H41
        · sl_exec_parts
          iapply Hk
          isplitl [HT2]; · iexact HT2
          isplitl [HT3]; · iexact HT3
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]; · iexact H25
          isplitl [H26]; · iexact H26
          isplitl [H27]; · iexact H27
          isplitl [H28]; · iexact H28
          isplitl [H29]; · iexact H29
          isplitl [H30]; · iexact H30
          isplitl [H31]; · iexact H31
          isplitl [H33]; · iexists _; iexact H33
          isplitl [H37]; · iexists _; iexact H37
          isplitl [H38]; · iexists _; iexact H38
          isplitl [H39]; · iexists _; iexact H39
          isplitl [H40]; · iexists _; iexact H40
          iexists _; iexact H41
      · by_cases hC4 : k0_cond4 i = 1#1
        · sl_exec_parts
          iapply Hk
          isplitl [HT2]; · iexact HT2
          isplitl [HT3]; · iexact HT3
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]; · iexact H25
          isplitl [H26]; · iexact H26
          isplitl [H27]; · iexact H27
          isplitl [H28]; · iexact H28
          isplitl [H29]; · iexact H29
          isplitl [H30]; · iexact H30
          isplitl [H31]; · iexact H31
          isplitl [H33]; · iexists _; iexact H33
          isplitl [H37]; · iexists _; iexact H37
          isplitl [H38]; · iexists _; iexact H38
          isplitl [H39]; · iexists _; iexact H39
          isplitl [H40]; · iexists _; iexact H40
          iexists _; iexact H41
        · sl_exec_parts
          iapply Hk
          isplitl [HT2]; · iexact HT2
          isplitl [HT3]; · iexact HT3
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]; · iexact H25
          isplitl [H26]; · iexact H26
          isplitl [H27]; · iexact H27
          isplitl [H28]; · iexact H28
          isplitl [H29]; · iexact H29
          isplitl [H30]; · iexact H30
          isplitl [H31]; · iexact H31
          isplitl [H33]; · iexists _; iexact H33
          isplitl [H37]; · iexists _; iexact H37
          isplitl [H38]; · iexists _; iexact H38
          isplitl [H39]; · iexists _; iexact H39
          isplitl [H40]; · iexists _; iexact H40
          iexists _; iexact H41
    · sl_exec_parts
      iapply Hk
      isplitl [HT2]; · iexact HT2
      isplitl [HT3]; · iexact HT3
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H33]; · iexists _; iexact H33
      isplitl [H37]; · iexists _; iexact H37
      isplitl [H38]; · iexists _; iexact H38
      isplitl [H39]; · iexists _; iexact H39
      isplitl [H40]; · iexists _; iexact H40
      iexists _; iexact H41
  · by_cases hC2 : k0_cond2 i = 1#1
    · by_cases hC3 : Scalar.cmpi .ne (Scalar.extui (Scalar.cmpi .eq (Scalar.andi (Scalar.addi (Scalar.muli (BitVec.ofNat 32 (i 0).val) 136#32) (BitVec.ofNat 32 (i 1).val)) 1#32) 0#32)) 0#32 = 1#1
      · by_cases hC4 : k0_cond4 i = 1#1
        · sl_exec_parts
          iapply Hk
          isplitl [HT2]; · iexact HT2
          isplitl [HT3]; · iexact HT3
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]; · iexact H25
          isplitl [H26]; · iexact H26
          isplitl [H27]; · iexact H27
          isplitl [H28]; · iexact H28
          isplitl [H29]; · iexact H29
          isplitl [H30]; · iexact H30
          isplitl [H31]; · iexact H31
          isplitl [H33]; · iexists _; iexact H33
          isplitl [H37]; · iexists _; iexact H37
          isplitl [H38]; · iexists _; iexact H38
          isplitl [H39]; · iexists _; iexact H39
          isplitl [H40]; · iexists _; iexact H40
          iexists _; iexact H41
        · sl_exec_parts
          iapply Hk
          isplitl [HT2]; · iexact HT2
          isplitl [HT3]; · iexact HT3
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]; · iexact H25
          isplitl [H26]; · iexact H26
          isplitl [H27]; · iexact H27
          isplitl [H28]; · iexact H28
          isplitl [H29]; · iexact H29
          isplitl [H30]; · iexact H30
          isplitl [H31]; · iexact H31
          isplitl [H33]; · iexists _; iexact H33
          isplitl [H37]; · iexists _; iexact H37
          isplitl [H38]; · iexists _; iexact H38
          isplitl [H39]; · iexists _; iexact H39
          isplitl [H40]; · iexists _; iexact H40
          iexists _; iexact H41
      · by_cases hC4 : k0_cond4 i = 1#1
        · sl_exec_parts
          iapply Hk
          isplitl [HT2]; · iexact HT2
          isplitl [HT3]; · iexact HT3
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]; · iexact H25
          isplitl [H26]; · iexact H26
          isplitl [H27]; · iexact H27
          isplitl [H28]; · iexact H28
          isplitl [H29]; · iexact H29
          isplitl [H30]; · iexact H30
          isplitl [H31]; · iexact H31
          isplitl [H33]; · iexists _; iexact H33
          isplitl [H37]; · iexists _; iexact H37
          isplitl [H38]; · iexists _; iexact H38
          isplitl [H39]; · iexists _; iexact H39
          isplitl [H40]; · iexists _; iexact H40
          iexists _; iexact H41
        · sl_exec_parts
          iapply Hk
          isplitl [HT2]; · iexact HT2
          isplitl [HT3]; · iexact HT3
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]; · iexact H25
          isplitl [H26]; · iexact H26
          isplitl [H27]; · iexact H27
          isplitl [H28]; · iexact H28
          isplitl [H29]; · iexact H29
          isplitl [H30]; · iexact H30
          isplitl [H31]; · iexact H31
          isplitl [H33]; · iexists _; iexact H33
          isplitl [H37]; · iexists _; iexact H37
          isplitl [H38]; · iexists _; iexact H38
          isplitl [H39]; · iexists _; iexact H39
          isplitl [H40]; · iexists _; iexact H40
          iexists _; iexact H41
    · sl_exec_parts
      iapply Hk
      isplitl [HT2]; · iexact HT2
      isplitl [HT3]; · iexact HT3
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H33]; · iexists _; iexact H33
      isplitl [H37]; · iexists _; iexact H37
      isplitl [H38]; · iexists _; iexact H38
      isplitl [H39]; · iexists _; iexact H39
      isplitl [H40]; · iexists _; iexact H40
      iexists _; iexact H41

end Cert.KernelIdeal.Attn

end
-- ==== Proof.Attn.Run2.lean ====
module

public import proofs.«01_k».proof.Proof.Gen.KernelIdeal.Skeleton
public import proofs.«01_k».proof.Proof.Gen.KernelIdeal.Launch
public import Idealize.ShloMosaic.Lib.Tactic.Stretches
public import Idealize.ShloMosaic.Lib.Tactic
public import proofs.«01_k».proof.Proof.Attn.Cut

@[expose] public section

set_option synthInstance.maxSize 4096
set_option maxRecDepth 16384
set_option Elab.async false

namespace Cert.KernelIdeal.Attn

open Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.Rounds
open Cert.KernelIdeal Cert.KernelIdeal.Gen

variable {F : FTy → Type} [FloatOps F] [Named F]

local notation "𝕄" => MT nD τ sig Unit (Elt F) ℕ (UR sig nD τ) ℕ

theorem seg2 (c : Dev nD) (i : grid0.Coords) (arg2 : Memref sig .tc .smem S136 .i32) (harg2 : arg2.IsWhole) (arg3 : Memref sig .tc .smem S136 .i32) (harg3 : arg3.IsWhole) (arg4 : Memref sig .tc .smem S2048 .i32) (harg4 : arg4.IsWhole) (arg5 : Memref sig .tc .vmem S1x8x128x512 .bf16) (harg5 : arg5.IsWhole) (arg6 : Memref sig .tc .vmem S1x8x512x128 .bf16) (harg6 : arg6.IsWhole) (arg7 : Memref sig .tc .vmem S1x8x128x512 .bf16) (harg7 : arg7.IsWhole) (arg8 : Memref sig .tc .vmem S2x64 .f32) (harg8 : arg8.IsWhole) (arg9 : Memref sig .tc .vmem S2x64 .f32) (harg9 : arg9.IsWhole) (arg10 : Memref sig .tc .vmem S2x64 .f32) (harg10 : arg10.IsWhole) (arg11 : Memref sig .tc .vmem S2x64 .f32) (harg11 : arg11.IsWhole) (arg12 : Memref sig .tc .vmem S2x128 .f32) (harg12 : arg12.IsWhole) (arg13 : Memref sig .tc .vmem S1x1x1024 .bf16) (harg13 : arg13.IsWhole) (arg14 : Memref sig .tc .vmem S1x1x1024 .bf16) (harg14 : arg14.IsWhole) (arg15 : Memref sig .tc .vmem S1x8x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x1024x128 .f32) (harg24 : arg24.IsWhole) (arg25 : Memref sig .tc .vmem S1x1024x128 .f32) (harg25 : arg25.IsWhole) (arg26 : Memref sig .tc .vmem S1x1024x128 .f32) (harg26 : arg26.IsWhole) (arg27 : Memref sig .tc .vmem S1x1024x128 .f32) (harg27 : arg27.IsWhole) (arg28 : Memref sig .tc .vmem S1x1024x128 .f32) (harg28 : arg28.IsWhole) (arg29 : Memref sig .tc .vmem S1x1024x128 .f32) (harg29 : arg29.IsWhole) (arg30 : Memref sig .tc .vmem S1x1024x128 .f32) (harg30 : arg30.IsWhole) (arg31 : Memref sig .tc .vmem S1x1024x128 .f32) (harg31 : arg31.IsWhole) (arg32 : Memref sig .tc .vmem S1x512x1024 .bf16) (harg32 : arg32.IsWhole) (arg33 : Memref sig .tc .vmem S1x8x128 .f32) (harg33 : arg33.IsWhole) (arg34 : Memref sig .tc .vmem S8x128x1024 .bf16) (harg34 : arg34.IsWhole) (arg35 : Memref sig .tc .vmem S8x1x1024 .f32) (harg35 : arg35.IsWhole) (arg36 : Memref sig .tc .vmem S8x144x1024 .f32) (harg36 : arg36.IsWhole) (arg37 : Memref sig .tc .vmem S512x1024 .f32) (harg37 : arg37.IsWhole) (arg38 : Memref sig .tc .vmem S16x128 .f32) (harg38 : arg38.IsWhole) (arg39 : Memref sig .tc .vmem S16x128 .f32) (harg39 : arg39.IsWhole) (arg40 : Memref sig .tc .vmem S16x128 .f32) (harg40 : arg40.IsWhole) (arg41 : Memref sig .tc .vmem S128x1024 .bf16) (harg41 : arg41.IsWhole) (v33 c0 : BitVec 32) (x5 : Vec F S1x8x128x512 .bf16)
    {R : Type} (κ : Prog (TpuEff nD τ sig (Elt F) Λ₀ .tc) R) (Q : R → sProp 𝕄) :
    iprop(((arg5.view.loc (c : Thread nD τ) ↦[arg5.view.set]{fullShare} arg5.view.rep x5) ∗ (∃ f, arg34.view.loc (c : Thread nD τ) ↦[arg34.view.set]{fullShare} f) ∗ (∃ f, arg35.view.loc (c : Thread nD τ) ↦[arg35.view.set]{fullShare} f) ∗ (∃ f, arg36.view.loc (c : Thread nD τ) ↦[arg36.view.set]{fullShare} f)) ∗ (((arg5.view.loc (c : Thread nD τ) ↦[arg5.view.set]{fullShare} arg5.view.rep x5) ∗ (∃ f, arg34.view.loc (c : Thread nD τ) ↦[arg34.view.set]{fullShare} f) ∗ (∃ f, arg35.view.loc (c : Thread nD τ) ↦[arg35.view.set]{fullShare} f) ∗ (∃ f, arg36.view.loc (c : Thread nD τ) ↦[arg36.view.set]{fullShare} f)) -∗ wp frame (wpE (defs₀ (F := F)) Variants.none c none) Set.univ κ Q))
      ⊢ wp frame (wpE (defs₀ (F := F)) Variants.none c none) Set.univ (att2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v33 c0 κ) Q := by
  iintro ⟨⟨H5, ⟨%f34, H34⟩, ⟨%f35, H35⟩, ⟨%f36, H36⟩⟩, Hk⟩
  by_cases hC : Scalar.cmpi .ne v33 c0 = 1#1
  · sl_exec_parts
    iapply Hk
    isplitl [H5]; · iexact H5
    isplitl [H34]; · iexists _; iexact H34
    isplitl [H35]; · iexists _; iexact H35
    iexists _; iexact H36
  · sl_exec_parts
    iapply Hk
    isplitl [H5]; · iexact H5
    isplitl [H34]; · iexists _; iexact H34
    isplitl [H35]; · iexists _; iexact H35
    iexists _; iexact H36

theorem seg3 (c : Dev nD) (i : grid0.Coords) (arg2 : Memref sig .tc .smem S136 .i32) (harg2 : arg2.IsWhole) (arg3 : Memref sig .tc .smem S136 .i32) (harg3 : arg3.IsWhole) (arg4 : Memref sig .tc .smem S2048 .i32) (harg4 : arg4.IsWhole) (arg5 : Memref sig .tc .vmem S1x8x128x512 .bf16) (harg5 : arg5.IsWhole) (arg6 : Memref sig .tc .vmem S1x8x512x128 .bf16) (harg6 : arg6.IsWhole) (arg7 : Memref sig .tc .vmem S1x8x128x512 .bf16) (harg7 : arg7.IsWhole) (arg8 : Memref sig .tc .vmem S2x64 .f32) (harg8 : arg8.IsWhole) (arg9 : Memref sig .tc .vmem S2x64 .f32) (harg9 : arg9.IsWhole) (arg10 : Memref sig .tc .vmem S2x64 .f32) (harg10 : arg10.IsWhole) (arg11 : Memref sig .tc .vmem S2x64 .f32) (harg11 : arg11.IsWhole) (arg12 : Memref sig .tc .vmem S2x128 .f32) (harg12 : arg12.IsWhole) (arg13 : Memref sig .tc .vmem S1x1x1024 .bf16) (harg13 : arg13.IsWhole) (arg14 : Memref sig .tc .vmem S1x1x1024 .bf16) (harg14 : arg14.IsWhole) (arg15 : Memref sig .tc .vmem S1x8x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x1024x128 .f32) (harg24 : arg24.IsWhole) (arg25 : Memref sig .tc .vmem S1x1024x128 .f32) (harg25 : arg25.IsWhole) (arg26 : Memref sig .tc .vmem S1x1024x128 .f32) (harg26 : arg26.IsWhole) (arg27 : Memref sig .tc .vmem S1x1024x128 .f32) (harg27 : arg27.IsWhole) (arg28 : Memref sig .tc .vmem S1x1024x128 .f32) (harg28 : arg28.IsWhole) (arg29 : Memref sig .tc .vmem S1x1024x128 .f32) (harg29 : arg29.IsWhole) (arg30 : Memref sig .tc .vmem S1x1024x128 .f32) (harg30 : arg30.IsWhole) (arg31 : Memref sig .tc .vmem S1x1024x128 .f32) (harg31 : arg31.IsWhole) (arg32 : Memref sig .tc .vmem S1x512x1024 .bf16) (harg32 : arg32.IsWhole) (arg33 : Memref sig .tc .vmem S1x8x128 .f32) (harg33 : arg33.IsWhole) (arg34 : Memref sig .tc .vmem S8x128x1024 .bf16) (harg34 : arg34.IsWhole) (arg35 : Memref sig .tc .vmem S8x1x1024 .f32) (harg35 : arg35.IsWhole) (arg36 : Memref sig .tc .vmem S8x144x1024 .f32) (harg36 : arg36.IsWhole) (arg37 : Memref sig .tc .vmem S512x1024 .f32) (harg37 : arg37.IsWhole) (arg38 : Memref sig .tc .vmem S16x128 .f32) (harg38 : arg38.IsWhole) (arg39 : Memref sig .tc .vmem S16x128 .f32) (harg39 : arg39.IsWhole) (arg40 : Memref sig .tc .vmem S16x128 .f32) (harg40 : arg40.IsWhole) (arg41 : Memref sig .tc .vmem S128x1024 .bf16) (harg41 : arg41.IsWhole) (v1 v3 : Elt F .i32) (x6 : Vec F S1x8x512x128 .bf16) (x7 : Vec F S1x8x128x512 .bf16)
    {R : Type} (κ : Prog (TpuEff nD τ sig (Elt F) Λ₀ .tc) R) (Q : R → sProp 𝕄) :
    iprop(((arg6.view.loc (c : Thread nD τ) ↦[arg6.view.set]{fullShare} arg6.view.rep x6) ∗ (arg7.view.loc (c : Thread nD τ) ↦[arg7.view.set]{fullShare} arg7.view.rep x7) ∗ (∃ f, arg34.view.loc (c : Thread nD τ) ↦[arg34.view.set]{fullShare} f) ∗ (∃ f, arg35.view.loc (c : Thread nD τ) ↦[arg35.view.set]{fullShare} f) ∗ (∃ f, arg36.view.loc (c : Thread nD τ) ↦[arg36.view.set]{fullShare} f)) ∗ (((arg6.view.loc (c : Thread nD τ) ↦[arg6.view.set]{fullShare} arg6.view.rep x6) ∗ (arg7.view.loc (c : Thread nD τ) ↦[arg7.view.set]{fullShare} arg7.view.rep x7) ∗ (∃ f, arg34.view.loc (c : Thread nD τ) ↦[arg34.view.set]{fullShare} f) ∗ (∃ f, arg35.view.loc (c : Thread nD τ) ↦[arg35.view.set]{fullShare} f) ∗ (∃ f, arg36.view.loc (c : Thread nD τ) ↦[arg36.view.set]{fullShare} f)) -∗ wp frame (wpE (defs₀ (F := F)) Variants.none c none) Set.univ κ Q))
      ⊢ wp frame (wpE (defs₀ (F := F)) Variants.none c none) Set.univ (att3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v1 v3 κ) Q := by
  iintro ⟨⟨H6, H7, ⟨%f34, H34⟩, ⟨%f35, H35⟩, ⟨%f36, H36⟩⟩, Hk⟩
  by_cases hC : Scalar.cmpi .ne (Scalar.extui (Scalar.cmpi .slt v3 v1)) 0#32 = 1#1
  · sl_exec_parts
    iapply Hk
    isplitl [H6]; · iexact H6
    isplitl [H7]; · iexact H7
    isplitl [H34]; · iexists _; iexact H34
    isplitl [H35]; · iexists _; iexact H35
    iexists _; iexact H36
  · sl_exec_parts
    iapply Hk
    isplitl [H6]; · iexact H6
    isplitl [H7]; · iexact H7
    isplitl [H34]; · iexists _; iexact H34
    isplitl [H35]; · iexists _; iexact H35
    iexists _; iexact H36

theorem seg4 (c : Dev nD) (i : grid0.Coords) (arg2 : Memref sig .tc .smem S136 .i32) (harg2 : arg2.IsWhole) (arg3 : Memref sig .tc .smem S136 .i32) (harg3 : arg3.IsWhole) (arg4 : Memref sig .tc .smem S2048 .i32) (harg4 : arg4.IsWhole) (arg5 : Memref sig .tc .vmem S1x8x128x512 .bf16) (harg5 : arg5.IsWhole) (arg6 : Memref sig .tc .vmem S1x8x512x128 .bf16) (harg6 : arg6.IsWhole) (arg7 : Memref sig .tc .vmem S1x8x128x512 .bf16) (harg7 : arg7.IsWhole) (arg8 : Memref sig .tc .vmem S2x64 .f32) (harg8 : arg8.IsWhole) (arg9 : Memref sig .tc .vmem S2x64 .f32) (harg9 : arg9.IsWhole) (arg10 : Memref sig .tc .vmem S2x64 .f32) (harg10 : arg10.IsWhole) (arg11 : Memref sig .tc .vmem S2x64 .f32) (harg11 : arg11.IsWhole) (arg12 : Memref sig .tc .vmem S2x128 .f32) (harg12 : arg12.IsWhole) (arg13 : Memref sig .tc .vmem S1x1x1024 .bf16) (harg13 : arg13.IsWhole) (arg14 : Memref sig .tc .vmem S1x1x1024 .bf16) (harg14 : arg14.IsWhole) (arg15 : Memref sig .tc .vmem S1x8x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x1024x128 .f32) (harg24 : arg24.IsWhole) (arg25 : Memref sig .tc .vmem S1x1024x128 .f32) (harg25 : arg25.IsWhole) (arg26 : Memref sig .tc .vmem S1x1024x128 .f32) (harg26 : arg26.IsWhole) (arg27 : Memref sig .tc .vmem S1x1024x128 .f32) (harg27 : arg27.IsWhole) (arg28 : Memref sig .tc .vmem S1x1024x128 .f32) (harg28 : arg28.IsWhole) (arg29 : Memref sig .tc .vmem S1x1024x128 .f32) (harg29 : arg29.IsWhole) (arg30 : Memref sig .tc .vmem S1x1024x128 .f32) (harg30 : arg30.IsWhole) (arg31 : Memref sig .tc .vmem S1x1024x128 .f32) (harg31 : arg31.IsWhole) (arg32 : Memref sig .tc .vmem S1x512x1024 .bf16) (harg32 : arg32.IsWhole) (arg33 : Memref sig .tc .vmem S1x8x128 .f32) (harg33 : arg33.IsWhole) (arg34 : Memref sig .tc .vmem S8x128x1024 .bf16) (harg34 : arg34.IsWhole) (arg35 : Memref sig .tc .vmem S8x1x1024 .f32) (harg35 : arg35.IsWhole) (arg36 : Memref sig .tc .vmem S8x144x1024 .f32) (harg36 : arg36.IsWhole) (arg37 : Memref sig .tc .vmem S512x1024 .f32) (harg37 : arg37.IsWhole) (arg38 : Memref sig .tc .vmem S16x128 .f32) (harg38 : arg38.IsWhole) (arg39 : Memref sig .tc .vmem S16x128 .f32) (harg39 : arg39.IsWhole) (arg40 : Memref sig .tc .vmem S16x128 .f32) (harg40 : arg40.IsWhole) (arg41 : Memref sig .tc .vmem S128x1024 .bf16) (harg41 : arg41.IsWhole) (v1 v3 : Elt F .i32) (v18 : FVec F S1x1 .f32) (v21 : FVec F S1x128 .f32) (x6 : Vec F S1x8x512x128 .bf16) (x7 : Vec F S1x8x128x512 .bf16)
    {R : Type} (κ : Prog (TpuEff nD τ sig (Elt F) Λ₀ .tc) R) (Q : R → sProp 𝕄) :
    iprop(((arg6.view.loc (c : Thread nD τ) ↦[arg6.view.set]{fullShare} arg6.view.rep x6) ∗ (arg7.view.loc (c : Thread nD τ) ↦[arg7.view.set]{fullShare} arg7.view.rep x7) ∗ (∃ f, arg34.view.loc (c : Thread nD τ) ↦[arg34.view.set]{fullShare} f) ∗ (∃ f, arg35.view.loc (c : Thread nD τ) ↦[arg35.view.set]{fullShare} f) ∗ (∃ f, arg36.view.loc (c : Thread nD τ) ↦[arg36.view.set]{fullShare} f) ∗ (∃ f, arg37.view.loc (c : Thread nD τ) ↦[arg37.view.set]{fullShare} f) ∗ (∃ f, arg32.view.loc (c : Thread nD τ) ↦[arg32.view.set]{fullShare} f)) ∗ (((arg6.view.loc (c : Thread nD τ) ↦[arg6.view.set]{fullShare} arg6.view.rep x6) ∗ (arg7.view.loc (c : Thread nD τ) ↦[arg7.view.set]{fullShare} arg7.view.rep x7) ∗ (∃ f, arg34.view.loc (c : Thread nD τ) ↦[arg34.view.set]{fullShare} f) ∗ (∃ f, arg35.view.loc (c : Thread nD τ) ↦[arg35.view.set]{fullShare} f) ∗ (∃ f, arg36.view.loc (c : Thread nD τ) ↦[arg36.view.set]{fullShare} f) ∗ (∃ f, arg37.view.loc (c : Thread nD τ) ↦[arg37.view.set]{fullShare} f) ∗ (∃ f, arg32.view.loc (c : Thread nD τ) ↦[arg32.view.set]{fullShare} f)) -∗ wp frame (wpE (defs₀ (F := F)) Variants.none c none) Set.univ κ Q))
      ⊢ wp frame (wpE (defs₀ (F := F)) Variants.none c none) Set.univ (att4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v1 v3 v18 v21 κ) Q := by
  iintro ⟨⟨H6, H7, ⟨%f34, H34⟩, ⟨%f35, H35⟩, ⟨%f36, H36⟩, ⟨%f37, H37⟩, ⟨%f32, H32⟩⟩, Hk⟩
  by_cases hC : k0_cond7 v1 v3 = 1#1
  · sl_exec_parts
    iapply Hk
    isplitl [H6]; · iexact H6
    isplitl [H7]; · iexact H7
    isplitl [H34]; · iexists _; iexact H34
    isplitl [H35]; · iexists _; iexact H35
    isplitl [H36]; · iexists _; iexact H36
    isplitl [H37]; · iexists _; iexact H37
    iexists _; iexact H32
  · sl_exec_parts
    iapply Hk
    isplitl [H6]; · iexact H6
    isplitl [H7]; · iexact H7
    isplitl [H34]; · iexists _; iexact H34
    isplitl [H35]; · iexists _; iexact H35
    isplitl [H36]; · iexists _; iexact H36
    isplitl [H37]; · iexists _; iexact H37
    iexists _; iexact H32

end Cert.KernelIdeal.Attn

end
-- ==== Proof.Attn.Body.lean ====
module

public import proofs.«01_k».proof.Proof.Gen.KernelIdeal.Skeleton
public import proofs.«01_k».proof.Proof.Gen.KernelIdeal.Launch
public import Idealize.ShloMosaic.Lib.Tactic.Stretches
public import Idealize.ShloMosaic.Lib.Tactic
public import proofs.«01_k».proof.Proof.Attn.Run1
public import proofs.«01_k».proof.Proof.Attn.Run2

@[expose] public section

set_option synthInstance.maxSize 4096
set_option maxRecDepth 16384
set_option Elab.async false

namespace Cert.KernelIdeal.Attn

open Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 8000000 in
/-- One grid point of the attention call, on whole buffers: the tables and the input windows come back as they were, the two
    result windows and the scratch buffers come back at some contents. -/
theorem att_run (c : Dev nD) (i : grid0.Coords) (arg4 : Memref sig .tc .smem S2048 .i32) (harg4 : arg4.IsWhole) (arg5 : Memref sig .tc .vmem S1x8x128x512 .bf16) (harg5 : arg5.IsWhole) (arg6 : Memref sig .tc .vmem S1x8x512x128 .bf16) (harg6 : arg6.IsWhole) (arg7 : Memref sig .tc .vmem S1x8x128x512 .bf16) (harg7 : arg7.IsWhole) (arg8 : Memref sig .tc .vmem S2x64 .f32) (harg8 : arg8.IsWhole) (arg9 : Memref sig .tc .vmem S2x64 .f32) (harg9 : arg9.IsWhole) (arg10 : Memref sig .tc .vmem S2x64 .f32) (harg10 : arg10.IsWhole) (arg11 : Memref sig .tc .vmem S2x64 .f32) (harg11 : arg11.IsWhole) (arg12 : Memref sig .tc .vmem S2x128 .f32) (harg12 : arg12.IsWhole) (arg13 : Memref sig .tc .vmem S1x1x1024 .bf16) (harg13 : arg13.IsWhole) (arg14 : Memref sig .tc .vmem S1x1x1024 .bf16) (harg14 : arg14.IsWhole) (arg15 : Memref sig .tc .vmem S1x8x128 .f32) (harg15 : arg15.IsWhole) (arg16 : Memref sig .tc .vmem S1x1024x128 .f32) (harg16 : arg16.IsWhole) (arg17 : Memref sig .tc .vmem S1x1024x128 .f32) (harg17 : arg17.IsWhole) (arg18 : Memref sig .tc .vmem S1x1024x128 .f32) (harg18 : arg18.IsWhole) (arg19 : Memref sig .tc .vmem S1x1024x128 .f32) (harg19 : arg19.IsWhole) (arg20 : Memref sig .tc .vmem S1x1024x128 .f32) (harg20 : arg20.IsWhole) (arg21 : Memref sig .tc .vmem S1x1024x128 .f32) (harg21 : arg21.IsWhole) (arg22 : Memref sig .tc .vmem S1x1024x128 .f32) (harg22 : arg22.IsWhole) (arg23 : Memref sig .tc .vmem S1x1024x128 .f32) (harg23 : arg23.IsWhole) (arg24 : Memref sig .tc .vmem S1x1024x128 .f32) (harg24 : arg24.IsWhole) (arg25 : Memref sig .tc .vmem S1x1024x128 .f32) (harg25 : arg25.IsWhole) (arg26 : Memref sig .tc .vmem S1x1024x128 .f32) (harg26 : arg26.IsWhole) (arg27 : Memref sig .tc .vmem S1x1024x128 .f32) (harg27 : arg27.IsWhole) (arg28 : Memref sig .tc .vmem S1x1024x128 .f32) (harg28 : arg28.IsWhole) (arg29 : Memref sig .tc .vmem S1x1024x128 .f32) (harg29 : arg29.IsWhole) (arg30 : Memref sig .tc .vmem S1x1024x128 .f32) (harg30 : arg30.IsWhole) (arg31 : Memref sig .tc .vmem S1x1024x128 .f32) (harg31 : arg31.IsWhole) (arg32 : Memref sig .tc .vmem S1x512x1024 .bf16) (harg32 : arg32.IsWhole) (arg33 : Memref sig .tc .vmem S1x8x128 .f32) (harg33 : arg33.IsWhole) (arg34 : Memref sig .tc .vmem S8x128x1024 .bf16) (harg34 : arg34.IsWhole) (arg35 : Memref sig .tc .vmem S8x1x1024 .f32) (harg35 : arg35.IsWhole) (arg36 : Memref sig .tc .vmem S8x144x1024 .f32) (harg36 : arg36.IsWhole) (arg37 : Memref sig .tc .vmem S512x1024 .f32) (harg37 : arg37.IsWhole) (arg38 : Memref sig .tc .vmem S16x128 .f32) (harg38 : arg38.IsWhole) (arg39 : Memref sig .tc .vmem S16x128 .f32) (harg39 : arg39.IsWhole) (arg40 : Memref sig .tc .vmem S16x128 .f32) (harg40 : arg40.IsWhole) (arg41 : Memref sig .tc .vmem S128x1024 .bf16) (harg41 : arg41.IsWhole)
    (T2 : Buf (Elt F) ((c.tc : Thread nD τ).loc main_c)) (T3 : Buf (Elt F) ((c.tc : Thread nD τ).loc main_c_0)) (x5 : Vec F S1x8x128x512 .bf16) (x6 : Vec F S1x8x512x128 .bf16) (x7 : Vec F S1x8x128x512 .bf16) (x8 : Vec F S2x64 .f32) (x9 : Vec F S2x64 .f32) (x10 : Vec F S2x64 .f32) (x11 : Vec F S2x64 .f32) (x12 : Vec F S2x128 .f32) (x13 : Vec F S1x1x1024 .bf16) (x14 : Vec F S1x1x1024 .bf16) (x15 : Vec F S1x8x128 .f32) (x16 : Vec F S1x1024x128 .f32) (x17 : Vec F S1x1024x128 .f32) (x18 : Vec F S1x1024x128 .f32) (x19 : Vec F S1x1024x128 .f32) (x20 : Vec F S1x1024x128 .f32) (x21 : Vec F S1x1024x128 .f32) (x22 : Vec F S1x1024x128 .f32) (x23 : Vec F S1x1024x128 .f32) (x24 : Vec F S1x1024x128 .f32) (x25 : Vec F S1x1024x128 .f32) (x26 : Vec F S1x1024x128 .f32) (x27 : Vec F S1x1024x128 .f32) (x28 : Vec F S1x1024x128 .f32) (x29 : Vec F S1x1024x128 .f32) (x30 : Vec F S1x1024x128 .f32) (x31 : Vec F S1x1024x128 .f32) (Q : PUnit → sProp 𝕄) :
    iprop((((Memref.whole main_c).view.loc (c : Thread nD τ) ↦{fullShare.right} T2) ∗ ((Memref.whole main_c_0).view.loc (c : Thread nD τ) ↦{fullShare.right} T3) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) ∗ (arg8.view.loc (c : Thread nD τ) ↦[arg8.view.set]{fullShare} arg8.view.rep x8) ∗ (arg9.view.loc (c : Thread nD τ) ↦[arg9.view.set]{fullShare} arg9.view.rep x9) ∗ (arg10.view.loc (c : Thread nD τ) ↦[arg10.view.set]{fullShare} arg10.view.rep x10) ∗ (arg11.view.loc (c : Thread nD τ) ↦[arg11.view.set]{fullShare} arg11.view.rep x11) ∗ (arg12.view.loc (c : Thread nD τ) ↦[arg12.view.set]{fullShare} arg12.view.rep x12) ∗ (arg13.view.loc (c : Thread nD τ) ↦[arg13.view.set]{fullShare} arg13.view.rep x13) ∗ (arg14.view.loc (c : Thread nD τ) ↦[arg14.view.set]{fullShare} arg14.view.rep x14) ∗ (arg15.view.loc (c : Thread nD τ) ↦[arg15.view.set]{fullShare} arg15.view.rep x15) ∗ (arg16.view.loc (c : Thread nD τ) ↦[arg16.view.set]{fullShare} arg16.view.rep x16) ∗ (arg17.view.loc (c : Thread nD τ) ↦[arg17.view.set]{fullShare} arg17.view.rep x17) ∗ (arg18.view.loc (c : Thread nD τ) ↦[arg18.view.set]{fullShare} arg18.view.rep x18) ∗ (arg19.view.loc (c : Thread nD τ) ↦[arg19.view.set]{fullShare} arg19.view.rep x19) ∗ (arg20.view.loc (c : Thread nD τ) ↦[arg20.view.set]{fullShare} arg20.view.rep x20) ∗ (arg21.view.loc (c : Thread nD τ) ↦[arg21.view.set]{fullShare} arg21.view.rep x21) ∗ (arg22.view.loc (c : Thread nD τ) ↦[arg22.view.set]{fullShare} arg22.view.rep x22) ∗ (arg23.view.loc (c : Thread nD τ) ↦[arg23.view.set]{fullShare} arg23.view.rep x23) ∗ (arg24.view.loc (c : Thread nD τ) ↦[arg24.view.set]{fullShare} arg24.view.rep x24) ∗ (arg25.view.loc (c : Thread nD τ) ↦[arg25.view.set]{fullShare} arg25.view.rep x25) ∗ (arg26.view.loc (c : Thread nD τ) ↦[arg26.view.set]{fullShare} arg26.view.rep x26) ∗ (arg27.view.loc (c : Thread nD τ) ↦[arg27.view.set]{fullShare} arg27.view.rep x27) ∗ (arg28.view.loc (c : Thread nD τ) ↦[arg28.view.set]{fullShare} arg28.view.rep x28) ∗ (arg29.view.loc (c : Thread nD τ) ↦[arg29.view.set]{fullShare} arg29.view.rep x29) ∗ (arg30.view.loc (c : Thread nD τ) ↦[arg30.view.set]{fullShare} arg30.view.rep x30) ∗ (arg31.view.loc (c : Thread nD τ) ↦[arg31.view.set]{fullShare} arg31.view.rep x31) ∗ (∃ f, arg32.view.loc (c : Thread nD τ) ↦[arg32.view.set]{fullShare} f) ∗ (∃ f, arg33.view.loc (c : Thread nD τ) ↦[arg33.view.set]{fullShare} f) ∗ (∃ f, arg34.view.loc (c : Thread nD τ) ↦[arg34.view.set]{fullShare} f) ∗ (∃ f, arg35.view.loc (c : Thread nD τ) ↦[arg35.view.set]{fullShare} f) ∗ (∃ f, arg36.view.loc (c : Thread nD τ) ↦[arg36.view.set]{fullShare} f) ∗ (∃ f, arg37.view.loc (c : Thread nD τ) ↦[arg37.view.set]{fullShare} f) ∗ (∃ f, arg38.view.loc (c : Thread nD τ) ↦[arg38.view.set]{fullShare} f) ∗ (∃ f, arg39.view.loc (c : Thread nD τ) ↦[arg39.view.set]{fullShare} f) ∗ (∃ f, arg40.view.loc (c : Thread nD τ) ↦[arg40.view.set]{fullShare} f) ∗ (∃ f, arg41.view.loc (c : Thread nD τ) ↦[arg41.view.set]{fullShare} f)) ∗ ((((Memref.whole main_c).view.loc (c : Thread nD τ) ↦{fullShare.right} T2) ∗ ((Memref.whole main_c_0).view.loc (c : Thread nD τ) ↦{fullShare.right} T3) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) ∗ (arg8.view.loc (c : Thread nD τ) ↦[arg8.view.set]{fullShare} arg8.view.rep x8) ∗ (arg9.view.loc (c : Thread nD τ) ↦[arg9.view.set]{fullShare} arg9.view.rep x9) ∗ (arg10.view.loc (c : Thread nD τ) ↦[arg10.view.set]{fullShare} arg10.view.rep x10) ∗ (arg11.view.loc (c : Thread nD τ) ↦[arg11.view.set]{fullShare} arg11.view.rep x11) ∗ (arg12.view.loc (c : Thread nD τ) ↦[arg12.view.set]{fullShare} arg12.view.rep x12) ∗ (arg13.view.loc (c : Thread nD τ) ↦[arg13.view.set]{fullShare} arg13.view.rep x13) ∗ (arg14.view.loc (c : Thread nD τ) ↦[arg14.view.set]{fullShare} arg14.view.rep x14) ∗ (arg15.view.loc (c : Thread nD τ) ↦[arg15.view.set]{fullShare} arg15.view.rep x15) ∗ (arg16.view.loc (c : Thread nD τ) ↦[arg16.view.set]{fullShare} arg16.view.rep x16) ∗ (arg17.view.loc (c : Thread nD τ) ↦[arg17.view.set]{fullShare} arg17.view.rep x17) ∗ (arg18.view.loc (c : Thread nD τ) ↦[arg18.view.set]{fullShare} arg18.view.rep x18) ∗ (arg19.view.loc (c : Thread nD τ) ↦[arg19.view.set]{fullShare} arg19.view.rep x19) ∗ (arg20.view.loc (c : Thread nD τ) ↦[arg20.view.set]{fullShare} arg20.view.rep x20) ∗ (arg21.view.loc (c : Thread nD τ) ↦[arg21.view.set]{fullShare} arg21.view.rep x21) ∗ (arg22.view.loc (c : Thread nD τ) ↦[arg22.view.set]{fullShare} arg22.view.rep x22) ∗ (arg23.view.loc (c : Thread nD τ) ↦[arg23.view.set]{fullShare} arg23.view.rep x23) ∗ (arg24.view.loc (c : Thread nD τ) ↦[arg24.view.set]{fullShare} arg24.view.rep x24) ∗ (arg25.view.loc (c : Thread nD τ) ↦[arg25.view.set]{fullShare} arg25.view.rep x25) ∗ (arg26.view.loc (c : Thread nD τ) ↦[arg26.view.set]{fullShare} arg26.view.rep x26) ∗ (arg27.view.loc (c : Thread nD τ) ↦[arg27.view.set]{fullShare} arg27.view.rep x27) ∗ (arg28.view.loc (c : Thread nD τ) ↦[arg28.view.set]{fullShare} arg28.view.rep x28) ∗ (arg29.view.loc (c : Thread nD τ) ↦[arg29.view.set]{fullShare} arg29.view.rep x29) ∗ (arg30.view.loc (c : Thread nD τ) ↦[arg30.view.set]{fullShare} arg30.view.rep x30) ∗ (arg31.view.loc (c : Thread nD τ) ↦[arg31.view.set]{fullShare} arg31.view.rep x31) ∗ (∃ f, arg32.view.loc (c : Thread nD τ) ↦[arg32.view.set]{fullShare} f) ∗ (∃ f, arg33.view.loc (c : Thread nD τ) ↦[arg33.view.set]{fullShare} f) ∗ (∃ f, arg34.view.loc (c : Thread nD τ) ↦[arg34.view.set]{fullShare} f) ∗ (∃ f, arg35.view.loc (c : Thread nD τ) ↦[arg35.view.set]{fullShare} f) ∗ (∃ f, arg36.view.loc (c : Thread nD τ) ↦[arg36.view.set]{fullShare} f) ∗ (∃ f, arg37.view.loc (c : Thread nD τ) ↦[arg37.view.set]{fullShare} f) ∗ (∃ f, arg38.view.loc (c : Thread nD τ) ↦[arg38.view.set]{fullShare} f) ∗ (∃ f, arg39.view.loc (c : Thread nD τ) ↦[arg39.view.set]{fullShare} f) ∗ (∃ f, arg40.view.loc (c : Thread nD τ) ↦[arg40.view.set]{fullShare} f) ∗ (∃ f, arg41.view.loc (c : Thread nD τ) ↦[arg41.view.set]{fullShare} f)) -∗ Q ⟨⟩))
      ⊢ wp frame (wpE (defs₀ (F := F)) Variants.none c none) Set.univ (cc0_attention i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) Q := by
  rw [cc0_attention_eq_skeleton, att1.eq]
  iintro ⟨⟨HT2, HT3, H5, H6, H7, H8, H9, H10, H11, H12, H13, H14, H15, H16, H17, H18, H19, H20, H21, H22, H23, H24, H25, H26, H27, H28, H29, H30, H31, H32, H33, H34, H35, H36, H37, H38, H39, H40, H41⟩, Hk⟩
  iapply (seg1 c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 T2 T3 x8 x9 x10 x11 x12 x13 x14 x15 x16 x17 x18 x19 x20 x21 x22 x23 x24 x25 x26 x27 x28 x29 x30 x31 _ Q)
  isplitl [HT2 HT3 H8 H9 H10 H11 H12 H13 H14 H15 H16 H17 H18 H19 H20 H21 H22 H23 H24 H25 H26 H27 H28 H29 H30 H31 H33 H37 H38 H39 H40 H41]
  · isplitl [HT2]; · iexact HT2
    isplitl [HT3]; · iexact HT3
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H33]; · iexact H33
    isplitl [H37]; · iexact H37
    isplitl [H38]; · iexact H38
    isplitl [H39]; · iexact H39
    isplitl [H40]; · iexact H40
    iexact H41

  iintro %v1 %v3 %v18 %v21 %v33 %w ⟨HT2, HT3, H8, H9, H10, H11, H12, H13, H14, H15, H16, H17, H18, H19, H20, H21, H22, H23, H24, H25, H26, H27, H28, H29, H30, H31, H33, H37, H38, H39, H40, H41⟩
  rewrite [att2.eq]
  iapply (seg2 c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v33 w x5 _ Q)
  isplitl [H5 H34 H35 H36]
  · isplitl [H5]; · iexact H5
    isplitl [H34]; · iexact H34
    isplitl [H35]; · iexact H35
    iexact H36

  iintro ⟨H5, H34, H35, H36⟩
  rewrite [att3.eq]
  iapply (seg3 c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v1 v3 x6 x7 _ Q)
  isplitl [H6 H7 H34 H35 H36]
  · isplitl [H6]; · iexact H6
    isplitl [H7]; · iexact H7
    isplitl [H34]; · iexact H34
    isplitl [H35]; · iexact H35
    iexact H36

  iintro ⟨H6, H7, H34, H35, H36⟩
  rewrite [att4.eq]
  iapply (seg4 c i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v1 v3 v18 v21 x6 x7 _ Q)
  isplitl [H6 H7 H34 H35 H36 H37 H32]
  · isplitl [H6]; · iexact H6
    isplitl [H7]; · iexact H7
    isplitl [H34]; · iexact H34
    isplitl [H35]; · iexact H35
    isplitl [H36]; · iexact H36
    isplitl [H37]; · iexact H37
    iexact H32

  iintro ⟨H6, H7, H34, H35, H36, H37, H32⟩
  unfold att4.tail
  sl_step
  iapply Hk
  isplitl [HT2]; · iexact HT2
  isplitl [HT3]; · iexact HT3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  iexact H41

end Cert.KernelIdeal.Attn

end
-- ==== Proof.Attn.Tables.lean ====
module

public import proofs.«01_k».proof.Proof.Gen.KernelIdeal.Skeleton
public import proofs.«01_k».proof.Proof.Gen.KernelIdeal.Launch
public import Idealize.ShloMosaic.Lib.Tactic.Stretches
public import Idealize.ShloMosaic.Lib.Tactic
public import Idealize.ShloMosaic.Lib.Affine

@[expose] public section

set_option synthInstance.maxSize 4096
set_option maxRecDepth 16384
set_option Elab.async false

namespace Cert.KernelIdeal.Attn

open Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.Rounds
open Cert.KernelIdeal Cert.KernelIdeal.Gen

variable {F : FTy → Type} [FloatOps F] [Named F]

local notation "𝕄" => MT nD τ sig Unit (Elt F) ℕ (UR sig nD τ) ℕ

/-- A block that starts at index `x` per axis lies inside the array, axis by axis. -/
theorem inside_cons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  intro a
  induction a using Fin.cases with
  | zero => simpa only [Matrix.cons_val_zero] using h0
  | succ a => simpa only [Matrix.cons_val_succ] using hr a

theorem row_lt (n : Fin 136) : (lit0 n).toNat < 16 := by revert n; decide
theorem col_lt (n : Fin 136) : (lit1 n).toNat < 16 := by revert n; decide

/-- What the three tables hold: the two triangular schedules and page numbers inside the pool. -/
structure Tables (pf : pre0.Contents (Elt F)) : Prop where
  row : ∀ x, pf 0 x = lit0 (S136.rowMajor x)
  col : ∀ x, pf 1 x = lit1 (S136.rowMajor x)
  page : ∀ x, (pf 2 x : BitVec 32).toNat < 2560

theorem sample_lt (i : grid0.Coords) : (BitVec.ofNat 32 (i 0).val).toNat + 1 ≤ 2 := by
  have h : (i 0).val < 2 := (i 0).isLt
  rw [BitVec.toNat_ofNat]; omega

variable {pf : pre0.Contents (Elt F)}

theorem Tables.row_at (h : Tables pf) (r : Rect S136) (h1 : r.shape.numel = 1) : (pf.at 0 r h1 : BitVec 32).toNat < 16 := by
  rw [show (pf.at 0 r h1 : BitVec 32) = _ from h.row _]; exact row_lt _
theorem Tables.col_at (h : Tables pf) (r : Rect S136) (h1 : r.shape.numel = 1) : (pf.at 1 r h1 : BitVec 32).toNat < 16 := by
  rw [show (pf.at 1 r h1 : BitVec 32) = _ from h.col _]; exact col_lt _
theorem Tables.page_at (h : Tables pf) (r : Rect S2048) (h1 : r.shape.numel = 1) : (pf.at 2 r h1 : BitVec 32).toNat < 2560 := h.page _

theorem inside0 (h : Tables pf) (i : grid0.Coords) : ∀ a, (cc0_transform_0 k0_off1_inb numel1_S1 pf i a + 1) * S1x8x128x512.size a ≤ S2x8x128x8192.size a :=
  inside_cons (Nat.mul_le_mul_right _ (sample_lt i)) (inside_cons (by decide) (inside_cons (by decide) (inside_cons (Nat.mul_le_mul_right 512 (Nat.succ_le_of_lt (h.row_at _ _))) (fun a => a.elim0))))

theorem inside1 (h : Tables pf) (i : grid0.Coords) : ∀ a, (cc0_transform_1 k0_off1_inb numel1_S1 pf i a + 1) * S1x8x512x128.size a ≤ S2x8x8192x128.size a :=
  inside_cons (Nat.mul_le_mul_right _ (sample_lt i)) (inside_cons (by decide) (inside_cons (Nat.mul_le_mul_right 512 (Nat.succ_le_of_lt (h.col_at _ _))) (inside_cons (by decide) (fun a => a.elim0))))

theorem inside2 (h : Tables pf) (i : grid0.Coords) : ∀ a, (cc0_transform_2 k0_off1_inb numel1_S1 pf i a + 1) * S1x8x128x512.size a ≤ S2x8x128x8192.size a :=
  inside_cons (Nat.mul_le_mul_right _ (sample_lt i)) (inside_cons (by decide) (inside_cons (by decide) (inside_cons (Nat.mul_le_mul_right 512 (Nat.succ_le_of_lt (h.col_at _ _))) (fun a => a.elim0))))

theorem inside11 (h : Tables pf) (i : grid0.Coords) : ∀ a, (cc0_transform_11 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside12 (h : Tables pf) (i : grid0.Coords) : ∀ a, (cc0_transform_12 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside13 (h : Tables pf) (i : grid0.Coords) : ∀ a, (cc0_transform_13 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside14 (h : Tables pf) (i : grid0.Coords) : ∀ a, (cc0_transform_14 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside15 (h : Tables pf) (i : grid0.Coords) : ∀ a, (cc0_transform_15 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside16 (h : Tables pf) (i : grid0.Coords) : ∀ a, (cc0_transform_16 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside17 (h : Tables pf) (i : grid0.Coords) : ∀ a, (cc0_transform_17 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside18 (h : Tables pf) (i : grid0.Coords) : ∀ a, (cc0_transform_18 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside19 (h : Tables pf) (i : grid0.Coords) : ∀ a, (cc0_transform_19 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside20 (h : Tables pf) (i : grid0.Coords) : ∀ a, (cc0_transform_20 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside21 (h : Tables pf) (i : grid0.Coords) : ∀ a, (cc0_transform_21 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside22 (h : Tables pf) (i : grid0.Coords) : ∀ a, (cc0_transform_22 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside23 (h : Tables pf) (i : grid0.Coords) : ∀ a, (cc0_transform_23 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside24 (h : Tables pf) (i : grid0.Coords) : ∀ a, (cc0_transform_24 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside25 (h : Tables pf) (i : grid0.Coords) : ∀ a, (cc0_transform_25 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside26 (h : Tables pf) (i : grid0.Coords) : ∀ a, (cc0_transform_26 k0_off2_inb numel1_S1 pf i a + 1) * S1x1024x128.size a ≤ S2560x1024x128.size a :=
  inside_cons (Nat.mul_le_mul_right 1 (Nat.succ_le_of_lt (h.page_at _ _))) (inside_cons (by decide) (inside_cons (by decide) (fun a => a.elim0)))

theorem inside27 (h : Tables pf) (i : grid0.Coords) : ∀ a, (cc0_transform_27 k0_off1_inb numel1_S1 pf i a + 1) * S1x512x1024.size a ≤ S2x8192x1024.size a :=
  inside_cons (Nat.mul_le_mul_right _ (sample_lt i)) (inside_cons (Nat.mul_le_mul_right 512 (Nat.succ_le_of_lt (h.row_at _ _))) (inside_cons (by decide) (fun a => a.elim0)))

/-- With such tables every window's block lies inside its array. -/
theorem Tables.ok (h : Tables pf) : ok0 pf :=
  ⟨fun i => ⟨inside0 h i, .inr (Affine.block_words_dvd (s := S2x8x128x8192) (p := EltTy.packing .bf16) (by decide) (by decide))⟩, fun i => ⟨inside1 h i, .inr (Affine.block_words_dvd (s := S2x8x8192x128) (p := EltTy.packing .bf16) (by decide) (by decide))⟩, fun i => ⟨inside2 h i, .inr (Affine.block_words_dvd (s := S2x8x128x8192) (p := EltTy.packing .bf16) (by decide) (by decide))⟩, fun i => ⟨inside11 h i, .inl rfl⟩, fun i => ⟨inside12 h i, .inl rfl⟩, fun i => ⟨inside13 h i, .inl rfl⟩, fun i => ⟨inside14 h i, .inl rfl⟩, fun i => ⟨inside15 h i, .inl rfl⟩, fun i => ⟨inside16 h i, .inl rfl⟩, fun i => ⟨inside17 h i, .inl rfl⟩, fun i => ⟨inside18 h i, .inl rfl⟩, fun i => ⟨inside19 h i, .inl rfl⟩, fun i => ⟨inside20 h i, .inl rfl⟩, fun i => ⟨inside21 h i, .inl rfl⟩, fun i => ⟨inside22 h i, .inl rfl⟩, fun i => ⟨inside23 h i, .inl rfl⟩, fun i => ⟨inside24 h i, .inl rfl⟩, fun i => ⟨inside25 h i, .inl rfl⟩, fun i => ⟨inside26 h i, .inl rfl⟩, fun i => ⟨inside27 h i, .inr (Affine.block_words_dvd (s := S2x8192x1024) (p := EltTy.packing .bf16) (by decide) (by decide))⟩⟩

end Cert.KernelIdeal.Attn

end
-- ==== Proof.Attn.Frame.lean ====
module

public import proofs.«01_k».proof.Proof.Gen.KernelIdeal.Skeleton
public import proofs.«01_k».proof.Proof.Gen.KernelIdeal.Launch
public import Idealize.ShloMosaic.Lib.Tactic.Stretches
public import Idealize.ShloMosaic.Lib.Tactic
public import proofs.«01_k».proof.Proof.Attn.Body
public import proofs.«01_k».proof.Proof.Attn.Tables
public import Idealize.ShloMosaic.Lib.Pipeline.Frame
public import Idealize.ShloMosaic.Lib.Pipeline.TableIdle
public import Idealize.ShloMosaic.Lib.Pipeline.Quiescent
public import Idealize.ShloMosaic.Lib.Claim
public import Idealize.ShloMosaic.Lib.StableHlo
public import Idealize.ShloMosaic.Adequacy
public import Idealize.ShloMosaic.Init

@[expose] public section

set_option synthInstance.maxSize 4096
set_option maxRecDepth 16384
set_option Elab.async false

noncomputable section

namespace Cert.KernelIdeal.Attn

open Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.Rounds
open Cert.KernelIdeal Cert.KernelIdeal.Gen

variable {F : FTy → Type} [FloatOps F] [Named F]

local notation "𝕄" => MT nD τ sig Unit (Elt F) ℕ (UR sig nD τ) ℕ

open Idealize.ShloMosaic.Pipeline (RDat Cfg ΦA ΦT)

variable (m : (ℓ : Loc nD τ sig) → Buf (Elt F) ℓ) (g : Dev nD → PrngReg)

/-- What every buffer holds when the call is reached. -/
abbrev V (c : Dev nD) (b : Ref sig .tc) : Buf (Elt F) ((c.tc : Thread nD τ).loc b) := StableHlo.after hostOps0 (fun b => m (c, b)) b

/-- The three prefetched tables then. -/
def tabs : pre0.Contents (Elt F) := fun k => V m 0 (pre0.ref k)

theorem fresh_ops : (hostOps0 : List (HloOp τ sig (Elt F))).Forall fun op => op.fresh = ∅ := by
  simp only [List.Forall]; repeat' constructor

/-- The references the host lines write, in order. -/
abbrev written : List (Ref sig .tc) := [main_c, main_c_0, main_cst, main_v0, main_v1, main_cst_1, main_v2, main_v3, main_v4, main_v5, main_v6, main_v7, main_v8, main_v9, main_v10, main_v11, main_v12, main_v13, main_v14, main_v15, main_cst_2, main_v16, main_v17, main_v18, main_v19, main_v20, main_v21, main_v22, main_v23, main_v24, main_v25]

theorem writes_ops : (hostOps0 : List (HloOp τ sig (Elt F))).Forall fun op => op.writes ⊆ (written.map (Proc.devRef (τ := τ) .tc)).toFinset :=
  StableHlo.forall_writes_sub_of_map rfl

theorem V_of_not_written (c : Dev nD) (r : Ref sig .tc) (hr : r ∉ written) : V m c r = m ((c.tc : Thread nD τ).loc r) :=
  StableHlo.after_of_writes_sub hostOps0 _ writes_ops hr

theorem V_row (c : Dev nD) : V m c main_c = fun i => lit0 (S136.rowMajor i) := by
  unfold V; after_results; rfl

theorem V_col (c : Dev nD) : V m c main_c_0 = fun i => lit1 (S136.rowMajor i) := by
  unfold V; after_results; rfl

theorem V_page (c : Dev nD) : V m c main_v25 = shapeCast S2048 (m ((c.tc : Thread nD τ).loc main_arg3)) shapeCasts_S128x16_S2048 := by
  unfold V; after_results; rfl

/-- Page numbers inside the pool make the three tables admissible. -/
theorem tables_of (hpg : ∀ x, (m (((0 : Dev nD).tc : Thread nD τ).loc main_arg3) x : BitVec 32).toNat < 2560) : Tables (tabs m) where
  row x := congrFun (V_row m 0) x
  col x := congrFun (V_col m 0) x
  page x := by
    rw [show (tabs m 2 x : BitVec 32) = _ from congrFun (V_page m 0) x]
    unfold shapeCast
    exact hpg _

section Run

variable (ht : Tables (tabs m))

/-- The tables' contents, admissible. -/
abbrev adm : (pcfg0 (F := F)).Adm := ⟨tabs m, ht.ok⟩

abbrev slotv (ad : (pcfg0 (F := F)).Adm) (t : Fin (cfg0 ad).N) (w : Fin 29) := (cfg0 ad).slots t w

theorem whole_in (c : Dev nD) (b : Ref sig .tc) (f : Buf (Elt F) ((c.tc : Thread nD τ).loc b)) :
    (((c : Thread nD τ).loc b) ↦{fullShare} f : sProp 𝕄)
      ⊢ ((Memref.whole b).view.loc (c : Thread nD τ) ↦[(Memref.whole b).view.set]{fullShare} f) := by
  rw [show (Memref.whole b).view.set = Finset.univ from View.set_whole b]

theorem whole_out (c : Dev nD) (b : Ref sig .tc) (f : Buf (Elt F) ((c.tc : Thread nD τ).loc b)) :
    ((Memref.whole b).view.loc (c : Thread nD τ) ↦[(Memref.whole b).view.set]{fullShare} f : sProp 𝕄)
      ⊢ (((c : Thread nD τ).loc b) ↦{fullShare} f) := by
  rw [show (Memref.whole b).view.set = Finset.univ from View.set_whole b]

theorem any_of_owns (c : Dev nD) {sp : Space} {sh : Shape} {e : EltTy} (M : Memref sig .tc sp sh e) (X : sh.Idx → Elt F e) :
    (owns (c : Thread nD τ) M fullShare X : sProp 𝕄) ⊢ iprop(∃ f, M.view.loc (c : Thread nD τ) ↦[M.view.set]{fullShare} f) := by
  unfold owns; iintro ⟨%f, -, H⟩; iexists f; iexact H

theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1) ∗ (((c : Thread nD τ).loc main_v25) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The proof's data: an input window's buffer comes back as it was handed over, of a result window nothing is said. -/
def rdat (c : Dev nD) : RDat τ (Elt F) Unit ℕ (UR sig nD τ) ℕ (cfg0 (adm m ht)) c where
  A w := V m c (Pipeline.arrRef spec0 w)
  after w _ Y X := (spec0 w).isOut = false → X = Y
  Φ _ := iprop(ΦA (Val := Elt F) spec0 c ∗ ΦT pre0 (tabs m) c)
  q w := Pipeline.shareOf spec0 w
  owed _ := 0

set_option maxHeartbeats 16000000 in
theorem body_ok (c : Dev nD) : (rdat m ht c).BodyObligation (defs₀ (F := F)) Variants.none () Set.univ := by
  intro t Y hY
  rw [bigSep_W0, bigSep_W0]
  refine BIBase.Entails.trans ?_ (att_run c (grid0.coords t) (Memref.whole main_v25) (Memref.isWhole_whole _) (spec0_0.stage (slotv (adm m ht) t 0)) (hstage0_0 ((slotv (adm m ht) t 0).cast nbuf0_0)) (spec0_1.stage (slotv (adm m ht) t 1)) (hstage0_1 ((slotv (adm m ht) t 1).cast nbuf0_1)) (spec0_2.stage (slotv (adm m ht) t 2)) (hstage0_2 ((slotv (adm m ht) t 2).cast nbuf0_2)) (spec0_3.stage (slotv (adm m ht) t 3)) (hstage0_3 ((slotv (adm m ht) t 3).cast nbuf0_3)) (spec0_4.stage (slotv (adm m ht) t 4)) (hstage0_4 ((slotv (adm m ht) t 4).cast nbuf0_4)) (spec0_5.stage (slotv (adm m ht) t 5)) (hstage0_5 ((slotv (adm m ht) t 5).cast nbuf0_5)) (spec0_6.stage (slotv (adm m ht) t 6)) (hstage0_6 ((slotv (adm m ht) t 6).cast nbuf0_6)) (spec0_7.stage (slotv (adm m ht) t 7)) (hstage0_7 ((slotv (adm m ht) t 7).cast nbuf0_7)) (spec0_8.stage (slotv (adm m ht) t 8)) (hstage0_8 ((slotv (adm m ht) t 8).cast nbuf0_8)) (spec0_9.stage (slotv (adm m ht) t 9)) (hstage0_9 ((slotv (adm m ht) t 9).cast nbuf0_9)) (spec0_10.stage (slotv (adm m ht) t 10)) (hstage0_10 ((slotv (adm m ht) t 10).cast nbuf0_10)) (spec0_11.stage (slotv (adm m ht) t 11)) (hstage0_11 ((slotv (adm m ht) t 11).cast nbuf0_11)) (spec0_12.stage (slotv (adm m ht) t 12)) (hstage0_12 ((slotv (adm m ht) t 12).cast nbuf0_12)) (spec0_13.stage (slotv (adm m ht) t 13)) (hstage0_13 ((slotv (adm m ht) t 13).cast nbuf0_13)) (spec0_14.stage (slotv (adm m ht) t 14)) (hstage0_14 ((slotv (adm m ht) t 14).cast nbuf0_14)) (spec0_15.stage (slotv (adm m ht) t 15)) (hstage0_15 ((slotv (adm m ht) t 15).cast nbuf0_15)) (spec0_16.stage (slotv (adm m ht) t 16)) (hstage0_16 ((slotv (adm m ht) t 16).cast nbuf0_16)) (spec0_17.stage (slotv (adm m ht) t 17)) (hstage0_17 ((slotv (adm m ht) t 17).cast nbuf0_17)) (spec0_18.stage (slotv (adm m ht) t 18)) (hstage0_18 ((slotv (adm m ht) t 18).cast nbuf0_18)) (spec0_19.stage (slotv (adm m ht) t 19)) (hstage0_19 ((slotv (adm m ht) t 19).cast nbuf0_19)) (spec0_20.stage (slotv (adm m ht) t 20)) (hstage0_20 ((slotv (adm m ht) t 20).cast nbuf0_20)) (spec0_21.stage (slotv (adm m ht) t 21)) (hstage0_21 ((slotv (adm m ht) t 21).cast nbuf0_21)) (spec0_22.stage (slotv (adm m ht) t 22)) (hstage0_22 ((slotv (adm m ht) t 22).cast nbuf0_22)) (spec0_23.stage (slotv (adm m ht) t 23)) (hstage0_23 ((slotv (adm m ht) t 23).cast nbuf0_23)) (spec0_24.stage (slotv (adm m ht) t 24)) (hstage0_24 ((slotv (adm m ht) t 24).cast nbuf0_24)) (spec0_25.stage (slotv (adm m ht) t 25)) (hstage0_25 ((slotv (adm m ht) t 25).cast nbuf0_25)) (spec0_26.stage (slotv (adm m ht) t 26)) (hstage0_26 ((slotv (adm m ht) t 26).cast nbuf0_26)) (spec0_27.stage (slotv (adm m ht) t 27)) (hstage0_27 ((slotv (adm m ht) t 27).cast nbuf0_27)) (spec0_28.stage (slotv (adm m ht) t 28)) (hstage0_28 ((slotv (adm m ht) t 28).cast nbuf0_28)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    (tabs m 0) (tabs m 1) (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) (Y 21) (Y 22) (Y 23) (Y 24) (Y 25) (Y 26)   _)
  rw [show (rdat m ht c).Φ t.castSucc = iprop(ΦA spec0 c ∗ ΦT pre0 (tabs m) c) from rfl,
    show (rdat m ht c).Φ t.succ = iprop(ΦA spec0 c ∗ ΦT pre0 (tabs m) c) from rfl,
    show (rdat m ht c).owesAt () t.succ = (rdat m ht c).owesAt () t.castSucc from rfl]
  unfold ΦA ΦT
  rw [prefHeld_eq, scopedRest0_eq]
  iintro ⟨⟨⟨⟨⟨%g0, H34⟩, ⟨%g1, H35⟩, ⟨%g2, H36⟩, ⟨%g3, H37⟩, ⟨%g4, H38⟩, ⟨%g5, H39⟩, ⟨%g6, H40⟩, ⟨%g7, H41⟩⟩, Hp⟩, HT2, HT3, HT4⟩, Ho, H5, H6, H7, H8, H9, H10, H11, H12, H13, H14, H15, H16, H17, H18, H19, H20, H21, H22, H23, H24, H25, H26, H27, H28, H29, H30, H31, H32, H33⟩
  isplitl [HT2 HT3 H5 H6 H7 H8 H9 H10 H11 H12 H13 H14 H15 H16 H17 H18 H19 H20 H21 H22 H23 H24 H25 H26 H27 H28 H29 H30 H31 H32 H33 H34 H35 H36 H37 H38 H39 H40 H41]
  · isplitl [HT2]; · iexact HT2
    isplitl [HT3]; · iexact HT3
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iapply rep_of_owns; iexact H9
    isplitl [H10]; · iapply rep_of_owns; iexact H10
    isplitl [H11]; · iapply rep_of_owns; iexact H11
    isplitl [H12]; · iapply rep_of_owns; iexact H12
    isplitl [H13]; · iapply rep_of_owns; iexact H13
    isplitl [H14]; · iapply rep_of_owns; iexact H14
    isplitl [H15]; · iapply rep_of_owns; iexact H15
    isplitl [H16]; · iapply rep_of_owns; iexact H16
    isplitl [H17]; · iapply rep_of_owns; iexact H17
    isplitl [H18]; · iapply rep_of_owns; iexact H18
    isplitl [H19]; · iapply rep_of_owns; iexact H19
    isplitl [H20]; · iapply rep_of_owns; iexact H20
    isplitl [H21]; · iapply rep_of_owns; iexact H21
    isplitl [H22]; · iapply rep_of_owns; iexact H22
    isplitl [H23]; · iapply rep_of_owns; iexact H23
    isplitl [H24]; · iapply rep_of_owns; iexact H24
    isplitl [H25]; · iapply rep_of_owns; iexact H25
    isplitl [H26]; · iapply rep_of_owns; iexact H26
    isplitl [H27]; · iapply rep_of_owns; iexact H27
    isplitl [H28]; · iapply rep_of_owns; iexact H28
    isplitl [H29]; · iapply rep_of_owns; iexact H29
    isplitl [H30]; · iapply rep_of_owns; iexact H30
    isplitl [H31]; · iapply rep_of_owns; iexact H31
    isplitl [H32]; · iapply any_of_owns; iexact H32
    isplitl [H33]; · iapply any_of_owns; iexact H33
    isplitl [H34]; · iexists _; iapply (whole_in c cc0_scratch0 _); iexact H34
    isplitl [H35]; · iexists _; iapply (whole_in c cc0_scratch1 _); iexact H35
    isplitl [H36]; · iexists _; iapply (whole_in c cc0_scratch2 _); iexact H36
    isplitl [H37]; · iexists _; iapply (whole_in c cc0_scratch3 _); iexact H37
    isplitl [H38]; · iexists _; iapply (whole_in c cc0_scratch4 _); iexact H38
    isplitl [H39]; · iexists _; iapply (whole_in c cc0_scratch5 _); iexact H39
    isplitl [H40]; · iexists _; iapply (whole_in c cc0_scratch6 _); iexact H40
    iexists _; iapply (whole_in c cc0_scratch7 _); iexact H41
  iintro ⟨HT2, HT3, H5, H6, H7, H8, H9, H10, H11, H12, H13, H14, H15, H16, H17, H18, H19, H20, H21, H22, H23, H24, H25, H26, H27, H28, H29, H30, H31, ⟨%e32, H32⟩, ⟨%e33, H33⟩, ⟨%e34, H34⟩, ⟨%e35, H35⟩, ⟨%e36, H36⟩, ⟨%e37, H37⟩, ⟨%e38, H38⟩, ⟨%e39, H39⟩, ⟨%e40, H40⟩, ⟨%e41, H41⟩⟩
  isplitl [HT2 HT3 HT4 Hp H34 H35 H36 H37 H38 H39 H40 H41]
  · isplitr [HT2 HT3 HT4]
    · isplitr [Hp]
      · isplitl [H34]; · iexists _; iapply (whole_out c cc0_scratch0 _); iexact H34
        isplitl [H35]; · iexists _; iapply (whole_out c cc0_scratch1 _); iexact H35
        isplitl [H36]; · iexists _; iapply (whole_out c cc0_scratch2 _); iexact H36
        isplitl [H37]; · iexists _; iapply (whole_out c cc0_scratch3 _); iexact H37
        isplitl [H38]; · iexists _; iapply (whole_out c cc0_scratch4 _); iexact H38
        isplitl [H39]; · iexists _; iapply (whole_out c cc0_scratch5 _); iexact H39
        isplitl [H40]; · iexists _; iapply (whole_out c cc0_scratch6 _); iexact H40
        iexists _; iapply (whole_out c cc0_scratch7 _); iexact H41
      · iexact Hp
    · isplitl [HT2]; · iexact HT2
      isplitl [HT3]; · iexact HT3
      iexact HT4
  isplitl [Ho]; · iexact Ho
  isplitl [H5]
  · iexists (Y 0); isplitr; · ipureintro; exact fun _ => rfl
    iapply owns_of_rep; iexact H5
  isplitl [H6]
  · iexists (Y 1); isplitr; · ipureintro; exact fun _ => rfl
    iapply owns_of_rep; iexact H6
  isplitl [H7]
  · iexists (Y 2); isplitr; · ipureintro; exact fun _ => rfl
    iapply owns_of_rep; iexact H7
  isplitl [H8]
  · iexists (Y 3); isplitr; · ipureintro; exact fun _ => rfl
    iapply owns_of_rep; iexact H8
  isplitl [H9]
  · iexists (Y 4); isplitr; · ipureintro; exact fun _ => rfl
    iapply owns_of_rep; iexact H9
  isplitl [H10]
  · iexists (Y 5); isplitr; · ipureintro; exact fun _ => rfl
    iapply owns_of_rep; iexact H10
  isplitl [H11]
  · iexists (Y 6); isplitr; · ipureintro; exact fun _ => rfl
    iapply owns_of_rep; iexact H11
  isplitl [H12]
  · iexists (Y 7); isplitr; · ipureintro; exact fun _ => rfl
    iapply owns_of_rep; iexact H12
  isplitl [H13]
  · iexists (Y 8); isplitr; · ipureintro; exact fun _ => rfl
    iapply owns_of_rep; iexact H13
  isplitl [H14]
  · iexists (Y 9); isplitr; · ipureintro; exact fun _ => rfl
    iapply owns_of_rep; iexact H14
  isplitl [H15]
  · iexists (Y 10); isplitr; · ipureintro; exact fun _ => rfl
    iapply owns_of_rep; iexact H15
  isplitl [H16]
  · iexists (Y 11); isplitr; · ipureintro; exact fun _ => rfl
    iapply owns_of_rep; iexact H16
  isplitl [H17]
  · iexists (Y 12); isplitr; · ipureintro; exact fun _ => rfl
    iapply owns_of_rep; iexact H17
  isplitl [H18]
  · iexists (Y 13); isplitr; · ipureintro; exact fun _ => rfl
    iapply owns_of_rep; iexact H18
  isplitl [H19]
  · iexists (Y 14); isplitr; · ipureintro; exact fun _ => rfl
    iapply owns_of_rep; iexact H19
  isplitl [H20]
  · iexists (Y 15); isplitr; · ipureintro; exact fun _ => rfl
    iapply owns_of_rep; iexact H20
  isplitl [H21]
  · iexists (Y 16); isplitr; · ipureintro; exact fun _ => rfl
    iapply owns_of_rep; iexact H21
  isplitl [H22]
  · iexists (Y 17); isplitr; · ipureintro; exact fun _ => rfl
    iapply owns_of_rep; iexact H22
  isplitl [H23]
  · iexists (Y 18); isplitr; · ipureintro; exact fun _ => rfl
    iapply owns_of_rep; iexact H23
  isplitl [H24]
  · iexists (Y 19); isplitr; · ipureintro; exact fun _ => rfl
    iapply owns_of_rep; iexact H24
  isplitl [H25]
  · iexists (Y 20); isplitr; · ipureintro; exact fun _ => rfl
    iapply owns_of_rep; iexact H25
  isplitl [H26]
  · iexists (Y 21); isplitr; · ipureintro; exact fun _ => rfl
    iapply owns_of_rep; iexact H26
  isplitl [H27]
  · iexists (Y 22); isplitr; · ipureintro; exact fun _ => rfl
    iapply owns_of_rep; iexact H27
  isplitl [H28]
  · iexists (Y 23); isplitr; · ipureintro; exact fun _ => rfl
    iapply owns_of_rep; iexact H28
  isplitl [H29]
  · iexists (Y 24); isplitr; · ipureintro; exact fun _ => rfl
    iapply owns_of_rep; iexact H29
  isplitl [H30]
  · iexists (Y 25); isplitr; · ipureintro; exact fun _ => rfl
    iapply owns_of_rep; iexact H30
  isplitl [H31]
  · iexists (Y 26); isplitr; · ipureintro; exact fun _ => rfl
    iapply owns_of_rep; iexact H31
  isplitl [H32]
  · iexists _; isplitr; swap
    · unfold owns; iexists _; isplitr; swap; · iexact H32
      · ipureintro; rfl
    · ipureintro; exact fun h => absurd h (by decide)
  iexists _; isplitr; swap
  · unfold owns; iexists _; isplitr; swap; · iexact H33
    · ipureintro; rfl
  · ipureintro; exact fun h => absurd h (by decide)

set_option backward.isDefEq.respectTransparency.types false in
/-- The call's run: every buffer that is not a result of the program ends as the call found it, and every semaphore counter
    reads zero. -/
theorem run_main : θ_run (defs (F := F)) (onTc (τ := τ) (main (F := F))) (s₀ m g)
    (fun r => RDat.FramePost (cfg0 (adm m ht)) (rdat m ht) (V m) r ∧ r.2.sem = fun _ => 0) :=
  Pipeline.RDat.θ_run_frameP_track_shared pcfgs (fun _ => adm m ht) 0 launch₀0 defs₀ Variants.none (rdat m ht) m g main
    (hbody := body_ok m ht) (hq := fun _ _ _ => rfl) (howed := fun _ _ => rfl)
    (V := V m) (hmain := Pipeline.hmainP_prefix pcfgs 0 defs₀ Variants.none m main hostOps0 hostOps0_sub fresh_ops main_chain)
    (hA := fun _ _ => rfl) (hpf := fun c k => by rw [Subsingleton.elim c 0]; rfl)
    (hin := fun c => .rfl) (hout := fun c => by
      rw [show (rdat m ht c).Φ (Fin.last _) = iprop(ΦA spec0 c ∗ ΦT pre0 (tabs m) c) from rfl]
      iintro ⟨H, -⟩; iexact H)
    (Q' := fun r => RDat.FramePost (cfg0 (adm m ht)) (rdat m ht) (V m) r ∧ r.2.sem = fun _ => 0) (hQ' := fun _ h => h)

include ht in
/-- Every argument array ends as it began. -/
theorem frame : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  refine (θ_run (defs (F := F)) _ _).mono ?_ (run_main m g ht)
  rintro r ⟨h, hz⟩
  refine ⟨fun c => ?_, hz⟩
  have hr : ∀ b ∈ Pipeline.restRefs sig spec0, b ∉ written → r.2.mem ((c.tc : Thread nD τ).loc b) = m ((c.tc : Thread nD τ).loc b) :=
    fun b hb hw => ((h c).2 b hb).trans (V_of_not_written m c b hw)
  have hw : ∀ w : Fin 29, (spec0 w).isOut = false → Pipeline.arrRef spec0 w ∉ written →
      r.2.mem ((spec0 w).arr.view.loc (c.tc : Thread nD τ)) = m ((c.tc : Thread nD τ).loc (Pipeline.arrRef spec0 w)) := fun w ho hn => by
    have e := (h c).1 w
    rw [(rdat m ht c).ArrAt_in w ho] at e
    exact e.trans (V_of_not_written m c _ hn)
  exact ⟨hr main_arg0 (by decide) (by decide), hr main_arg1 (by decide) (by decide), hr main_arg2 (by decide) (by decide), hr main_arg3 (by decide) (by decide), hr main_arg4 (by decide) (by decide), hr main_arg5 (by decide) (by decide), hr main_arg6 (by decide) (by decide), hr main_arg7 (by decide) (by decide), hr main_arg8 (by decide) (by decide),
    hw 3 rfl (by decide), hw 4 rfl (by decide), hw 5 rfl (by decide), hw 6 rfl (by decide), hw 7 rfl (by decide)⟩

end Run

end Cert.KernelIdeal.Attn

end
-- ==== Proof.AttnBits.Cut.lean ====
module

public import proofs.«01_k».proof.Proof.Gen.Kernel.Skeleton
public import proofs.«01_k».proof.Proof.Gen.Kernel.Launch
public import Idealize.ShloMosaic.Lib.Tactic.Stretches
public import Idealize.ShloMosaic.Lib.Tactic

@[expose] public section

set_option synthInstance.maxSize 4096
set_option maxRecDepth 16384
set_option Elab.async false

namespace Cert.Kernel.Attn

open Idealize.ShloMosaic Idealize.ShloMosaic.TcCoe Idealize.ShloMosaic.Tactic Idealize.SL Idealize.SL.RA Idealize.SL.BI Idealize.SL.BI.BIBase Idealize.SL.BI.Laws Idealize.SL.ProofMode Idealize.SL.Sem Idealize.ShloMosaic.Rounds
open Cert.Kernel Cert.Kernel.Gen

variable {F : FTy → Type} [FloatOps F]

local notation "𝕄" => MT nD τ sig Unit (Elt F) ℕ (UR sig nD τ) ℕ

cut_chain att := cc0_attention_skel at 2, 3, 4

end Cert.Kernel.Attn
end
-- ==== Proof.Calls.PostRun.lean ====
module

public import proofs.«01_k».proof.Defs
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import Idealize.ShloMosaic.Lib.Claim
public import Idealize.ShloMosaic.Lib.Pipeline.FrameBody
public import Idealize.ShloMosaic.Lib.Tactic

@[expose] public section

set_option maxRecDepth 16384

noncomputable section

namespace Cert.PostIdeal.Call

open Cert.PostIdeal Cert.PostIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points store which result -/

theorem cond1_iff : ∀ t : Fin cfg0.N, k0_cond1 (grid0.coords t) = 1#1 ↔ t.val < 32 :=
  (by decide +kernel : ∀ t : Fin grid0.N, _)
theorem cond2_iff : ∀ t : Fin cfg0.N, k0_cond2 (grid0.coords t) = 1#1 ↔ ¬ t.val < 32 :=
  (by decide +kernel : ∀ t : Fin grid0.N, _)
theorem flush12 : ∀ t : Fin cfg0.N, (cfg0.win 12).flush t = true ↔ t.val ≠ 31 :=
  (by decide +kernel : ∀ t : Fin grid0.N, _)
theorem fetch12 : ∀ t : Fin cfg0.N, (cfg0.win 12).fetch t = false :=
  (by decide +kernel : ∀ t : Fin grid0.N, _)
theorem idle12 : ∀ t : Fin cfg0.N, cfg0.idle 12 (cfg0.grid.coords t) = false ↔ t.val < 32 :=
  (by decide +kernel : ∀ t : Fin grid0.N, _)
theorem idle13 : ∀ t : Fin cfg0.N, cfg0.idle 13 (cfg0.grid.coords t) = false ↔ ¬ t.val < 32 :=
  (by decide +kernel : ∀ t : Fin grid0.N, _)

abbrev rA0 : Rect S512x1024 := Rect.unit (s := S512x1024) ![0, 0] S256x1024.size inb_S512x1024_S256x1024_0_0
abbrev rA1 : Rect S512x1024 := Rect.unit (s := S512x1024) ![256, 0] S256x1024.size inb_S512x1024_S256x1024_256_0
abbrev rD0 : Rect S128x1024 := Rect.unit (s := S128x1024) ![0, 0] S64x1024.size inb_S128x1024_S64x1024_0_0
abbrev rD1 : Rect S128x1024 := Rect.unit (s := S128x1024) ![64, 0] S64x1024.size inb_S128x1024_S64x1024_64_0
abbrev rO : Rect S1024x1024 := Rect.unit (s := S1024x1024) ![0, 0] S1024x1024.size inb_S1024x1024_S1024x1024_0_0
abbrev rG : Rect S1x1024 := Rect.unit (s := S1x1024) ![0, 0] S1x1024.size inb_S1x1024_S1x1024_0_0
abbrev rU : Rect S1024x2816 := Rect.unit (s := S1024x2816) ![0, 0] S1024x2816.size inb_S1024x2816_S1024x2816_0_0
abbrev rN : Rect S2816x1024 := Rect.unit (s := S2816x1024) ![0, 0] S2816x1024.size inb_S2816x1024_S2816x1024_0_0

/-- The second half's output projection. -/
def o12_v15 (x0 : Vec F S512x1024 .f32) (x1 : Vec F S512x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) : FVec F S256x1024 .f32 := k0_pay5 (View.ld x1 rA1) (View.ld x4 rO)
/-- The first half after the first normalisation. -/
def o12_v43 (x0 : Vec F S512x1024 .f32) (x1 : Vec F S512x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) : FVec F S256x1024 .f32 := k0_pay6 (View.ld x1 rA0) (View.ld x4 rO) (View.ld x0 rA0) (View.ld x5 rG) (View.ld x6 rG)
/-- The second half after the first normalisation. -/
def o12_v71 (x0 : Vec F S512x1024 .f32) (x1 : Vec F S512x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) : FVec F S256x1024 .f32 := k0_pay7 (o12_v15 x0 x1 x4 x5 x6 x7 x8 x9 x10 x11) (View.ld x0 rA1) (View.ld x5 rG) (View.ld x6 rG)
/-- The second half's feed-forward part. -/
def o12_v99 (x0 : Vec F S512x1024 .f32) (x1 : Vec F S512x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) : FVec F S256x1024 .f32 := k0_pay13 (k0_pay9 (o12_v15 x0 x1 x4 x5 x6 x7 x8 x9 x10 x11) (View.ld x0 rA1) (View.ld x5 rG) (View.ld x6 rG)) (k0_pay11 (o12_v15 x0 x1 x4 x5 x6 x7 x8 x9 x10 x11) (View.ld x0 rA1) (View.ld x5 rG) (View.ld x6 rG) (View.ld x7 rU)) (View.ld x8 rU) (View.ld x9 rN)
/-- The first half's feed-forward part, centred and scaled. -/
def o12_v122 (x0 : Vec F S512x1024 .f32) (x1 : Vec F S512x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) : FVec F S256x1024 .f32 := k0_pay15 (o12_v43 x0 x1 x4 x5 x6 x7 x8 x9 x10 x11) (k0_pay10 (o12_v43 x0 x1 x4 x5 x6 x7 x8 x9 x10 x11) (View.ld x7 rU)) (k0_pay12 (o12_v43 x0 x1 x4 x5 x6 x7 x8 x9 x10 x11) (View.ld x8 rU)) (View.ld x9 rN)
/-- What the stores leave in window 12's block: its two halves. -/
def out12 (x0 : Vec F S512x1024 .f32) (x1 : Vec F S512x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) : Vec F S512x1024 .f32 :=
  View.canon [⟨rA1, k0_pay2 (o12_v71 x0 x1 x4 x5 x6 x7 x8 x9 x10 x11) (o12_v99 x0 x1 x4 x5 x6 x7 x8 x9 x10 x11) (View.ld x10 rG) (View.ld x11 rG)⟩, ⟨rA0, k0_pay1 (k0_pay14 (View.ld x11 rG)) (o12_v122 x0 x1 x4 x5 x6 x7 x8 x9 x10 x11) (k0_pay16 (View.ld x10 rG))⟩]

theorem cover12 (p0 p1 : Vec F S256x1024 .f32) (y : S512x1024.Idx) :
    ∃ pc ∈ ([⟨rA1, p0⟩, ⟨rA0, p1⟩] : List (View.Piece (Elt F) S512x1024 .f32)), y ∈ pc.1.set :=
  View.cover_of_tiled [⟨rA1, p0⟩, ⟨rA0, p1⟩] S256x1024.size (by rfl) y

/-- The second half's output projection. -/
def o13_v15 (x2 : Vec F S128x1024 .f32) (x3 : Vec F S128x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) : FVec F S64x1024 .f32 := k0_pay17 (View.ld x3 rD1) (View.ld x4 rO)
/-- The first half after the first normalisation. -/
def o13_v43 (x2 : Vec F S128x1024 .f32) (x3 : Vec F S128x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) : FVec F S64x1024 .f32 := k0_pay18 (View.ld x3 rD0) (View.ld x4 rO) (View.ld x2 rD0) (View.ld x5 rG) (View.ld x6 rG)
/-- The second half after the first normalisation. -/
def o13_v71 (x2 : Vec F S128x1024 .f32) (x3 : Vec F S128x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) : FVec F S64x1024 .f32 := k0_pay19 (o13_v15 x2 x3 x4 x5 x6 x7 x8 x9 x10 x11) (View.ld x2 rD1) (View.ld x5 rG) (View.ld x6 rG)
/-- The second half's feed-forward part. -/
def o13_v99 (x2 : Vec F S128x1024 .f32) (x3 : Vec F S128x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) : FVec F S64x1024 .f32 := k0_pay25 (k0_pay21 (o13_v15 x2 x3 x4 x5 x6 x7 x8 x9 x10 x11) (View.ld x2 rD1) (View.ld x5 rG) (View.ld x6 rG)) (k0_pay23 (o13_v15 x2 x3 x4 x5 x6 x7 x8 x9 x10 x11) (View.ld x2 rD1) (View.ld x5 rG) (View.ld x6 rG) (View.ld x7 rU)) (View.ld x8 rU) (View.ld x9 rN)
/-- The first half's feed-forward part, centred and scaled. -/
def o13_v122 (x2 : Vec F S128x1024 .f32) (x3 : Vec F S128x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) : FVec F S64x1024 .f32 := k0_pay27 (o13_v43 x2 x3 x4 x5 x6 x7 x8 x9 x10 x11) (k0_pay22 (o13_v43 x2 x3 x4 x5 x6 x7 x8 x9 x10 x11) (View.ld x7 rU)) (k0_pay24 (o13_v43 x2 x3 x4 x5 x6 x7 x8 x9 x10 x11) (View.ld x8 rU)) (View.ld x9 rN)
/-- What the stores leave in window 13's block: its two halves. -/
def out13 (x2 : Vec F S128x1024 .f32) (x3 : Vec F S128x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) : Vec F S128x1024 .f32 :=
  View.canon [⟨rD1, k0_pay4 (o13_v71 x2 x3 x4 x5 x6 x7 x8 x9 x10 x11) (o13_v99 x2 x3 x4 x5 x6 x7 x8 x9 x10 x11) (View.ld x10 rG) (View.ld x11 rG)⟩, ⟨rD0, k0_pay3 (k0_pay26 (View.ld x11 rG)) (o13_v122 x2 x3 x4 x5 x6 x7 x8 x9 x10 x11) (k0_pay28 (View.ld x10 rG))⟩]

theorem cover13 (p0 p1 : Vec F S64x1024 .f32) (y : S128x1024.Idx) :
    ∃ pc ∈ ([⟨rD1, p0⟩, ⟨rD0, p1⟩] : List (View.Piece (Elt F) S128x1024 .f32)), y ∈ pc.1.set :=
  View.cover_of_tiled [⟨rD1, p0⟩, ⟨rD0, p1⟩] S64x1024.size (by rfl) y

set_option maxHeartbeats 3200000 in
/-- The body where it stores window 12. -/
theorem soundA (c : Dev nD) (E : Set ℕ) (i : grid0.Coords) (arg1 : Memref sig .tc .vmem S512x1024 .f32) (harg1 : arg1.IsWhole) (arg2 : Memref sig .tc .vmem S512x1024 .bf16) (harg2 : arg2.IsWhole) (arg3 : Memref sig .tc .vmem S128x1024 .f32) (harg3 : arg3.IsWhole) (arg4 : Memref sig .tc .vmem S128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S128x1024 .f32) (harg14 : arg14.IsWhole)
    (hc1 : k0_cond1 i = 1#1) (hc2 : ¬ k0_cond2 i = 1#1)
    (x0 : Vec F S512x1024 .f32) (x1 : Vec F S512x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) (K : PUnit → sProp 𝕄) :
    iprop(owns (c : Thread nD τ) arg1 fullShare x0 ∗ owns (c : Thread nD τ) arg2 fullShare x1 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out12 x0 x1 x4 x5 x6 x7 x8 x9 x10 x11)) -∗ K ⟨⟩))
      ⊢ wp frame (wpE (defs₀ (F := F)) Variants.none c none) E (cc0_post i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_post_eq_skeleton]; unfold cc0_post_skel
  simp only [k0_part1_eq_skeleton, k0_part2_eq_skeleton, k0_part3_eq_skeleton]
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf4 hf5 hf6 hf7 hf8 hf9 hf10 hf11
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  refine (View.read_writes_eq_canon _ _ _ (cover12 _ _)).trans ?_
  rfl

set_option maxHeartbeats 3200000 in
/-- The body where it stores window 13. -/
theorem soundB (c : Dev nD) (E : Set ℕ) (i : grid0.Coords) (arg1 : Memref sig .tc .vmem S512x1024 .f32) (harg1 : arg1.IsWhole) (arg2 : Memref sig .tc .vmem S512x1024 .bf16) (harg2 : arg2.IsWhole) (arg3 : Memref sig .tc .vmem S128x1024 .f32) (harg3 : arg3.IsWhole) (arg4 : Memref sig .tc .vmem S128x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S128x1024 .f32) (harg14 : arg14.IsWhole)
    (hc1 : ¬ k0_cond1 i = 1#1) (hc2 : k0_cond2 i = 1#1)
    (x2 : Vec F S128x1024 .f32) (x3 : Vec F S128x1024 .bf16) (x4 : Vec F S1024x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) (K : PUnit → sProp 𝕄) :
    iprop(owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg14 fullShare d)
        ∗ (iprop(owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg14 fullShare (out13 x2 x3 x4 x5 x6 x7 x8 x9 x10 x11)) -∗ K ⟨⟩))
      ⊢ wp frame (wpE (defs₀ (F := F)) Variants.none c none) E (cc0_post i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_post_eq_skeleton]; unfold cc0_post_skel
  simp only [k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d13, %f13, -, H13⟩, Hk⟩
  subst hf2 hf3 hf4 hf5 hf6 hf7 hf8 hf9 hf10 hf11
  sl_exec (disch := first | sl_exact hc1 | sl_exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H13
  ipureintro
  refine (View.read_writes_eq_canon _ _ _ (cover13 _ _)).trans ?_
  rfl

/-- The last point at which window 12's block is stored, up to `t`. -/
def last31 (t : Fin cfg0.N) : Fin cfg0.N := ⟨min t.val 31, lt_of_le_of_lt (Nat.min_le_left _ _) t.isLt⟩

/-- The proof data: inputs keep their blocks; window 12 holds the row block of the last point up to `t` that stores
    it, window 13 what point 32 stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 (last31 t)) (iblk m c 1 (last31 t)) (iblk m c 4 (last31 t)) (iblk m c 5 (last31 t)) (iblk m c 6 (last31 t)) (iblk m c 7 (last31 t)) (iblk m c 8 (last31 t)) (iblk m c 9 (last31 t)) (iblk m c 10 (last31 t)) (iblk m c 11 (last31 t))
    | ⟨13, _⟩ => out13 (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out12 (iblk m c 0 (last31 t)) (iblk m c 1 (last31 t)) (iblk m c 4 (last31 t)) (iblk m c 5 (last31 t)) (iblk m c 6 (last31 t)) (iblk m c 7 (last31 t)) (iblk m c 8 (last31 t)) (iblk m c 9 (last31 t)) (iblk m c 10 (last31 t)) (iblk m c 11 (last31 t)) := by dsimp only [dats]
theorem after0_13 (c : Dev nD) (t : Fin cfg0.N) : (dats m 0 c).after 13 t = out13 (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem last31_of_lt {t : Fin cfg0.N} (h : t.val < 32) : last31 t = t := Fin.ext (Nat.min_eq_left (by omega))

/-- At the last point window 12 still holds what the point before left. -/
theorem before0_12 (c : Dev nD) (t : Fin cfg0.N) (h : ¬ t.val < 32) (d) :
    (dats m 0 c).before 12 t d = (dats m 0 c).after 12 t := by
  have hN : t.val < 33 := lt_of_lt_of_eq t.isLt (show cfg0.N = 33 from N_0)
  have h32 : t.val = 32 := by omega
  have hlt : t.val - 1 < cfg0.N := lt_of_le_of_lt (Nat.sub_le _ _) t.isLt
  rw [(dats m 0 c).before_of_pos 12 t (by omega) (fetch12 t) d]
  have hf : (cfg0.win 12).flush ⟨t.val - 1, hlt⟩ = false := by
    cases hb : (cfg0.win 12).flush ⟨t.val - 1, hlt⟩
    · rfl
    · exact absurd (show (⟨t.val - 1, hlt⟩ : Fin cfg0.N).val = 31 by simp only [h32]) ((flush12 _).mp hb)
  have hi : cfg0.idle 12 (cfg0.grid.coords ⟨t.val - 1, hlt⟩) = false := (idle12 _).mpr (by simp only [h32]; omega)
  rw [hf, if_neg Bool.false_ne_true]
  unfold Dat.left
  rw [hi]
  show (dats m 0 c).after 12 ⟨t.val - 1, hlt⟩ = (dats m 0 c).after 12 t
  have e : last31 ⟨t.val - 1, hlt⟩ = last31 t := Fin.ext (by simp only [last31, h32]; omega)
  rw [after0_12, after0_12, e]

/-- What a point is handed. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What a point of the row blocks returns. -/
def bodyPostA (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ (∃ d, owns (c : Thread nD τ) (st0_13 t) fullShare ((dats m 0 c).before 13 t d)))

/-- What the last point returns. -/
def bodyPostB (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

theorem sound_bodyA (c : Dev nD) (t : Fin cfg0.N) (ht : t.val < 32) :
    bodyPre m c t ⊢ wp frame (wpE (defs₀ (F := F)) Variants.none c none) Set.univ (bodyAt0 t) (fun _ => bodyPostA m c t) := by
  unfold bodyPre bodyPostA bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [after0_12, last31_of_lt ht]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (soundA c Set.univ (grid0.coords t) _ _ _ _ _ _ _ _ _ _ _ _ _ _ _ _ _ _ _ _ _ _ _ _ _ _ _ _ ((cond1_iff t).mpr ht) (fun h => (cond2_iff t).mp h ht) (iblk m c 0 t) (iblk m c 1 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; iexact H13

theorem sound_bodyB (c : Dev nD) (t : Fin cfg0.N) (ht : ¬ t.val < 32) :
    bodyPre m c t ⊢ wp frame (wpE (defs₀ (F := F)) Variants.none c none) Set.univ (bodyAt0 t) (fun _ => bodyPostB m c t) := by
  unfold bodyPre bodyPostB bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  simp only [before0_12 m c t ht]
  rw [after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (soundB c Set.univ (grid0.coords t) _ _ _ _ _ _ _ _ _ _ _ _ _ _ _ _ _ _ _ _ _ _ _ _ _ _ _ _ (fun h => ht ((cond1_iff t).mp h)) ((cond2_iff t).mpr ht) (iblk m c 2 t) (iblk m c 3 t) (iblk m c 4 t) (iblk m c 5 t) (iblk m c 6 t) (iblk m c 7 t) (iblk m c 8 t) (iblk m c 9 t) (iblk m c 10 t) (iblk m c 11 t) _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexists _; iexact H13
  iintro ⟨H2, H3, H4, H5, H6, H7, H8, H9, H10, H11, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem idle12_true (t : Fin cfg0.N) (h : ¬ t.val < 32) : cfg0.idle 12 (cfg0.grid.coords t) = true := by
  cases hb : cfg0.idle 12 (cfg0.grid.coords t)
  · exact absurd ((idle12 t).mp hb) h
  · rfl
theorem idle13_true (t : Fin cfg0.N) (h : t.val < 32) : cfg0.idle 13 (cfg0.grid.coords t) = true := by
  cases hb : cfg0.idle 13 (cfg0.grid.coords t)
  · exact absurd h ((idle13 t).mp hb)
  · rfl
theorem flush13_false (t : Fin cfg0.N) (h : t.val < 32) : (cfg0.win 13).flush t = false := by
  cases hb : (cfg0.win 13).flush t
  · rfl
  · have := (flush0_13 t).mp hb
    omega

theorem body_obligation (c : Dev nD) : BodyObligation (dats (F := F) m 0 c) (defs₀ (F := F)) Variants.none () Set.univ := fun t => by
  rw [bigSep_W0, bigSep_W0, defs₀_row]
  by_cases ht : t.val < 32
  · rw [(idle12 t).mpr ht, idle13_true t ht, flush13_false t ht]
    exact triple_restated (sound_bodyA m c t ht) rfl .rfl fun _ => .rfl
  · rw [idle12_true t ht, (flush12 t).mpr (by omega), (idle13 t).mpr ht]
    exact triple_restated (sound_bodyB m c t ht) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.PostIdeal.Call

end
-- ==== Proof.Calls.Post.lean ====
module

public import proofs.«01_k».proof.Defs
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.PostRefIdeal.Run
public import proofs.«01_k».proof.Proof.Calls.PostRun
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.PostIdeal.Call

open Cert.PostIdeal Cert.PostIdeal.Gen

theorem idx : ∀ t : Fin cfg0.N, win0_0.index t = ![min t.val 31, 0]
    ∧ win0_1.index t = ![min t.val 31, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![min t.val 31, 0]
    ∧ win0_13.index t = ![0, 0] :=
  (by decide +kernel : ∀ t : Fin grid0.N, _)

theorem idxl : ∀ t : Fin cfg0.N, win0_0.index (last31 t) = ![min t.val 31, 0]
    ∧ win0_1.index (last31 t) = ![min t.val 31, 0]
    ∧ win0_2.index (last31 t) = ![0, 0]
    ∧ win0_3.index (last31 t) = ![0, 0]
    ∧ win0_4.index (last31 t) = ![0, 0]
    ∧ win0_5.index (last31 t) = ![0, 0]
    ∧ win0_6.index (last31 t) = ![0, 0]
    ∧ win0_7.index (last31 t) = ![0, 0]
    ∧ win0_8.index (last31 t) = ![0, 0]
    ∧ win0_9.index (last31 t) = ![0, 0]
    ∧ win0_10.index (last31 t) = ![0, 0]
    ∧ win0_11.index (last31 t) = ![0, 0]
    ∧ win0_12.index t = ![min t.val 31, 0] :=
  (by decide +kernel : ∀ t : Fin grid0.N, _)

/-- A row's normalisation, at column `j`: mean and mean square deviation over the 1024 entries. -/
def LN (z g b : Fin 1024 → EReal) (j : Fin 1024) : EReal :=
  (z j - Ideal.div (∑ k, z k) (Ideal.ofBits .f32 1149239296#32)) *
    Ideal.rsqrt (Ideal.div (∑ k, (z k - Ideal.div (∑ k, z k) (Ideal.ofBits .f32 1149239296#32)) * (z k - Ideal.div (∑ k, z k) (Ideal.ofBits .f32 1149239296#32)))
      (Ideal.ofBits .f32 1149239296#32) + Ideal.ofBits .f32 925353388#32) * g j + b j

/-- A row added to its scaled residual. -/
def res (x z : Fin 1024 → EReal) (j : Fin 1024) : EReal := Ideal.ofBits .f32 1071072509#32 * x j + z j

/-- The attention row through the output projection. -/
def proj (a : Fin 1024 → EReal) (w : Fin 1024 → Fin 1024 → EReal) (j : Fin 1024) : EReal := ∑ k, a k * w k j

/-- The gated feed-forward of a row. -/
def ffn (h : Fin 1024 → EReal) (wg wu : Fin 1024 → Fin 2816 → EReal) (wd : Fin 2816 → Fin 1024 → EReal) (j : Fin 1024) : EReal :=
  ∑ n, ((∑ k, h k * wg k n) * Ideal.logistic (∑ k, h k * wg k n) * ∑ k, h k * wu k n) * wd n j

/-- One row through the whole tail of a layer. -/
def tailRow (x a : Fin 1024 → EReal) (w : Fin 1024 → Fin 1024 → EReal) (g1 b1 : Fin 1024 → EReal)
    (wg wu : Fin 1024 → Fin 2816 → EReal) (wd : Fin 2816 → Fin 1024 → EReal) (g2 b2 : Fin 1024 → EReal) : Fin 1024 → EReal :=
  LN (res (LN (res x (proj a w)) g1 b1) (ffn (LN (res x (proj a w)) g1 b1) wg wu wd)) g2 b2

theorem p5_b (a : Vec Ideal S256x1024 .bf16) (w : Vec Ideal S1024x1024 .bf16) (i : Fin 256) (j : Fin 1024) :
    k0_pay5 (F := Ideal) a w (ix2 i j) = proj (fun k => a (ix2 i k)) (fun k j => w (ix2 k j)) j := by
  pointwise [k0_pay5, proj]

theorem p6_b (a : Vec Ideal S256x1024 .bf16) (w : Vec Ideal S1024x1024 .bf16) (x : Vec Ideal S256x1024 .f32) (g b : Vec Ideal S1x1024 .f32) (i : Fin 256) (j : Fin 1024) :
    k0_pay6 (F := Ideal) a w x g b (ix2 i j)
      = LN (res (fun k => x (ix2 i k)) (proj (fun k => a (ix2 i k)) (fun k j => w (ix2 k j)))) (fun k => g (ix2 0 k)) (fun k => b (ix2 0 k)) j := by
  pointwise [k0_pay6, LN, res, proj]

theorem p7_b (a x : Vec Ideal S256x1024 .f32) (g b : Vec Ideal S1x1024 .f32) (i : Fin 256) (j : Fin 1024) :
    k0_pay7 (F := Ideal) a x g b (ix2 i j)
      = LN (res (fun k => x (ix2 i k)) (fun k => a (ix2 i k))) (fun k => g (ix2 0 k)) (fun k => b (ix2 0 k)) j := by
  pointwise [k0_pay7, LN, res]

theorem p9_b (a x : Vec Ideal S256x1024 .f32) (g b : Vec Ideal S1x1024 .f32) (i : Fin 256) (j : Fin 1024) :
    k0_pay9 (F := Ideal) a x g b (ix2 i j) = k0_pay7 (F := Ideal) a x g b (ix2 i j) := by
  pointwise [k0_pay9]

theorem p10_b (a : Vec Ideal S256x1024 .f32) (w : Vec Ideal S1024x2816 .bf16) (i : Fin 256) (j : Fin 2816) :
    k0_pay10 (F := Ideal) a w (ix2 i j) = ∑ k, a (ix2 i k) * w (ix2 k j) := by
  pointwise [k0_pay10, k0_pay8]

theorem p12_b (a : Vec Ideal S256x1024 .f32) (w : Vec Ideal S1024x2816 .bf16) (i : Fin 256) (j : Fin 2816) :
    k0_pay12 (F := Ideal) a w (ix2 i j) = ∑ k, a (ix2 i k) * w (ix2 k j) := by
  pointwise [k0_pay12, k0_pay8]

theorem p11_b (a x : Vec Ideal S256x1024 .f32) (g b : Vec Ideal S1x1024 .f32) (w : Vec Ideal S1024x2816 .bf16) (i : Fin 256) (j : Fin 2816) :
    k0_pay11 (F := Ideal) a x g b w (ix2 i j) = ∑ k, k0_pay7 (F := Ideal) a x g b (ix2 i k) * w (ix2 k j) := by
  pointwise [k0_pay11, k0_pay9]

theorem p13_b (a : Vec Ideal S256x1024 .bf16) (y : Vec Ideal S256x2816 .f32) (w : Vec Ideal S1024x2816 .bf16) (d : Vec Ideal S2816x1024 .bf16) (i : Fin 256) (j : Fin 1024) :
    k0_pay13 (F := Ideal) a y w d (ix2 i j)
      = ∑ n, (y (ix2 i n) * Ideal.logistic (y (ix2 i n)) * ∑ k, a (ix2 i k) * w (ix2 k n)) * d (ix2 n j) := by
  pointwise [k0_pay13]

theorem p2_b (a z : Vec Ideal S256x1024 .f32) (g b : Vec Ideal S1x1024 .f32) (i : Fin 256) (j : Fin 1024) :
    k0_pay2 (F := Ideal) a z g b (ix2 i j)
      = LN (res (fun k => a (ix2 i k)) (fun k => z (ix2 i k))) (fun k => g (ix2 0 k)) (fun k => b (ix2 0 k)) j := by
  pointwise [k0_pay2, LN, res]

theorem p1_b (a : Vec Ideal S256x1024 .f32) (y z : Vec Ideal S256x2816 .f32) (d : Vec Ideal S2816x1024 .bf16) (g b : Vec Ideal S1x1024 .f32) (i : Fin 256) (j : Fin 1024) :
    k0_pay1 (F := Ideal) (k0_pay14 (F := Ideal) b) (k0_pay15 (F := Ideal) a y z d) (k0_pay16 (F := Ideal) g) (ix2 i j)
      = LN (res (fun k => a (ix2 i k)) (fun j => ∑ n, (y (ix2 i n) * Ideal.logistic (y (ix2 i n)) * z (ix2 i n)) * d (ix2 n j)))
          (fun k => g (ix2 0 k)) (fun k => b (ix2 0 k)) j := by
  pointwise [k0_pay1, k0_pay14, k0_pay15, k0_pay16, LN, res]

/-- The lower rows of a block. -/
theorem lower_b (x : Vec Ideal S256x1024 .f32) (a : Vec Ideal S256x1024 .bf16) (w : Vec Ideal S1024x1024 .bf16) (g1 b1 g2 b2 : Vec Ideal S1x1024 .f32)
    (wg wu : Vec Ideal S1024x2816 .bf16) (wd : Vec Ideal S2816x1024 .bf16) (i : Fin 256) (j : Fin 1024) :
    k0_pay1 (F := Ideal) (k0_pay14 (F := Ideal) b2) (k0_pay15 (F := Ideal) (k0_pay6 (F := Ideal) a w x g1 b1) (k0_pay10 (F := Ideal) (k0_pay6 (F := Ideal) a w x g1 b1) wg) (k0_pay12 (F := Ideal) (k0_pay6 (F := Ideal) a w x g1 b1) wu) wd) (k0_pay16 (F := Ideal) g2) (ix2 i j)
      = tailRow (fun k => x (ix2 i k)) (fun k => a (ix2 i k)) (fun k j => w (ix2 k j)) (fun k => g1 (ix2 0 k)) (fun k => b1 (ix2 0 k))
          (fun k n => wg (ix2 k n)) (fun k n => wu (ix2 k n)) (fun n k => wd (ix2 n k)) (fun k => g2 (ix2 0 k)) (fun k => b2 (ix2 0 k)) j := by
  rw [p1_b]; simp only [p10_b, p12_b, p6_b]; rfl

/-- The upper rows of a block. -/
theorem upper_b (x : Vec Ideal S256x1024 .f32) (a : Vec Ideal S256x1024 .bf16) (w : Vec Ideal S1024x1024 .bf16) (g1 b1 g2 b2 : Vec Ideal S1x1024 .f32)
    (wg wu : Vec Ideal S1024x2816 .bf16) (wd : Vec Ideal S2816x1024 .bf16) (i : Fin 256) (j : Fin 1024) :
    k0_pay2 (F := Ideal) (k0_pay7 (F := Ideal) (k0_pay5 (F := Ideal) a w) x g1 b1)
        (k0_pay13 (F := Ideal) (k0_pay9 (F := Ideal) (k0_pay5 (F := Ideal) a w) x g1 b1) (k0_pay11 (F := Ideal) (k0_pay5 (F := Ideal) a w) x g1 b1 wg) wu wd) g2 b2 (ix2 i j)
      = tailRow (fun k => x (ix2 i k)) (fun k => a (ix2 i k)) (fun k j => w (ix2 k j)) (fun k => g1 (ix2 0 k)) (fun k => b1 (ix2 0 k))
          (fun k n => wg (ix2 k n)) (fun k n => wu (ix2 k n)) (fun n k => wd (ix2 n k)) (fun k => g2 (ix2 0 k)) (fun k => b2 (ix2 0 k)) j := by
  rw [p2_b]; simp only [p13_b, p11_b, p9_b, p7_b, p5_b]; rfl

theorem p5_s (a : Vec Ideal S64x1024 .bf16) (w : Vec Ideal S1024x1024 .bf16) (i : Fin 64) (j : Fin 1024) :
    k0_pay17 (F := Ideal) a w (ix2 i j) = proj (fun k => a (ix2 i k)) (fun k j => w (ix2 k j)) j := by
  pointwise [k0_pay17, proj]

theorem p6_s (a : Vec Ideal S64x1024 .bf16) (w : Vec Ideal S1024x1024 .bf16) (x : Vec Ideal S64x1024 .f32) (g b : Vec Ideal S1x1024 .f32) (i : Fin 64) (j : Fin 1024) :
    k0_pay18 (F := Ideal) a w x g b (ix2 i j)
      = LN (res (fun k => x (ix2 i k)) (proj (fun k => a (ix2 i k)) (fun k j => w (ix2 k j)))) (fun k => g (ix2 0 k)) (fun k => b (ix2 0 k)) j := by
  pointwise [k0_pay18, LN, res, proj]

theorem p7_s (a x : Vec Ideal S64x1024 .f32) (g b : Vec Ideal S1x1024 .f32) (i : Fin 64) (j : Fin 1024) :
    k0_pay19 (F := Ideal) a x g b (ix2 i j)
      = LN (res (fun k => x (ix2 i k)) (fun k => a (ix2 i k))) (fun k => g (ix2 0 k)) (fun k => b (ix2 0 k)) j := by
  pointwise [k0_pay19, LN, res]

theorem p9_s (a x : Vec Ideal S64x1024 .f32) (g b : Vec Ideal S1x1024 .f32) (i : Fin 64) (j : Fin 1024) :
    k0_pay21 (F := Ideal) a x g b (ix2 i j) = k0_pay19 (F := Ideal) a x g b (ix2 i j) := by
  pointwise [k0_pay21]

theorem p10_s (a : Vec Ideal S64x1024 .f32) (w : Vec Ideal S1024x2816 .bf16) (i : Fin 64) (j : Fin 2816) :
    k0_pay22 (F := Ideal) a w (ix2 i j) = ∑ k, a (ix2 i k) * w (ix2 k j) := by
  pointwise [k0_pay22, k0_pay20]

theorem p12_s (a : Vec Ideal S64x1024 .f32) (w : Vec Ideal S1024x2816 .bf16) (i : Fin 64) (j : Fin 2816) :
    k0_pay24 (F := Ideal) a w (ix2 i j) = ∑ k, a (ix2 i k) * w (ix2 k j) := by
  pointwise [k0_pay24, k0_pay20]

theorem p11_s (a x : Vec Ideal S64x1024 .f32) (g b : Vec Ideal S1x1024 .f32) (w : Vec Ideal S1024x2816 .bf16) (i : Fin 64) (j : Fin 2816) :
    k0_pay23 (F := Ideal) a x g b w (ix2 i j) = ∑ k, k0_pay19 (F := Ideal) a x g b (ix2 i k) * w (ix2 k j) := by
  pointwise [k0_pay23, k0_pay21]

theorem p13_s (a : Vec Ideal S64x1024 .bf16) (y : Vec Ideal S64x2816 .f32) (w : Vec Ideal S1024x2816 .bf16) (d : Vec Ideal S2816x1024 .bf16) (i : Fin 64) (j : Fin 1024) :
    k0_pay25 (F := Ideal) a y w d (ix2 i j)
      = ∑ n, (y (ix2 i n) * Ideal.logistic (y (ix2 i n)) * ∑ k, a (ix2 i k) * w (ix2 k n)) * d (ix2 n j) := by
  pointwise [k0_pay25]

theorem p2_s (a z : Vec Ideal S64x1024 .f32) (g b : Vec Ideal S1x1024 .f32) (i : Fin 64) (j : Fin 1024) :
    k0_pay4 (F := Ideal) a z g b (ix2 i j)
      = LN (res (fun k => a (ix2 i k)) (fun k => z (ix2 i k))) (fun k => g (ix2 0 k)) (fun k => b (ix2 0 k)) j := by
  pointwise [k0_pay4, LN, res]

theorem p1_s (a : Vec Ideal S64x1024 .f32) (y z : Vec Ideal S64x2816 .f32) (d : Vec Ideal S2816x1024 .bf16) (g b : Vec Ideal S1x1024 .f32) (i : Fin 64) (j : Fin 1024) :
    k0_pay3 (F := Ideal) (k0_pay26 (F := Ideal) b) (k0_pay27 (F := Ideal) a y z d) (k0_pay28 (F := Ideal) g) (ix2 i j)
      = LN (res (fun k => a (ix2 i k)) (fun j => ∑ n, (y (ix2 i n) * Ideal.logistic (y (ix2 i n)) * z (ix2 i n)) * d (ix2 n j)))
          (fun k => g (ix2 0 k)) (fun k => b (ix2 0 k)) j := by
  pointwise [k0_pay3, k0_pay26, k0_pay27, k0_pay28, LN, res]

/-- The lower rows of a block. -/
theorem lower_s (x : Vec Ideal S64x1024 .f32) (a : Vec Ideal S64x1024 .bf16) (w : Vec Ideal S1024x1024 .bf16) (g1 b1 g2 b2 : Vec Ideal S1x1024 .f32)
    (wg wu : Vec Ideal S1024x2816 .bf16) (wd : Vec Ideal S2816x1024 .bf16) (i : Fin 64) (j : Fin 1024) :
    k0_pay3 (F := Ideal) (k0_pay26 (F := Ideal) b2) (k0_pay27 (F := Ideal) (k0_pay18 (F := Ideal) a w x g1 b1) (k0_pay22 (F := Ideal) (k0_pay18 (F := Ideal) a w x g1 b1) wg) (k0_pay24 (F := Ideal) (k0_pay18 (F := Ideal) a w x g1 b1) wu) wd) (k0_pay28 (F := Ideal) g2) (ix2 i j)
      = tailRow (fun k => x (ix2 i k)) (fun k => a (ix2 i k)) (fun k j => w (ix2 k j)) (fun k => g1 (ix2 0 k)) (fun k => b1 (ix2 0 k))
          (fun k n => wg (ix2 k n)) (fun k n => wu (ix2 k n)) (fun n k => wd (ix2 n k)) (fun k => g2 (ix2 0 k)) (fun k => b2 (ix2 0 k)) j := by
  rw [p1_s]; simp only [p10_s, p12_s, p6_s]; rfl

/-- The upper rows of a block. -/
theorem upper_s (x : Vec Ideal S64x1024 .f32) (a : Vec Ideal S64x1024 .bf16) (w : Vec Ideal S1024x1024 .bf16) (g1 b1 g2 b2 : Vec Ideal S1x1024 .f32)
    (wg wu : Vec Ideal S1024x2816 .bf16) (wd : Vec Ideal S2816x1024 .bf16) (i : Fin 64) (j : Fin 1024) :
    k0_pay4 (F := Ideal) (k0_pay19 (F := Ideal) (k0_pay17 (F := Ideal) a w) x g1 b1)
        (k0_pay25 (F := Ideal) (k0_pay21 (F := Ideal) (k0_pay17 (F := Ideal) a w) x g1 b1) (k0_pay23 (F := Ideal) (k0_pay17 (F := Ideal) a w) x g1 b1 wg) wu wd) g2 b2 (ix2 i j)
      = tailRow (fun k => x (ix2 i k)) (fun k => a (ix2 i k)) (fun k j => w (ix2 k j)) (fun k => g1 (ix2 0 k)) (fun k => b1 (ix2 0 k))
          (fun k n => wg (ix2 k n)) (fun k n => wu (ix2 k n)) (fun n k => wd (ix2 n k)) (fun k => g2 (ix2 0 k)) (fun k => b2 (ix2 0 k)) j := by
  rw [p2_s]; simp only [p13_s, p11_s, p9_s, p7_s, p5_s]; rfl

set_option maxHeartbeats 1000000 in
theorem ref_v59 (m : (ℓ : Loc Cert.PostRefIdeal.nD Cert.PostRefIdeal.τ Cert.PostRefIdeal.sig) → Buf (Elt Ideal) ℓ) (c : Dev Cert.PostRefIdeal.nD) (r : Fin _) (j : Fin 1024) :
    Cert.PostRefIdeal.Value.res_main_v59 m c (ix2 r j)
      = tailRow (fun k => m (c.tc.loc Cert.PostRefIdeal.main_arg0) (ix2 r k)) (fun k => m (c.tc.loc Cert.PostRefIdeal.main_arg1) (ix2 r k))
          (fun k j => m (c.tc.loc Cert.PostRefIdeal.main_arg4) (ix2 k j)) (fun k => m (c.tc.loc Cert.PostRefIdeal.main_arg5) (ix1 k)) (fun k => m (c.tc.loc Cert.PostRefIdeal.main_arg6) (ix1 k))
          (fun k n => m (c.tc.loc Cert.PostRefIdeal.main_arg7) (ix2 k n)) (fun k n => m (c.tc.loc Cert.PostRefIdeal.main_arg8) (ix2 k n)) (fun n k => m (c.tc.loc Cert.PostRefIdeal.main_arg9) (ix2 n k))
          (fun k => m (c.tc.loc Cert.PostRefIdeal.main_arg10) (ix1 k)) (fun k => m (c.tc.loc Cert.PostRefIdeal.main_arg11) (ix1 k)) j := by
  pointwise [Cert.PostRefIdeal.Value.res_main_v59]
  unfold tailRow LN res ffn proj
  rfl

set_option maxHeartbeats 1000000 in
theorem ref_v119 (m : (ℓ : Loc Cert.PostRefIdeal.nD Cert.PostRefIdeal.τ Cert.PostRefIdeal.sig) → Buf (Elt Ideal) ℓ) (c : Dev Cert.PostRefIdeal.nD) (r : Fin _) (j : Fin 1024) :
    Cert.PostRefIdeal.Value.res_main_v119 m c (ix2 r j)
      = tailRow (fun k => m (c.tc.loc Cert.PostRefIdeal.main_arg2) (ix2 r k)) (fun k => m (c.tc.loc Cert.PostRefIdeal.main_arg3) (ix2 r k))
          (fun k j => m (c.tc.loc Cert.PostRefIdeal.main_arg4) (ix2 k j)) (fun k => m (c.tc.loc Cert.PostRefIdeal.main_arg5) (ix1 k)) (fun k => m (c.tc.loc Cert.PostRefIdeal.main_arg6) (ix1 k))
          (fun k n => m (c.tc.loc Cert.PostRefIdeal.main_arg7) (ix2 k n)) (fun k n => m (c.tc.loc Cert.PostRefIdeal.main_arg8) (ix2 k n)) (fun n k => m (c.tc.loc Cert.PostRefIdeal.main_arg9) (ix2 n k))
          (fun k => m (c.tc.loc Cert.PostRefIdeal.main_arg10) (ix1 k)) (fun k => m (c.tc.loc Cert.PostRefIdeal.main_arg11) (ix1 k)) j := by
  pointwise [Cert.PostRefIdeal.Value.res_main_v119]
  unfold tailRow LN res ffn proj
  rfl

theorem ld_rA0 {e : EltTy} (x : Vec Ideal S512x1024 e) (i : Fin 256) (k : Fin 1024) : View.ld x rA0 (ix2 i k) = x (ix2 ⟨0 + i.val, by omega⟩ k) := by
  pointwise [rA0]

theorem ld_rA1 {e : EltTy} (x : Vec Ideal S512x1024 e) (i : Fin 256) (k : Fin 1024) : View.ld x rA1 (ix2 i k) = x (ix2 ⟨256 + i.val, by omega⟩ k) := by
  pointwise [rA1]

theorem ld_rD0 {e : EltTy} (x : Vec Ideal S128x1024 e) (i : Fin 64) (k : Fin 1024) : View.ld x rD0 (ix2 i k) = x (ix2 ⟨0 + i.val, by omega⟩ k) := by
  pointwise [rD0]

theorem ld_rD1 {e : EltTy} (x : Vec Ideal S128x1024 e) (i : Fin 64) (k : Fin 1024) : View.ld x rD1 (ix2 i k) = x (ix2 ⟨64 + i.val, by omega⟩ k) := by
  pointwise [rD1]

theorem ld_rO {e : EltTy} (x : Vec Ideal S1024x1024 e) (i : Fin 1024) (k : Fin 1024) : View.ld x rO (ix2 i k) = x (ix2 i k) := by
  pointwise [rO]

theorem ld_rG {e : EltTy} (x : Vec Ideal S1x1024 e) (i : Fin 1) (k : Fin 1024) : View.ld x rG (ix2 i k) = x (ix2 i k) := by
  obtain rfl : i = 0 := Subsingleton.elim _ _
  pointwise [rG]

theorem ld_rU {e : EltTy} (x : Vec Ideal S1024x2816 e) (i : Fin 1024) (k : Fin 2816) : View.ld x rU (ix2 i k) = x (ix2 i k) := by
  pointwise [rU]

theorem ld_rN {e : EltTy} (x : Vec Ideal S2816x1024 e) (i : Fin 2816) (k : Fin 1024) : View.ld x rN (ix2 i k) = x (ix2 i k) := by
  pointwise [rN]

variable (m : (ℓ : Loc nD τ sig) → Buf (Elt Ideal) ℓ)

theorem in_0 (c : Dev nD) (t : Fin cfg0.N) (i : Fin 512) (k : Fin 1024) (r : Fin 16384) (hr : r.val = 512 * min t.val 31 + i.val) :
    iblk m c 0 t (ix2 i k) = m ((c : Thread nD τ).loc main_arg0) (ix2 r k) := by
  blk_point [iblk, V, idx t]

theorem in_1 (c : Dev nD) (t : Fin cfg0.N) (i : Fin 512) (k : Fin 1024) (r : Fin 16384) (hr : r.val = 512 * min t.val 31 + i.val) :
    iblk m c 1 t (ix2 i k) = m ((c : Thread nD τ).loc main_arg1) (ix2 r k) := by
  blk_point [iblk, V, idx t]

theorem in_2 (c : Dev nD) (t : Fin cfg0.N) (i : Fin 128) (k : Fin 1024) :
    iblk m c 2 t (ix2 i k) = m ((c : Thread nD τ).loc main_arg2) (ix2 i k) := by
  blk_point [iblk, V, idx t]

theorem in_3 (c : Dev nD) (t : Fin cfg0.N) (i : Fin 128) (k : Fin 1024) :
    iblk m c 3 t (ix2 i k) = m ((c : Thread nD τ).loc main_arg3) (ix2 i k) := by
  blk_point [iblk, V, idx t]

theorem in_4 (c : Dev nD) (t : Fin cfg0.N) (i : Fin 1024) (k : Fin 1024) :
    iblk m c 4 t (ix2 i k) = m ((c : Thread nD τ).loc main_arg4) (ix2 i k) := by
  blk_point [iblk, V, idx t]

theorem in_7 (c : Dev nD) (t : Fin cfg0.N) (i : Fin 1024) (k : Fin 2816) :
    iblk m c 7 t (ix2 i k) = m ((c : Thread nD τ).loc main_arg7) (ix2 i k) := by
  blk_point [iblk, V, idx t]

theorem in_8 (c : Dev nD) (t : Fin cfg0.N) (i : Fin 1024) (k : Fin 2816) :
    iblk m c 8 t (ix2 i k) = m ((c : Thread nD τ).loc main_arg8) (ix2 i k) := by
  blk_point [iblk, V, idx t]

theorem in_9 (c : Dev nD) (t : Fin cfg0.N) (i : Fin 2816) (k : Fin 1024) :
    iblk m c 9 t (ix2 i k) = m ((c : Thread nD τ).loc main_arg9) (ix2 i k) := by
  blk_point [iblk, V, idx t]

theorem in_5 (c : Dev nD) (t : Fin cfg0.N) (k : Fin 1024) :
    iblk m c 5 t (ix2 0 k) = m ((c : Thread nD τ).loc main_arg5) (ix1 k) := by
  blk_point [iblk, V, idx t]

theorem in_6 (c : Dev nD) (t : Fin cfg0.N) (k : Fin 1024) :
    iblk m c 6 t (ix2 0 k) = m ((c : Thread nD τ).loc main_arg6) (ix1 k) := by
  blk_point [iblk, V, idx t]

theorem in_10 (c : Dev nD) (t : Fin cfg0.N) (k : Fin 1024) :
    iblk m c 10 t (ix2 0 k) = m ((c : Thread nD τ).loc main_arg10) (ix1 k) := by
  blk_point [iblk, V, idx t]

theorem in_11 (c : Dev nD) (t : Fin cfg0.N) (k : Fin 1024) :
    iblk m c 11 t (ix2 0 k) = m ((c : Thread nD τ).loc main_arg11) (ix1 k) := by
  blk_point [iblk, V, idx t]

theorem min31 (t : Fin cfg0.N) : min (last31 t).val 31 = min t.val 31 := by
  simp [last31]

theorem emb12 (t : Fin cfg0.N) (a : Fin 512) (b : Fin 1024) : ∃ r : Fin 16384,
    ((View.whole main_v10_0).slice (win0_12.rect t)).emb (ix2 a b) = ix2 r b ∧ r.val = 512 * min t.val 31 + a.val := by
  refine ⟨⟨512 * min t.val 31 + a.val, by omega⟩, ?_, rfl⟩
  blk_ext [idx t]

theorem emb13 (t : Fin cfg0.N) (a : Fin 128) (b : Fin 1024) :
    ((View.whole main_v10_1).slice (win0_13.rect t)).emb (ix2 a b) = ix2 a b := by
  blk_ext [idx t]

set_option maxHeartbeats 4000000 in
theorem algebraic : Cert.algebraic_PostIdeal_PostRefIdeal := by
  pair_intro
  · run_from Cert.PostIdeal.Call.run_main m g
  · run_from Cert.PostRefIdeal.Value.run m' g'
    · symm
      refine (dats m 0 c).arrAt_eq_of_covers 12 _ (by decide +kernel) fun t hf y => ?_
      blk_simp; rw [after0_12]; frame_out
      canon_tiles x h
      · simp only [o12_v15, o12_v43, o12_v71, o12_v99, o12_v122]
        idx_vars x
        idx_vars y
        have h0 : y0.val = 256 + x0.val := by simpa using h0
        have h1 : y1 = x1 := Fin.ext (by simpa using h1)
        subst h1
        obtain ⟨r, he, hr⟩ := emb12 t y0 y1
        rw [he]
        refine (upper_b _ _ _ _ _ _ _ _ _ _ x0 y1).trans ?_
        refine Eq.trans ?_ (ref_v59 m' c r y1).symm
        rw [(hagree c).1, (hagree c).2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
        have hx : ∀ k, View.ld (iblk m c 0 (last31 t)) rA1 (ix2 x0 k) = m ((c : Thread nD τ).loc main_arg0) (ix2 r k) := fun k => by
          rw [ld_rA1]; exact in_0 m c _ _ k r (by rw [min31]; simp only; omega)
        have ha : ∀ k, View.ld (iblk m c 1 (last31 t)) rA1 (ix2 x0 k) = m ((c : Thread nD τ).loc main_arg1) (ix2 r k) := fun k => by
          rw [ld_rA1]; exact in_1 m c _ _ k r (by rw [min31]; simp only; omega)
        have h4 : ∀ k n, View.ld (iblk m c 4 (last31 t)) rO (ix2 k n) = m ((c : Thread nD τ).loc main_arg4) (ix2 k n) := fun k n =>
          (ld_rO _ k n).trans (in_4 m c _ k n)
        have h7 : ∀ k n, View.ld (iblk m c 7 (last31 t)) rU (ix2 k n) = m ((c : Thread nD τ).loc main_arg7) (ix2 k n) := fun k n =>
          (ld_rU _ k n).trans (in_7 m c _ k n)
        have h8 : ∀ k n, View.ld (iblk m c 8 (last31 t)) rU (ix2 k n) = m ((c : Thread nD τ).loc main_arg8) (ix2 k n) := fun k n =>
          (ld_rU _ k n).trans (in_8 m c _ k n)
        have h9 : ∀ k n, View.ld (iblk m c 9 (last31 t)) rN (ix2 k n) = m ((c : Thread nD τ).loc main_arg9) (ix2 k n) := fun k n =>
          (ld_rN _ k n).trans (in_9 m c _ k n)
        have h5 : ∀ k, View.ld (iblk m c 5 (last31 t)) rG (ix2 0 k) = m ((c : Thread nD τ).loc main_arg5) (ix1 k) := fun k =>
          (ld_rG _ 0 k).trans (in_5 m c _ k)
        have h6 : ∀ k, View.ld (iblk m c 6 (last31 t)) rG (ix2 0 k) = m ((c : Thread nD τ).loc main_arg6) (ix1 k) := fun k =>
          (ld_rG _ 0 k).trans (in_6 m c _ k)
        simp only [hx, ha, h4, h5, h6, h7, h8, h9, in_10, in_11]
      · simp only [o12_v15, o12_v43, o12_v71, o12_v99, o12_v122]
        idx_vars x
        idx_vars y
        have h0 : y0.val = 0 + x0.val := by simpa using h0
        have h1 : y1 = x1 := Fin.ext (by simpa using h1)
        subst h1
        obtain ⟨r, he, hr⟩ := emb12 t y0 y1
        rw [he]
        refine (lower_b _ _ _ _ _ _ _ _ _ _ x0 y1).trans ?_
        refine Eq.trans ?_ (ref_v59 m' c r y1).symm
        rw [(hagree c).1, (hagree c).2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
        have hx : ∀ k, View.ld (iblk m c 0 (last31 t)) rA0 (ix2 x0 k) = m ((c : Thread nD τ).loc main_arg0) (ix2 r k) := fun k => by
          rw [ld_rA0]; exact in_0 m c _ _ k r (by rw [min31]; simp only; omega)
        have ha : ∀ k, View.ld (iblk m c 1 (last31 t)) rA0 (ix2 x0 k) = m ((c : Thread nD τ).loc main_arg1) (ix2 r k) := fun k => by
          rw [ld_rA0]; exact in_1 m c _ _ k r (by rw [min31]; simp only; omega)
        have h4 : ∀ k n, View.ld (iblk m c 4 (last31 t)) rO (ix2 k n) = m ((c : Thread nD τ).loc main_arg4) (ix2 k n) := fun k n =>
          (ld_rO _ k n).trans (in_4 m c _ k n)
        have h7 : ∀ k n, View.ld (iblk m c 7 (last31 t)) rU (ix2 k n) = m ((c : Thread nD τ).loc main_arg7) (ix2 k n) := fun k n =>
          (ld_rU _ k n).trans (in_7 m c _ k n)
        have h8 : ∀ k n, View.ld (iblk m c 8 (last31 t)) rU (ix2 k n) = m ((c : Thread nD τ).loc main_arg8) (ix2 k n) := fun k n =>
          (ld_rU _ k n).trans (in_8 m c _ k n)
        have h9 : ∀ k n, View.ld (iblk m c 9 (last31 t)) rN (ix2 k n) = m ((c : Thread nD τ).loc main_arg9) (ix2 k n) := fun k n =>
          (ld_rN _ k n).trans (in_9 m c _ k n)
        have h5 : ∀ k, View.ld (iblk m c 5 (last31 t)) rG (ix2 0 k) = m ((c : Thread nD τ).loc main_arg5) (ix1 k) := fun k =>
          (ld_rG _ 0 k).trans (in_5 m c _ k)
        have h6 : ∀ k, View.ld (iblk m c 6 (last31 t)) rG (ix2 0 k) = m ((c : Thread nD τ).loc main_arg6) (ix1 k) := fun k =>
          (ld_rG _ 0 k).trans (in_6 m c _ k)
        simp only [hx, ha, h4, h5, h6, h7, h8, h9, in_10, in_11]
    · symm
      refine (dats m 0 c).arrAt_eq_of_covers 13 _ (by decide +kernel) fun t hf y => ?_
      blk_simp; rw [after0_13]; frame_out
      canon_tiles x h
      · simp only [o13_v15, o13_v43, o13_v71, o13_v99, o13_v122]
        idx_vars x
        idx_vars y
        have h0 : y0.val = 64 + x0.val := by simpa using h0
        have h1 : y1 = x1 := Fin.ext (by simpa using h1)
        subst h1
        rw [emb13]
        refine (upper_s _ _ _ _ _ _ _ _ _ _ x0 y1).trans ?_
        refine Eq.trans ?_ (ref_v119 m' c y0 y1).symm
        rw [(hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
        have e : (⟨64 + x0.val, by omega⟩ : Fin 128) = y0 := Fin.ext h0.symm
        have hx : ∀ k, View.ld (iblk m c 2 t) rD1 (ix2 x0 k) = m ((c : Thread nD τ).loc main_arg2) (ix2 y0 k) := fun k => by
          rw [ld_rD1, e]; exact in_2 m c _ _ k
        have ha : ∀ k, View.ld (iblk m c 3 t) rD1 (ix2 x0 k) = m ((c : Thread nD τ).loc main_arg3) (ix2 y0 k) := fun k => by
          rw [ld_rD1, e]; exact in_3 m c _ _ k
        have h4 : ∀ k n, View.ld (iblk m c 4 t) rO (ix2 k n) = m ((c : Thread nD τ).loc main_arg4) (ix2 k n) := fun k n =>
          (ld_rO _ k n).trans (in_4 m c _ k n)
        have h7 : ∀ k n, View.ld (iblk m c 7 t) rU (ix2 k n) = m ((c : Thread nD τ).loc main_arg7) (ix2 k n) := fun k n =>
          (ld_rU _ k n).trans (in_7 m c _ k n)
        have h8 : ∀ k n, View.ld (iblk m c 8 t) rU (ix2 k n) = m ((c : Thread nD τ).loc main_arg8) (ix2 k n) := fun k n =>
          (ld_rU _ k n).trans (in_8 m c _ k n)
        have h9 : ∀ k n, View.ld (iblk m c 9 t) rN (ix2 k n) = m ((c : Thread nD τ).loc main_arg9) (ix2 k n) := fun k n =>
          (ld_rN _ k n).trans (in_9 m c _ k n)
        have h5 : ∀ k, View.ld (iblk m c 5 t) rG (ix2 0 k) = m ((c : Thread nD τ).loc main_arg5) (ix1 k) := fun k =>
          (ld_rG _ 0 k).trans (in_5 m c _ k)
        have h6 : ∀ k, View.ld (iblk m c 6 t) rG (ix2 0 k) = m ((c : Thread nD τ).loc main_arg6) (ix1 k) := fun k =>
          (ld_rG _ 0 k).trans (in_6 m c _ k)
        simp only [hx, ha, h4, h5, h6, h7, h8, h9, in_10, in_11]
      · simp only [o13_v15, o13_v43, o13_v71, o13_v99, o13_v122]
        idx_vars x
        idx_vars y
        have h0 : y0.val = 0 + x0.val := by simpa using h0
        have h1 : y1 = x1 := Fin.ext (by simpa using h1)
        subst h1
        rw [emb13]
        refine (lower_s _ _ _ _ _ _ _ _ _ _ x0 y1).trans ?_
        refine Eq.trans ?_ (ref_v119 m' c y0 y1).symm
        rw [(hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
        have e : (⟨0 + x0.val, by omega⟩ : Fin 128) = y0 := Fin.ext h0.symm
        have hx : ∀ k, View.ld (iblk m c 2 t) rD0 (ix2 x0 k) = m ((c : Thread nD τ).loc main_arg2) (ix2 y0 k) := fun k => by
          rw [ld_rD0, e]; exact in_2 m c _ _ k
        have ha : ∀ k, View.ld (iblk m c 3 t) rD0 (ix2 x0 k) = m ((c : Thread nD τ).loc main_arg3) (ix2 y0 k) := fun k => by
          rw [ld_rD0, e]; exact in_3 m c _ _ k
        have h4 : ∀ k n, View.ld (iblk m c 4 t) rO (ix2 k n) = m ((c : Thread nD τ).loc main_arg4) (ix2 k n) := fun k n =>
          (ld_rO _ k n).trans (in_4 m c _ k n)
        have h7 : ∀ k n, View.ld (iblk m c 7 t) rU (ix2 k n) = m ((c : Thread nD τ).loc main_arg7) (ix2 k n) := fun k n =>
          (ld_rU _ k n).trans (in_7 m c _ k n)
        have h8 : ∀ k n, View.ld (iblk m c 8 t) rU (ix2 k n) = m ((c : Thread nD τ).loc main_arg8) (ix2 k n) := fun k n =>
          (ld_rU _ k n).trans (in_8 m c _ k n)
        have h9 : ∀ k n, View.ld (iblk m c 9 t) rN (ix2 k n) = m ((c : Thread nD τ).loc main_arg9) (ix2 k n) := fun k n =>
          (ld_rN _ k n).trans (in_9 m c _ k n)
        have h5 : ∀ k, View.ld (iblk m c 5 t) rG (ix2 0 k) = m ((c : Thread nD τ).loc main_arg5) (ix1 k) := fun k =>
          (ld_rG _ 0 k).trans (in_5 m c _ k)
        have h6 : ∀ k, View.ld (iblk m c 6 t) rG (ix2 0 k) = m ((c : Thread nD τ).loc main_arg6) (ix1 k) := fun k =>
          (ld_rG _ 0 k).trans (in_6 m c _ k)
        simp only [hx, ha, h4, h5, h6, h7, h8, h9, in_10, in_11]

end Cert.PostIdeal.Call

end
-- ==== Proof.Calls.Mixer.lean ====
module

public import proofs.«01_k».proof.Defs
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerRefIdeal
public import proofs.«01_k».proof.Proof.Gen.MixerRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MixerIdeal.Value

open Cert.MixerIdeal Cert.MixerIdeal.Gen

theorem idx : ∀ t : Fin cfg0.N, win0_0.index t = ![t.val / 16, t.val % 16, 0]
    ∧ win0_1.index t = ![0, 0]
    ∧ win0_2.index t = ![0, 0]
    ∧ win0_3.index t = ![t.val / 16, t.val % 16, 0]
    ∧ win0_4.index t = ![t.val / 16, 0, 0] :=
  (by decide +kernel : ∀ t : Fin grid0.N, _)

theorem slt2 : ∀ a : Fin 8, IntOp.cmpi .slt (BitVec.ofNat 32 a.val) 2#32 = if a.val < 2 then 1#1 else 0#1 := by decide

theorem pay9_at (X : Vec Ideal S1x512x1024 .f32) (W : Vec Ideal S1024x3072 .bf16) (C : Vec Ideal S8x1024 .f32) (v : Vec Ideal S1x1024 .f32)
    (i : Fin 512) (j : Fin 1024) :
    k0_pay9 X W C v (ix2 i j) = v (ix2 0 j) * (if h : i.val < 2 then C (ix2 ⟨i.val + 6, by omega⟩ j) else k0_pay8 X W (ix2 ⟨i.val - 2, by omega⟩ j)) := by
  have hi := i.isLt
  pointwise [k0_pay9]
  congr 1
  by_cases h8 : i.val < 8
  · rw [dif_pos h8, slt2 ⟨i.val, h8⟩]
    by_cases h2 : i.val < 2
    · rw [dif_pos h2, if_pos h2]
      show C _ = C _
      congr 2; exact Fin.ext (by simp only; omega)
    · rw [dif_neg h2, if_neg h2]
      show k0_pay8 X W _ = k0_pay8 X W _
      congr 2; exact Fin.ext (by simp only; omega)
  · rw [dif_neg h8, dif_neg (by omega)]
    congr 2; exact Fin.ext (by simp only; omega)

theorem slt1 : ∀ a : Fin 8, IntOp.cmpi .slt (BitVec.ofNat 32 a.val) 1#32 = if a.val < 1 then 1#1 else 0#1 := by decide

theorem pay10_at (X : Vec Ideal S1x512x1024 .f32) (W : Vec Ideal S1024x3072 .bf16) (C : Vec Ideal S8x1024 .f32) (v : Vec Ideal S1x1024 .f32)
    (i : Fin 512) (j : Fin 1024) :
    k0_pay10 X W C v (ix2 i j) = v (ix2 0 j) * (if h : i.val < 1 then C (ix2 ⟨i.val + 7, by omega⟩ j) else k0_pay8 X W (ix2 ⟨i.val - 1, by omega⟩ j)) := by
  have hi := i.isLt
  pointwise [k0_pay10]
  congr 1
  by_cases h8 : i.val < 8
  · rw [dif_pos h8, slt1 ⟨i.val, h8⟩]
    by_cases h2 : i.val < 1
    · rw [dif_pos h2, if_pos h2]
      show C _ = C _
      congr 2; exact Fin.ext (by simp only; omega)
    · rw [dif_neg h2, if_neg h2]
      show k0_pay8 X W _ = k0_pay8 X W _
      congr 2; exact Fin.ext (by simp only; omega)
  · rw [dif_neg h8, dif_neg (by omega)]
    congr 2; exact Fin.ext (by simp only; omega)

variable (m : (ℓ : Loc nD τ sig) → Buf (Elt Ideal) ℓ)

/-- After any point the carried rows are the last eight rows of that point's product. -/
theorem carry (c : Dev nD) (t : Fin cfg0.N) :
    (outsAt0 m c t.val t.isLt).2.2 = k0_pay3 (k0_pay8 (iblk m c 0 t) (iblk m c 1 t)) := by
  funext y
  by_cases h : t.val % 16 = 0
  · rw [outsAt0_A m c t h]; dsimp only
    frame_out
  · rw [outsAt0_B m c t h]; dsimp only
    frame_out

/-- The product the convolution runs over, at row `s` of sample `n`. -/
def U (x : Vec Ideal S2x8192x1024 .f32) (w : Vec Ideal S1024x3072 .f32) (n : Fin 2) (s : Fin 8192) (j : Fin 1024) : EReal :=
  (∑ k : Fin 1024, x (ix3 n s k) * w (ix2 k ⟨1024 + j.val, by omega⟩)) * (∑ k : Fin 1024, x (ix3 n s k) * w (ix2 k ⟨2048 + j.val, by omega⟩))

/-- The first third of the projection, at row `s` of sample `n`. -/
def B (x : Vec Ideal S2x8192x1024 .f32) (w : Vec Ideal S1024x3072 .f32) (n : Fin 2) (s : Fin 8192) (j : Fin 1024) : EReal :=
  ∑ k : Fin 1024, x (ix3 n s k) * w (ix2 k ⟨j.val, by omega⟩)

theorem pay8_at (c : Dev nD) (t : Fin cfg0.N) (i : Fin 512) (j : Fin 1024) (n : Fin 2) (s : Fin 8192)
    (hn : n.val = t.val / 16) (hs : s.val = 512 * (t.val % 16) + i.val) :
    k0_pay8 (iblk m c 0 t) (iblk m c 1 t) (ix2 i j)
      = U (m ((c : Thread nD τ).loc main_arg0)) (m ((c : Thread nD τ).loc main_arg1)) n s j := by
  have hN : t.val < 32 := lt_of_lt_of_eq t.isLt N_0
  pointwise [k0_pay8, k0_pay6, U]
  blk_point [iblk, V, idx t]

theorem pay7_at (c : Dev nD) (t : Fin cfg0.N) (i : Fin 512) (j : Fin 1024) (n : Fin 2) (s : Fin 8192)
    (hn : n.val = t.val / 16) (hs : s.val = 512 * (t.val % 16) + i.val) :
    k0_pay7 (iblk m c 0 t) (iblk m c 1 t) (ix2 i j)
      = B (m ((c : Thread nD τ).loc main_arg0)) (m ((c : Thread nD τ).loc main_arg1)) n s j := by
  have hN : t.val < 32 := lt_of_lt_of_eq t.isLt N_0
  pointwise [k0_pay7, k0_pay6, B]
  blk_point [iblk, V, idx t]

theorem emb3 (t : Fin cfg0.N) (a : Fin 1) (b : Fin 512) (d : Fin 1024) : ∃ (n : Fin 2) (r : Fin 8192),
    ((View.whole main_v1_0).slice (win0_3.rect t)).emb (ix3 a b d) = ix3 n r d ∧ n.val = t.val / 16 ∧ r.val = 512 * (t.val % 16) + b.val := by
  have hN : t.val < 32 := lt_of_lt_of_eq t.isLt N_0
  refine ⟨⟨t.val / 16, by omega⟩, ⟨512 * (t.val % 16) + b.val, by omega⟩, ?_, rfl, rfl⟩
  blk_ext [idx t]

theorem emb4 (t : Fin cfg0.N) (a : Fin 1) (b : Fin 8) (d : Fin 1024) : ∃ (n : Fin 2),
    ((View.whole main_v1_1).slice (win0_4.rect t)).emb (ix3 a b d) = ix3 n b d ∧ n.val = t.val / 16 := by
  have hN : t.val < 32 := lt_of_lt_of_eq t.isLt N_0
  refine ⟨⟨t.val / 16, by omega⟩, ?_, rfl⟩
  blk_ext [idx t]

/-- What the launch's result holds at one entry, in the arguments. -/
def G (x : Vec Ideal S2x8192x1024 .f32) (w : Vec Ideal S1024x3072 .f32) (cw : Vec Ideal S3x1024 .f32) (n : Fin 2) (r : Fin 8192) (j : Fin 1024) : EReal :=
  B x w n r j *
    (cw (ix2 0 j) * (if h : r.val < 2 then 0 else U x w n ⟨r.val - 2, by omega⟩ j)
      + cw (ix2 1 j) * (if h : r.val < 1 then 0 else U x w n ⟨r.val - 1, by omega⟩ j)
      + cw (ix2 2 j) * U x w n r j)

theorem w_at (c : Dev nD) (t : Fin cfg0.N) (i : Fin 3) (j : Fin 1024) :
    iblk m c 2 t (ix2 i j) = m ((c : Thread nD τ).loc main_arg2) (ix2 i j) := by
  blk_point [iblk, V, idx t]

theorem pay3_at (v : Vec Ideal S512x1024 .f32) (i : Fin 8) (j : Fin 1024) : k0_pay3 (F := Ideal) v (ix2 i j) = v (ix2 ⟨504 + i.val, by omega⟩ j) := by
  pointwise [k0_pay3, k0_pay2]

theorem ld0 (x : Vec Ideal S3x1024 .f32) (j : Fin 1024) :
    View.ld x (Rect.unit ![0, 0] ![1, 1024] inb_S3x1024_S1x1024_0_0) (ix2 0 j) = x (ix2 0 j) := by
  pointwise []

theorem ld1 (x : Vec Ideal S3x1024 .f32) (j : Fin 1024) :
    View.ld x (Rect.unit ![1, 0] ![1, 1024] inb_S3x1024_S1x1024_1_0) (ix2 0 j) = x (ix2 1 j) := by
  pointwise []

theorem mix (b a₀ a₁ e : EReal) {x x' y y' : EReal} (hx : x = x') (hy : y = y') :
    b * (a₀ * x + a₁ * y + e) = b * (a₀ * x' + a₁ * y' + e) := by rw [hx, hy]

/-- The reference's entry, its shifted rows spelt by the padding, is `G`. -/
theorem tail (x : Vec Ideal S2x8192x1024 .f32) (w : Vec Ideal S1024x3072 .f32) (cw : Vec Ideal S3x1024 .f32) (n : Fin 2) (r : Fin 8192) (j : Fin 1024) :
    (∑ k : Fin 1024, x (ix3 n r k) * w (ix2 k ⟨j.val, by omega⟩)) *
      (((cw (ix2 0 j) * if h : r.val < 2 then (0 : EReal) else
          (∑ k : Fin 1024, x (ix3 n ⟨r.val - 2, by omega⟩ k) * w (ix2 k ⟨1024 + j.val, by omega⟩)) *
            ∑ k : Fin 1024, x (ix3 n ⟨r.val - 2, by omega⟩ k) * w (ix2 k ⟨2048 + j.val, by omega⟩)) +
        cw (ix2 1 j) * if h : 1 + r.val < 2 then (0 : EReal) else
          (∑ k : Fin 1024, x (ix3 n ⟨1 + r.val - 2, by omega⟩ k) * w (ix2 k ⟨1024 + j.val, by omega⟩)) *
            ∑ k : Fin 1024, x (ix3 n ⟨1 + r.val - 2, by omega⟩ k) * w (ix2 k ⟨2048 + j.val, by omega⟩)) +
        cw (ix2 2 j) * ((∑ k : Fin 1024, x (ix3 n r k) * w (ix2 k ⟨1024 + j.val, by omega⟩)) *
            ∑ k : Fin 1024, x (ix3 n r k) * w (ix2 k ⟨2048 + j.val, by omega⟩)))
      = G x w cw n r j := by
  unfold G U B
  refine congrArg (_ * ·) (congrArg (· + _) (congrArg (_ + ·) (congrArg (_ * ·) ?_)))
  by_cases h : r.val < 1
  · rw [dif_pos h, dif_pos (by omega)]
  · rw [dif_neg h, dif_neg (by omega)]
    have e : (⟨1 + r.val - 2, by omega⟩ : Fin 8192) = ⟨r.val - 1, by omega⟩ := Fin.ext (by simp only; omega)
    rw [e]

/-- The rows a point leaves behind, read back at its successor. -/
theorem carry_at (c : Dev nD) (t : Fin cfg0.N) (i : Fin 8) (j : Fin 1024) (n : Fin 2) (s : Fin 8192)
    (hn : n.val = t.val / 16) (hs : s.val = 512 * (t.val % 16) + 504 + i.val) :
    k0_pay3 (k0_pay8 (iblk m c 0 t) (iblk m c 1 t)) (ix2 i j)
      = U (m ((c : Thread nD τ).loc main_arg0)) (m ((c : Thread nD τ).loc main_arg1)) n s j := by
  rw [pay3_at]
  exact pay8_at m c t _ j n s hn (by simp only; omega)

set_option maxHeartbeats 2000000 in
theorem algebraic : Cert.algebraic_MixerIdeal_MixerRefIdeal := by
  pair_intro
  · run_from Cert.MixerIdeal.Gen.run_main m g
  · run_from Cert.MixerRefIdeal.Value.run m' g'
    · symm
      refine (dats m 0 c).arrAt_eq_of_covers 3 _ (by decide +kernel) fun t hf y => ?_
      blk_simp; rw [after0_3]
      have hN : t.val < 32 := lt_of_lt_of_eq t.isLt N_0
      by_cases h : t.val % 16 = 0
      · rw [outsAt0_A m c t h]; dsimp only
        frame_out
        idx_vars y
        obtain ⟨n, r, he, hn, hr⟩ := emb3 t y0 y1 y2
        rw [he]
        obtain ⟨ha0, ha1, ha2⟩ := hagree c
        pointwise [k0_pay1, k0_pay5]
        generalize m' (c.tc.loc MixerRefIdeal.main_arg0) = X0 at ha0 ⊢
        generalize m' (c.tc.loc MixerRefIdeal.main_arg1) = X1 at ha1 ⊢
        generalize m' (c.tc.loc MixerRefIdeal.main_arg2) = X2 at ha2 ⊢
        subst ha0 ha1 ha2
        rw [pay9_at, pay10_at, pay7_at m c t y1 y2 n r hn hr, pay8_at m c t y1 y2 n r hn hr, w_at]
        refine Eq.trans ?_ (tail _ _ _ n r y2).symm
        unfold G
        rw [ld0, ld1, w_at, w_at]
        refine mix _ _ _ _ ?_ ?_
        · by_cases h2 : y1.val < 2
          · rw [dif_pos h2, dif_pos (by omega)]; rfl
          · rw [dif_neg h2, dif_neg (by omega)]
            exact pay8_at m c t _ y2 n _ hn (by simp only; omega)
        · by_cases h2 : y1.val < 1
          · rw [dif_pos h2, dif_pos (by omega)]; rfl
          · rw [dif_neg h2, dif_neg (by omega)]
            exact pay8_at m c t _ y2 n _ hn (by simp only; omega)
      · have hp : t.val - 1 < cfg0.N := Nat.lt_of_le_of_lt (Nat.sub_le _ _) t.isLt
        have hI := idx ⟨t.val - 1, hp⟩
        rw [outsAt0_B m c t h]; dsimp only
        rw [carry m c ⟨t.val - 1, hp⟩]
        frame_out
        idx_vars y
        obtain ⟨n, r, he, hn, hr⟩ := emb3 t y0 y1 y2
        rw [he]
        obtain ⟨ha0, ha1, ha2⟩ := hagree c
        pointwise [k0_pay1]
        generalize m' (c.tc.loc MixerRefIdeal.main_arg0) = X0 at ha0 ⊢
        generalize m' (c.tc.loc MixerRefIdeal.main_arg1) = X1 at ha1 ⊢
        generalize m' (c.tc.loc MixerRefIdeal.main_arg2) = X2 at ha2 ⊢
        subst ha0 ha1 ha2
        rw [pay9_at, pay10_at, pay7_at m c t y1 y2 n r hn hr, pay8_at m c t y1 y2 n r hn hr, w_at]
        refine Eq.trans ?_ (tail _ _ _ n r y2).symm
        unfold G
        rw [ld0, ld1, w_at, w_at]
        refine mix _ _ _ _ ?_ ?_
        · by_cases h2 : y1.val < 2
          · rw [dif_pos h2, dif_neg (by omega)]
            refine (congrFun (Memref.IsWhole.read_unread (Memref.isWhole_whole cc0_scratch0) _) _).trans ?_
            exact carry_at m c ⟨t.val - 1, hp⟩ _ y2 n _ (by simp only; omega) (by simp only; omega)
          · rw [dif_neg h2, dif_neg (by omega)]
            exact pay8_at m c t _ y2 n _ hn (by simp only; omega)
        · by_cases h2 : y1.val < 1
          · rw [dif_pos h2, dif_neg (by omega)]
            refine (congrFun (Memref.IsWhole.read_unread (Memref.isWhole_whole cc0_scratch0) _) _).trans ?_
            exact carry_at m c ⟨t.val - 1, hp⟩ _ y2 n _ (by simp only; omega) (by simp only; omega)
          · rw [dif_neg h2, dif_neg (by omega)]
            exact pay8_at m c t _ y2 n _ hn (by simp only; omega)
    · symm
      refine (dats m 0 c).arrAt_eq_of_covers 4 _ (by decide +kernel) fun t hf y => ?_
      blk_simp; rw [after0_4]
      have hN : t.val < 32 := lt_of_lt_of_eq t.isLt N_0
      have hl : t.val % 16 = 15 := (flush0_4 t).mp hf
      rw [outsAt0_B m c t (by omega)]; dsimp only
      frame_out
      idx_vars y
      obtain ⟨n, he, hn⟩ := emb4 t y0 y1 y2
      rw [he]
      obtain ⟨ha0, ha1, ha2⟩ := hagree c
      pointwise [k0_pay2, k0_pay4]
      generalize m' (c.tc.loc MixerRefIdeal.main_arg0) = X0 at ha0 ⊢
      generalize m' (c.tc.loc MixerRefIdeal.main_arg1) = X1 at ha1 ⊢
      subst ha0 ha1
      rw [pay8_at m c t _ y2 n ⟨8184 + y1.val, by omega⟩ hn (by simp only; omega), dif_neg (by omega)]
      simp only [U]
      congr 1
      all_goals
        refine Finset.sum_congr rfl fun k _ => ?_
        have e : (⟨8186 + y1.val - 2, by omega⟩ : Fin 8192) = ⟨8184 + y1.val, by omega⟩ := Fin.ext (by simp only; omega)
        rw [e]

end Cert.MixerIdeal.Value

end
-- ==== Proof.Calls.MixerStep.lean ====
module

public import proofs.«01_k».proof.Defs
public import proofs.«01_k».proof.Proof.Gen.MixerStepIdeal
public import proofs.«01_k».proof.Proof.Gen.MixerStepIdeal.Skeleton
public import proofs.«01_k».proof.Proof.Gen.MixerStepIdeal.Launch
public import proofs.«01_k».proof.Proof.Gen.MixerStepIdeal.Points
public import proofs.«01_k».proof.Proof.Gen.MixerStepIdeal.Frame
public import proofs.«01_k».proof.Proof.Gen.MixerStepRefIdeal
public import proofs.«01_k».proof.Proof.Gen.MixerStepRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MixerStepIdeal.Value

open Cert.MixerStepIdeal Cert.MixerStepIdeal.Gen

/-- All windows of the single point stage whole arrays. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

theorem algebraic : Cert.algebraic_MixerStepIdeal_MixerStepRefIdeal := by
  pair_intro
  · run_from Cert.MixerStepIdeal.Gen.run_main m g
  · run_from Cert.MixerStepRefIdeal.Value.run m' g'
    · symm
      refine (dats m 0 c).arrAt_eq_of_covers 5 _ (by decide +kernel) fun t hf y => ?_
      blk_simp; rw [after0_5]; frame_out
      idx_vars y
      pointwise [k0_pay3, k0_pay2, k0_pay1]
      blk_point [iblk, V, idx t]
    · symm
      refine (dats m 0 c).arrAt_eq_of_covers 6 _ (by decide +kernel) fun t hf y => ?_
      blk_simp; rw [after0_6]; frame_out
      idx_vars y
      pointwise [k0_pay2, k0_pay1]
      blk_point [iblk, V, idx t]

end Cert.MixerStepIdeal.Value

end
-- ==== Proof.Calls.QkvPay.lean ====
module

public import proofs.«01_k».proof.Defs
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.QkvIdeal.Value

open Cert.QkvIdeal Cert.QkvIdeal.Gen

/-- Row `r` of a column whose halves of a head have their first sixteen rows turned. -/
def turn (z : Fin 1024 → EReal) (ct st : Fin 8 → EReal) (r : Fin 1024) : EReal :=
  if h : r.val % 64 < 8 then z r * ct ⟨r.val % 64, h⟩ - z ⟨r.val + 8, by omega⟩ * st ⟨r.val % 64, h⟩
  else if h' : r.val % 64 - 8 < 8 then z r * ct ⟨r.val % 64 - 8, h'⟩ + z ⟨r.val - 8, by omega⟩ * st ⟨r.val % 64 - 8, h'⟩
  else z r

theorem turn_a (z : Fin 1024 → EReal) (ct st : Fin 8 → EReal) (r a b : Fin 1024) (l : Fin 8) (h : r.val % 64 < 8)
    (ha : a.val = r.val) (hb : b.val = r.val + 8) (hl : l.val = r.val % 64) : z a * ct l - z b * st l = turn z ct st r := by
  have ea : a = r := Fin.ext ha
  have eb : b = ⟨r.val + 8, by omega⟩ := Fin.ext hb
  have el : l = ⟨r.val % 64, h⟩ := Fin.ext hl
  refine Eq.trans ?_ (dif_pos h).symm
  exact congrArg₂ (· - ·) (congrArg₂ (· * ·) (congrArg z ea) (congrArg ct el)) (congrArg₂ (· * ·) (congrArg z eb) (congrArg st el))
theorem turn_b (z : Fin 1024 → EReal) (ct st : Fin 8 → EReal) (r a b : Fin 1024) (l : Fin 8) (h : ¬ r.val % 64 < 8) (h' : r.val % 64 - 8 < 8)
    (ha : a.val = r.val) (hb : b.val = r.val - 8) (hl : l.val = r.val % 64 - 8) : z a * ct l + z b * st l = turn z ct st r := by
  have ea : a = r := Fin.ext ha
  have eb : b = ⟨r.val - 8, by omega⟩ := Fin.ext hb
  have el : l = ⟨r.val % 64 - 8, h'⟩ := Fin.ext hl
  refine Eq.trans ?_ ((dif_neg h).trans (dif_pos h')).symm
  exact congrArg₂ (· + ·) (congrArg₂ (· * ·) (congrArg z ea) (congrArg ct el)) (congrArg₂ (· * ·) (congrArg z eb) (congrArg st el))
theorem turn_c (z : Fin 1024 → EReal) (ct st : Fin 8 → EReal) (r a : Fin 1024) (h : ¬ r.val % 64 < 8) (h' : ¬ r.val % 64 - 8 < 8)
    (ha : a.val = r.val) : z a = turn z ct st r := by
  have ea : a = r := Fin.ext ha
  refine Eq.trans ?_ ((dif_neg h).trans (dif_neg h')).symm
  exact congrArg z ea

section Vars
variable (x0 : Vec Ideal S256x1024 .f32) (x1 x2 x3 x4 x5 : Vec Ideal S1024x1024 .bf16) (x6 x7 x8 : Vec Ideal S256x128 .f32) (x9 x10 : Vec Ideal S8x256 .f32)

theorem ld0 (x : Vec Ideal S256x1024 .f32) : View.ld x r0_0 = x := by
  funext i; idx_vars i; pointwise []
theorem ld1 (x : Vec Ideal S1024x1024 .bf16) : View.ld x r0_1 = x := by
  funext i; idx_vars i; pointwise []
theorem ld2 (x : Vec Ideal S8x256 .f32) : View.ld x r0_2 = x := by
  funext i; idx_vars i; pointwise []
theorem ld4 (x : Vec Ideal S256x128 .f32) : View.ld x r0_4 = x := by
  funext i; idx_vars i; pointwise []

/-- The product of a row of weights and a row of inputs. -/
def zT (w : Vec Ideal S1024x1024 .bf16) (b : Fin 256) (r : Fin 1024) : EReal := ∑ k : Fin 1024, w (ix2 r k) * x0 (ix2 b k)
/-- The product of a row of inputs and a column of weights. -/
def zR (w : Vec Ideal S1024x1024 .bf16) (b : Fin 256) (j : Fin 1024) : EReal := ∑ k : Fin 1024, x0 (ix2 b k) * w (ix2 k j)

theorem pay3_at (w : Vec Ideal S1024x1024 .bf16) (r : Fin 1024) (b : Fin 256) : k0_pay3 (F := Ideal) x0 w (ix2 r b) = zT x0 w b r := by
  pointwise [k0_pay3, k0_pay2]
  unfold zT; rfl
theorem pay95_at (w : Vec Ideal S1024x1024 .bf16) (r : Fin 1024) (b : Fin 256) : k0_pay95 (F := Ideal) (k0_pay2 x0) w (ix2 r b) = zT x0 w b r := by
  pointwise [k0_pay95, k0_pay2]
  unfold zT; rfl
theorem pay76_at (w : Vec Ideal S1024x1024 .bf16) (r : Fin 1024) (b : Fin 256) : k0_pay76 (F := Ideal) (k0_pay2 x0) w (ix2 r b) = zT x0 w b r := by
  pointwise [k0_pay76, k0_pay2]
  unfold zT; rfl
theorem pay64_at (w : Vec Ideal S1024x1024 .bf16) (b : Fin 256) (j : Fin 1024) : k0_pay64 (F := Ideal) (k0_pay2 x0) w (ix2 b j) = zR x0 w b j := by
  pointwise [k0_pay64, k0_pay2]
  unfold zR; rfl
theorem pay75_at (w : Vec Ideal S1024x1024 .bf16) (b : Fin 256) (j : Fin 1024) : k0_pay75 (F := Ideal) (k0_pay2 x0) w (ix2 b j) = zR x0 w b j := by
  pointwise [k0_pay75, k0_pay2]
  unfold zR; rfl
theorem pay4_at (d : Fin 8) (b : Fin 256) : k0_pay4 (F := Ideal) x9 (ix2 d b) = x9 (ix2 d b) := by
  pointwise [k0_pay4]
theorem pay5_at (d : Fin 8) (b : Fin 256) : k0_pay5 (F := Ideal) x9 (ix2 d b) = x9 (ix2 d b) := by
  pointwise [k0_pay5]
theorem pay96_at (d : Fin 8) (b : Fin 256) : k0_pay96 (F := Ideal) x9 (ix2 d b) = x9 (ix2 d b) := by
  pointwise [k0_pay96]
theorem pay97_at (d : Fin 8) (b : Fin 256) : k0_pay97 (F := Ideal) x9 (ix2 d b) = x9 (ix2 d b) := by
  pointwise [k0_pay97]
theorem pay65_at (i : Fin 256) (l : Fin 128) : k0_pay65 (F := Ideal) x6 (ix2 i l) = x6 (ix2 i l) := by
  pointwise [k0_pay65]
theorem pay66_at (i : Fin 256) (l : Fin 128) : k0_pay66 (F := Ideal) x6 (ix2 i l) = x6 (ix2 i l) := by
  pointwise [k0_pay66]
theorem pay67_at (i : Fin 256) (l : Fin 128) : k0_pay67 (F := Ideal) x6 (ix2 i l) = x6 (ix2 i l) := by
  pointwise [k0_pay67]

theorem pay164_eq : k0_pay164 (F := Ideal) x0 x1 x2 x3 x4 x5 x6 x7 x8 x9 x10 =   k0_pay2 x0 := by
  unfold k0_pay164; rw [ld0]
theorem pay165_eq : k0_pay165 (F := Ideal) x0 x1 x2 x3 x4 x5 x6 x7 x8 x9 x10 =   k0_pay3 x0 x2 := by
  unfold k0_pay165; rw [ld0, ld1]
theorem pay166_eq : k0_pay166 (F := Ideal) x0 x1 x2 x3 x4 x5 x6 x7 x8 x9 x10 =   k0_pay4 x9 := by
  unfold k0_pay166; rw [ld2]
theorem pay167_eq : k0_pay167 (F := Ideal) x0 x1 x2 x3 x4 x5 x6 x7 x8 x9 x10 =   k0_pay5 x10 := by
  unfold k0_pay167; rw [ld2]
theorem pay168_eq : k0_pay168 (F := Ideal) x0 x1 x2 x3 x4 x5 x6 x7 x8 x9 x10 =   k0_pay64 (k0_pay2 x0) x1 := by
  unfold k0_pay168; rw [pay164_eq, ld1]
theorem pay169_eq : k0_pay169 (F := Ideal) x0 x1 x2 x3 x4 x5 x6 x7 x8 x9 x10 =   k0_pay65 x6 := by
  unfold k0_pay169; rw [ld4]
theorem pay170_eq : k0_pay170 (F := Ideal) x0 x1 x2 x3 x4 x5 x6 x7 x8 x9 x10 =   k0_pay66 x7 := by
  unfold k0_pay170; rw [ld4]
theorem pay171_eq : k0_pay171 (F := Ideal) x0 x1 x2 x3 x4 x5 x6 x7 x8 x9 x10 =   k0_pay67 x8 := by
  unfold k0_pay171; rw [ld4]
theorem pay179_eq : k0_pay179 (F := Ideal) x0 x1 x2 x3 x4 x5 x6 x7 x8 x9 x10 =   k0_pay76 (k0_pay2 x0) x4 := by
  unfold k0_pay179; rw [pay164_eq, ld1]
theorem pay180_eq : k0_pay180 (F := Ideal) x0 x1 x2 x3 x4 x5 x6 x7 x8 x9 x10 =   k0_pay95 (k0_pay2 x0) x5 := by
  unfold k0_pay180; rw [pay164_eq, ld1]
theorem pay181_eq : k0_pay181 (F := Ideal) x0 x1 x2 x3 x4 x5 x6 x7 x8 x9 x10 =   k0_pay96 x9 := by
  unfold k0_pay181; rw [ld2]
theorem pay182_eq : k0_pay182 (F := Ideal) x0 x1 x2 x3 x4 x5 x6 x7 x8 x9 x10 =   k0_pay97 x10 := by
  unfold k0_pay182; rw [ld2]
/-- Entry `j` of a row turned by tables: itself, the entry eight on and the entry eight back within its 128. -/
def rotl (z : Fin 1024 → EReal) (c sa sb : Fin 128 → EReal) (j : Fin 1024) : EReal :=
  z j * c ⟨j.val % 128, by omega⟩ + z ⟨j.val / 128 * 128 + (j.val % 128 + 8) % 128, by omega⟩ * sa ⟨j.val % 128, by omega⟩
    + z ⟨j.val / 128 * 128 + (j.val % 128 + 120) % 128, by omega⟩ * sb ⟨j.val % 128, by omega⟩

theorem rung (z : Fin 1024 → EReal) (c sa sb : Fin 128 → EReal) (j a b d : Fin 1024) (l : Fin 128)
    (ha : a.val = j.val) (hb : b.val = j.val / 128 * 128 + (j.val % 128 + 8) % 128)
    (hd : d.val = j.val / 128 * 128 + (j.val % 128 + 120) % 128) (hl : l.val = j.val % 128) :
    z a * c l + z b * sa l + z d * sb l = rotl z c sa sb j := by
  have ea : a = j := Fin.ext ha
  have el : l = ⟨j.val % 128, by omega⟩ := Fin.ext hl
  have eb : b = ⟨j.val / 128 * 128 + (j.val % 128 + 8) % 128, by omega⟩ := Fin.ext hb
  have ed : d = ⟨j.val / 128 * 128 + (j.val % 128 + 120) % 128, by omega⟩ := Fin.ext hd
  exact congrArg₂ (· + ·) (congrArg₂ (· + ·) (congrArg₂ (· * ·) (congrArg z ea) (congrArg c el))
    (congrArg₂ (· * ·) (congrArg z eb) (congrArg sa el))) (congrArg₂ (· * ·) (congrArg z ed) (congrArg sb el))

/-- The heights of the pieces of a turned column: two of eight rows and one of forty-eight, for every half of a head. -/
def SS : List Shape := [S8x256, S8x256, S48x256, S8x256, S8x256, S48x256, S8x256, S8x256, S48x256, S8x256, S8x256, S48x256, S8x256, S8x256, S48x256, S8x256, S8x256, S48x256, S8x256, S8x256, S48x256, S8x256, S8x256, S48x256, S8x256, S8x256, S48x256, S8x256, S8x256, S48x256, S8x256, S8x256, S48x256, S8x256, S8x256, S48x256, S8x256, S8x256, S48x256, S8x256, S8x256, S48x256, S8x256, S8x256, S48x256, S8x256, S8x256, S48x256]

theorem piece8 (xs : List ((s : Shape) × (s.Idx → EReal))) (h : Shape.Concatenates (xs.map (·.1)) S1024x256 0) (hs : xs.map (·.1) = SS) (r : Fin 1024) (b : Fin 256) (k : ℕ)
    (x₁ : S8x256.Idx → EReal) (hxk : xs[k]? = some ⟨S8x256, x₁⟩) (pre : ℕ)
    (hpre : ((SS.take k).map fun s => if h : s.rank = S1024x256.rank then s.size ((0 : Fin S1024x256.rank).cast h.symm) else 0).sum = pre)
    (i : Fin 8) (ha : pre + i.val = r.val) : concatenate S1024x256 0 xs h (ix2 r b) = x₁ (ix2 i b) := by
  obtain ⟨hk, hx⟩ := List.getElem?_eq_some_iff.1 hxk
  refine concatenate_apply_piece (t := S1024x256) 0 xs h (ix2 r b) k hk S8x256 x₁ hx rfl pre (by rw [List.map_take, hs]; exact hpre) (ix2 i b) ?_ ?_
  · intro d hd
    match d, hd with
    | ⟨0, _⟩, hd => exact absurd rfl hd
    | ⟨1, _⟩, _ => rfl
  · exact ha

theorem piece48 (xs : List ((s : Shape) × (s.Idx → EReal))) (h : Shape.Concatenates (xs.map (·.1)) S1024x256 0) (hs : xs.map (·.1) = SS) (r : Fin 1024) (b : Fin 256) (k : ℕ)
    (x₁ : S48x256.Idx → EReal) (hxk : xs[k]? = some ⟨S48x256, x₁⟩) (pre : ℕ)
    (hpre : ((SS.take k).map fun s => if h : s.rank = S1024x256.rank then s.size ((0 : Fin S1024x256.rank).cast h.symm) else 0).sum = pre)
    (i : Fin 48) (ha : pre + i.val = r.val) : concatenate S1024x256 0 xs h (ix2 r b) = x₁ (ix2 i b) := by
  obtain ⟨hk, hx⟩ := List.getElem?_eq_some_iff.1 hxk
  refine concatenate_apply_piece (t := S1024x256) 0 xs h (ix2 r b) k hk S48x256 x₁ hx rfl pre (by rw [List.map_take, hs]; exact hpre) (ix2 i b) ?_ ?_
  · intro d hd
    match d, hd with
    | ⟨0, _⟩, hd => exact absurd rfl hd
    | ⟨1, _⟩, _ => rfl
  · exact ha

theorem pre0 : ((SS.take 0).map fun s => if h : s.rank = S1024x256.rank then s.size ((0 : Fin S1024x256.rank).cast h.symm) else 0).sum = 0 := by decide +kernel
theorem pre1 : ((SS.take 1).map fun s => if h : s.rank = S1024x256.rank then s.size ((0 : Fin S1024x256.rank).cast h.symm) else 0).sum = 8 := by decide +kernel
theorem pre2 : ((SS.take 2).map fun s => if h : s.rank = S1024x256.rank then s.size ((0 : Fin S1024x256.rank).cast h.symm) else 0).sum = 16 := by decide +kernel
theorem pre3 : ((SS.take 3).map fun s => if h : s.rank = S1024x256.rank then s.size ((0 : Fin S1024x256.rank).cast h.symm) else 0).sum = 64 := by decide +kernel
theorem pre4 : ((SS.take 4).map fun s => if h : s.rank = S1024x256.rank then s.size ((0 : Fin S1024x256.rank).cast h.symm) else 0).sum = 72 := by decide +kernel
theorem pre5 : ((SS.take 5).map fun s => if h : s.rank = S1024x256.rank then s.size ((0 : Fin S1024x256.rank).cast h.symm) else 0).sum = 80 := by decide +kernel
theorem pre6 : ((SS.take 6).map fun s => if h : s.rank = S1024x256.rank then s.size ((0 : Fin S1024x256.rank).cast h.symm) else 0).sum = 128 := by decide +kernel
theorem pre7 : ((SS.take 7).map fun s => if h : s.rank = S1024x256.rank then s.size ((0 : Fin S1024x256.rank).cast h.symm) else 0).sum = 136 := by decide +kernel
theorem pre8 : ((SS.take 8).map fun s => if h : s.rank = S1024x256.rank then s.size ((0 : Fin S1024x256.rank).cast h.symm) else 0).sum = 144 := by decide +kernel
theorem pre9 : ((SS.take 9).map fun s => if h : s.rank = S1024x256.rank then s.size ((0 : Fin S1024x256.rank).cast h.symm) else 0).sum = 192 := by decide +kernel
theorem pre10 : ((SS.take 10).map fun s => if h : s.rank = S1024x256.rank then s.size ((0 : Fin S1024x256.rank).cast h.symm) else 0).sum = 200 := by decide +kernel
theorem pre11 : ((SS.take 11).map fun s => if h : s.rank = S1024x256.rank then s.size ((0 : Fin S1024x256.rank).cast h.symm) else 0).sum = 208 := by decide +kernel
theorem pre12 : ((SS.take 12).map fun s => if h : s.rank = S1024x256.rank then s.size ((0 : Fin S1024x256.rank).cast h.symm) else 0).sum = 256 := by decide +kernel
theorem pre13 : ((SS.take 13).map fun s => if h : s.rank = S1024x256.rank then s.size ((0 : Fin S1024x256.rank).cast h.symm) else 0).sum = 264 := by decide +kernel
theorem pre14 : ((SS.take 14).map fun s => if h : s.rank = S1024x256.rank then s.size ((0 : Fin S1024x256.rank).cast h.symm) else 0).sum = 272 := by decide +kernel
theorem pre15 : ((SS.take 15).map fun s => if h : s.rank = S1024x256.rank then s.size ((0 : Fin S1024x256.rank).cast h.symm) else 0).sum = 320 := by decide +kernel
theorem pre16 : ((SS.take 16).map fun s => if h : s.rank = S1024x256.rank then s.size ((0 : Fin S1024x256.rank).cast h.symm) else 0).sum = 328 := by decide +kernel
theorem pre17 : ((SS.take 17).map fun s => if h : s.rank = S1024x256.rank then s.size ((0 : Fin S1024x256.rank).cast h.symm) else 0).sum = 336 := by decide +kernel
theorem pre18 : ((SS.take 18).map fun s => if h : s.rank = S1024x256.rank then s.size ((0 : Fin S1024x256.rank).cast h.symm) else 0).sum = 384 := by decide +kernel
theorem pre19 : ((SS.take 19).map fun s => if h : s.rank = S1024x256.rank then s.size ((0 : Fin S1024x256.rank).cast h.symm) else 0).sum = 392 := by decide +kernel
theorem pre20 : ((SS.take 20).map fun s => if h : s.rank = S1024x256.rank then s.size ((0 : Fin S1024x256.rank).cast h.symm) else 0).sum = 400 := by decide +kernel
theorem pre21 : ((SS.take 21).map fun s => if h : s.rank = S1024x256.rank then s.size ((0 : Fin S1024x256.rank).cast h.symm) else 0).sum = 448 := by decide +kernel
theorem pre22 : ((SS.take 22).map fun s => if h : s.rank = S1024x256.rank then s.size ((0 : Fin S1024x256.rank).cast h.symm) else 0).sum = 456 := by decide +kernel
theorem pre23 : ((SS.take 23).map fun s => if h : s.rank = S1024x256.rank then s.size ((0 : Fin S1024x256.rank).cast h.symm) else 0).sum = 464 := by decide +kernel
theorem pre24 : ((SS.take 24).map fun s => if h : s.rank = S1024x256.rank then s.size ((0 : Fin S1024x256.rank).cast h.symm) else 0).sum = 512 := by decide +kernel
theorem pre25 : ((SS.take 25).map fun s => if h : s.rank = S1024x256.rank then s.size ((0 : Fin S1024x256.rank).cast h.symm) else 0).sum = 520 := by decide +kernel
theorem pre26 : ((SS.take 26).map fun s => if h : s.rank = S1024x256.rank then s.size ((0 : Fin S1024x256.rank).cast h.symm) else 0).sum = 528 := by decide +kernel
theorem pre27 : ((SS.take 27).map fun s => if h : s.rank = S1024x256.rank then s.size ((0 : Fin S1024x256.rank).cast h.symm) else 0).sum = 576 := by decide +kernel
theorem pre28 : ((SS.take 28).map fun s => if h : s.rank = S1024x256.rank then s.size ((0 : Fin S1024x256.rank).cast h.symm) else 0).sum = 584 := by decide +kernel
theorem pre29 : ((SS.take 29).map fun s => if h : s.rank = S1024x256.rank then s.size ((0 : Fin S1024x256.rank).cast h.symm) else 0).sum = 592 := by decide +kernel
theorem pre30 : ((SS.take 30).map fun s => if h : s.rank = S1024x256.rank then s.size ((0 : Fin S1024x256.rank).cast h.symm) else 0).sum = 640 := by decide +kernel
theorem pre31 : ((SS.take 31).map fun s => if h : s.rank = S1024x256.rank then s.size ((0 : Fin S1024x256.rank).cast h.symm) else 0).sum = 648 := by decide +kernel
theorem pre32 : ((SS.take 32).map fun s => if h : s.rank = S1024x256.rank then s.size ((0 : Fin S1024x256.rank).cast h.symm) else 0).sum = 656 := by decide +kernel
theorem pre33 : ((SS.take 33).map fun s => if h : s.rank = S1024x256.rank then s.size ((0 : Fin S1024x256.rank).cast h.symm) else 0).sum = 704 := by decide +kernel
theorem pre34 : ((SS.take 34).map fun s => if h : s.rank = S1024x256.rank then s.size ((0 : Fin S1024x256.rank).cast h.symm) else 0).sum = 712 := by decide +kernel
theorem pre35 : ((SS.take 35).map fun s => if h : s.rank = S1024x256.rank then s.size ((0 : Fin S1024x256.rank).cast h.symm) else 0).sum = 720 := by decide +kernel
theorem pre36 : ((SS.take 36).map fun s => if h : s.rank = S1024x256.rank then s.size ((0 : Fin S1024x256.rank).cast h.symm) else 0).sum = 768 := by decide +kernel
theorem pre37 : ((SS.take 37).map fun s => if h : s.rank = S1024x256.rank then s.size ((0 : Fin S1024x256.rank).cast h.symm) else 0).sum = 776 := by decide +kernel
theorem pre38 : ((SS.take 38).map fun s => if h : s.rank = S1024x256.rank then s.size ((0 : Fin S1024x256.rank).cast h.symm) else 0).sum = 784 := by decide +kernel
theorem pre39 : ((SS.take 39).map fun s => if h : s.rank = S1024x256.rank then s.size ((0 : Fin S1024x256.rank).cast h.symm) else 0).sum = 832 := by decide +kernel
theorem pre40 : ((SS.take 40).map fun s => if h : s.rank = S1024x256.rank then s.size ((0 : Fin S1024x256.rank).cast h.symm) else 0).sum = 840 := by decide +kernel
theorem pre41 : ((SS.take 41).map fun s => if h : s.rank = S1024x256.rank then s.size ((0 : Fin S1024x256.rank).cast h.symm) else 0).sum = 848 := by decide +kernel
theorem pre42 : ((SS.take 42).map fun s => if h : s.rank = S1024x256.rank then s.size ((0 : Fin S1024x256.rank).cast h.symm) else 0).sum = 896 := by decide +kernel
theorem pre43 : ((SS.take 43).map fun s => if h : s.rank = S1024x256.rank then s.size ((0 : Fin S1024x256.rank).cast h.symm) else 0).sum = 904 := by decide +kernel
theorem pre44 : ((SS.take 44).map fun s => if h : s.rank = S1024x256.rank then s.size ((0 : Fin S1024x256.rank).cast h.symm) else 0).sum = 912 := by decide +kernel
theorem pre45 : ((SS.take 45).map fun s => if h : s.rank = S1024x256.rank then s.size ((0 : Fin S1024x256.rank).cast h.symm) else 0).sum = 960 := by decide +kernel
theorem pre46 : ((SS.take 46).map fun s => if h : s.rank = S1024x256.rank then s.size ((0 : Fin S1024x256.rank).cast h.symm) else 0).sum = 968 := by decide +kernel
theorem pre47 : ((SS.take 47).map fun s => if h : s.rank = S1024x256.rank then s.size ((0 : Fin S1024x256.rank).cast h.symm) else 0).sum = 976 := by decide +kernel

theorem cast_at (C : FVec Ideal S1024x256 .f32) (u : Fin 1) (r : Fin 1024) (b : Fin 256) :
    shapeCast S1x1024x256 C shapeCasts_S1024x256_S1x1024x256 (ix3 u r b) = C (ix2 r b) := by
  pointwise []
theorem scale_at (C : FVec Ideal S1024x256 .f32) (x : EReal) (r : Fin 1024) (b : Fin 256) :
    truncf (F := Ideal) .bf16 (mulf C (broadcast S1024x256 (x : Ideal .f32))) bitsLt_bf16_f32 (ix2 r b) = C (ix2 r b) * x := by
  pointwise []

set_option maxHeartbeats 2000000 in
theorem outKB (i : Fin 256) (j : Fin 1024) : k0_pay178 (F := Ideal) x0 x1 x2 x3 x4 x5 x6 x7 x8 x9 x10 (ix2 i j) =
    rotl (zR x0 x1 i) (fun l => x6 (ix2 i l)) (fun l => x7 (ix2 i l)) (fun l => x8 (ix2 i l)) j := by
  unfold k0_pay178 k0_pay177 k0_pay176 k0_pay175 k0_pay174 k0_pay173 k0_pay172
  simp only [pay168_eq, pay169_eq, pay170_eq, pay171_eq, ld4]
  pointwise [k0_pay68, k0_pay69, k0_pay70, k0_pay71, k0_pay72, k0_pay73, k0_pay74]
  simp only [pay64_at, pay65_at, pay66_at, pay67_at]
  split_ifs
  all_goals
    refine rung (zR x0 x1 i) (fun l => x6 (ix2 i l)) (fun l => x7 (ix2 i l)) (fun l => x8 (ix2 i l)) j _ _ _ _ ?_ ?_ ?_ ?_
    all_goals (first | (simp only [] <;> omega) | omega)

end Vars

end Cert.QkvIdeal.Value

end
-- ==== Proof.Calls.QkvKT.lean ====
module

public import proofs.«01_k».proof.Defs
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Calls.QkvPay
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.QkvIdeal.Value

open Cert.QkvIdeal Cert.QkvIdeal.Gen

section Vars
variable (x0 : Vec Ideal S256x1024 .f32) (x1 x2 x3 x4 x5 : Vec Ideal S1024x1024 .bf16) (x6 x7 x8 : Vec Ideal S256x128 .f32) (x9 x10 : Vec Ideal S8x256 .f32)

set_option maxHeartbeats 4000000 in
theorem outKT (u : Fin 1) (r : Fin 1024) (b : Fin 256) : k0_pay63 (F := Ideal) (k0_pay165 x0 x1 x2 x3 x4 x5 x6 x7 x8 x9 x10) (k0_pay166 x0 x1 x2 x3 x4 x5 x6 x7 x8 x9 x10) (k0_pay167 x0 x1 x2 x3 x4 x5 x6 x7 x8 x9 x10) (k0_pay8 x0 x2 x9 x10) (k0_pay9 x0 x2 x9 x10) (k0_pay10 x0 x2) (k0_pay13 x0 x2 x9 x10) (k0_pay14 x0 x2 x9 x10) (k0_pay15 x0 x2) (k0_pay18 x0 x2 x9 x10) (k0_pay19 x0 x2 x9 x10) (k0_pay20 x0 x2) (k0_pay23 x0 x2 x9 x10) (k0_pay24 x0 x2 x9 x10) (k0_pay25 x0 x2) (k0_pay28 x0 x2 x9 x10) (k0_pay29 (k0_pay166 x0 x1 x2 x3 x4 x5 x6 x7 x8 x9 x10) (k0_pay167 x0 x1 x2 x3 x4 x5 x6 x7 x8 x9 x10) (k0_pay26 x0 x2) (k0_pay27 x0 x2)) (k0_pay30 (k0_pay165 x0 x1 x2 x3 x4 x5 x6 x7 x8 x9 x10)) (k0_pay33 (k0_pay165 x0 x1 x2 x3 x4 x5 x6 x7 x8 x9 x10) (k0_pay166 x0 x1 x2 x3 x4 x5 x6 x7 x8 x9 x10) (k0_pay167 x0 x1 x2 x3 x4 x5 x6 x7 x8 x9 x10)) (k0_pay34 (k0_pay165 x0 x1 x2 x3 x4 x5 x6 x7 x8 x9 x10) (k0_pay166 x0 x1 x2 x3 x4 x5 x6 x7 x8 x9 x10) (k0_pay167 x0 x1 x2 x3 x4 x5 x6 x7 x8 x9 x10)) (k0_pay35 (k0_pay165 x0 x1 x2 x3 x4 x5 x6 x7 x8 x9 x10)) (k0_pay38 (k0_pay165 x0 x1 x2 x3 x4 x5 x6 x7 x8 x9 x10) (k0_pay166 x0 x1 x2 x3 x4 x5 x6 x7 x8 x9 x10) (k0_pay167 x0 x1 x2 x3 x4 x5 x6 x7 x8 x9 x10)) (k0_pay39 (k0_pay165 x0 x1 x2 x3 x4 x5 x6 x7 x8 x9 x10) (k0_pay166 x0 x1 x2 x3 x4 x5 x6 x7 x8 x9 x10) (k0_pay167 x0 x1 x2 x3 x4 x5 x6 x7 x8 x9 x10)) (k0_pay40 (k0_pay165 x0 x1 x2 x3 x4 x5 x6 x7 x8 x9 x10)) (k0_pay43 (k0_pay165 x0 x1 x2 x3 x4 x5 x6 x7 x8 x9 x10) (k0_pay166 x0 x1 x2 x3 x4 x5 x6 x7 x8 x9 x10) (k0_pay167 x0 x1 x2 x3 x4 x5 x6 x7 x8 x9 x10)) (k0_pay44 (k0_pay165 x0 x1 x2 x3 x4 x5 x6 x7 x8 x9 x10) (k0_pay166 x0 x1 x2 x3 x4 x5 x6 x7 x8 x9 x10) (k0_pay167 x0 x1 x2 x3 x4 x5 x6 x7 x8 x9 x10)) (k0_pay45 (k0_pay165 x0 x1 x2 x3 x4 x5 x6 x7 x8 x9 x10)) (k0_pay48 (k0_pay165 x0 x1 x2 x3 x4 x5 x6 x7 x8 x9 x10) (k0_pay166 x0 x1 x2 x3 x4 x5 x6 x7 x8 x9 x10) (k0_pay167 x0 x1 x2 x3 x4 x5 x6 x7 x8 x9 x10)) (k0_pay49 (k0_pay165 x0 x1 x2 x3 x4 x5 x6 x7 x8 x9 x10) (k0_pay166 x0 x1 x2 x3 x4 x5 x6 x7 x8 x9 x10) (k0_pay167 x0 x1 x2 x3 x4 x5 x6 x7 x8 x9 x10)) (k0_pay50 (k0_pay165 x0 x1 x2 x3 x4 x5 x6 x7 x8 x9 x10)) (k0_pay53 (k0_pay165 x0 x1 x2 x3 x4 x5 x6 x7 x8 x9 x10) (k0_pay166 x0 x1 x2 x3 x4 x5 x6 x7 x8 x9 x10) (k0_pay167 x0 x1 x2 x3 x4 x5 x6 x7 x8 x9 x10)) (k0_pay54 (k0_pay165 x0 x1 x2 x3 x4 x5 x6 x7 x8 x9 x10) (k0_pay166 x0 x1 x2 x3 x4 x5 x6 x7 x8 x9 x10) (k0_pay167 x0 x1 x2 x3 x4 x5 x6 x7 x8 x9 x10)) (k0_pay55 (k0_pay165 x0 x1 x2 x3 x4 x5 x6 x7 x8 x9 x10)) (k0_pay58 (k0_pay165 x0 x1 x2 x3 x4 x5 x6 x7 x8 x9 x10) (k0_pay166 x0 x1 x2 x3 x4 x5 x6 x7 x8 x9 x10) (k0_pay167 x0 x1 x2 x3 x4 x5 x6 x7 x8 x9 x10)) (k0_pay59 (k0_pay165 x0 x1 x2 x3 x4 x5 x6 x7 x8 x9 x10) (k0_pay166 x0 x1 x2 x3 x4 x5 x6 x7 x8 x9 x10) (k0_pay167 x0 x1 x2 x3 x4 x5 x6 x7 x8 x9 x10)) (k0_pay60 (k0_pay165 x0 x1 x2 x3 x4 x5 x6 x7 x8 x9 x10)) (k0_pay61 (k0_pay165 x0 x1 x2 x3 x4 x5 x6 x7 x8 x9 x10)) (k0_pay62 (k0_pay165 x0 x1 x2 x3 x4 x5 x6 x7 x8 x9 x10)) (ix3 u r b) =
    turn (zT x0 x2 b) (fun d => x9 (ix2 d b)) (fun d => x10 (ix2 d b)) r := by
  simp only [pay165_eq, pay166_eq, pay167_eq]
  unfold k0_pay63
  refine (cast_at _ u r b).trans ?_
  have hk : 0 ≤ r.val := Nat.zero_le _
  have e0 : zT x0 x2 b = fun r => k0_pay3 (F := Ideal) x0 x2 (ix2 r b) := funext fun r => (pay3_at x0 x2 r b).symm
  have e1 : (fun d => x9 (ix2 d b) : Fin 8 → EReal) = fun d => k0_pay4 (F := Ideal) x9 (ix2 d b) := funext fun d => (pay4_at x9 d b).symm
  have e2 : (fun d => x10 (ix2 d b) : Fin 8 → EReal) = fun d => k0_pay5 (F := Ideal) x10 (ix2 d b) := funext fun d => (pay5_at x10 d b).symm
  rw [e0, e1, e2]
  by_cases h : r.val < 8
  · refine (piece8 _ _ ?hs0 r b 0 ?x0 ?hx0 0 pre0 ⟨r.val - 0, by omega⟩ (by simp only [] <;> omega)).trans ?fin0
    case hs0 => rfl
    case hx0 => rfl
    case fin0 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 8 ≤ r.val := by omega
  clear h
  by_cases h : r.val < 16
  · refine (piece8 _ _ ?hs1 r b 1 ?x1 ?hx1 8 pre1 ⟨r.val - 8, by omega⟩ (by simp only [] <;> omega)).trans ?fin1
    case hs1 => rfl
    case hx1 => rfl
    case fin1 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 16 ≤ r.val := by omega
  clear h
  by_cases h : r.val < 64
  · refine (piece48 _ _ ?hs2 r b 2 ?x2 ?hx2 16 pre2 ⟨r.val - 16, by omega⟩ (by simp only [] <;> omega)).trans ?fin2
    case hs2 => rfl
    case hx2 => rfl
    case fin2 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 64 ≤ r.val := by omega
  clear h
  by_cases h : r.val < 72
  · refine (piece8 _ _ ?hs3 r b 3 ?x3 ?hx3 64 pre3 ⟨r.val - 64, by omega⟩ (by simp only [] <;> omega)).trans ?fin3
    case hs3 => rfl
    case hx3 => rfl
    case fin3 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 72 ≤ r.val := by omega
  clear h
  by_cases h : r.val < 80
  · refine (piece8 _ _ ?hs4 r b 4 ?x4 ?hx4 72 pre4 ⟨r.val - 72, by omega⟩ (by simp only [] <;> omega)).trans ?fin4
    case hs4 => rfl
    case hx4 => rfl
    case fin4 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 80 ≤ r.val := by omega
  clear h
  by_cases h : r.val < 128
  · refine (piece48 _ _ ?hs5 r b 5 ?x5 ?hx5 80 pre5 ⟨r.val - 80, by omega⟩ (by simp only [] <;> omega)).trans ?fin5
    case hs5 => rfl
    case hx5 => rfl
    case fin5 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 128 ≤ r.val := by omega
  clear h
  by_cases h : r.val < 136
  · refine (piece8 _ _ ?hs6 r b 6 ?x6 ?hx6 128 pre6 ⟨r.val - 128, by omega⟩ (by simp only [] <;> omega)).trans ?fin6
    case hs6 => rfl
    case hx6 => rfl
    case fin6 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 136 ≤ r.val := by omega
  clear h
  by_cases h : r.val < 144
  · refine (piece8 _ _ ?hs7 r b 7 ?x7 ?hx7 136 pre7 ⟨r.val - 136, by omega⟩ (by simp only [] <;> omega)).trans ?fin7
    case hs7 => rfl
    case hx7 => rfl
    case fin7 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 144 ≤ r.val := by omega
  clear h
  by_cases h : r.val < 192
  · refine (piece48 _ _ ?hs8 r b 8 ?x8 ?hx8 144 pre8 ⟨r.val - 144, by omega⟩ (by simp only [] <;> omega)).trans ?fin8
    case hs8 => rfl
    case hx8 => rfl
    case fin8 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 192 ≤ r.val := by omega
  clear h
  by_cases h : r.val < 200
  · refine (piece8 _ _ ?hs9 r b 9 ?x9 ?hx9 192 pre9 ⟨r.val - 192, by omega⟩ (by simp only [] <;> omega)).trans ?fin9
    case hs9 => rfl
    case hx9 => rfl
    case fin9 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 200 ≤ r.val := by omega
  clear h
  by_cases h : r.val < 208
  · refine (piece8 _ _ ?hs10 r b 10 ?x10 ?hx10 200 pre10 ⟨r.val - 200, by omega⟩ (by simp only [] <;> omega)).trans ?fin10
    case hs10 => rfl
    case hx10 => rfl
    case fin10 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 208 ≤ r.val := by omega
  clear h
  by_cases h : r.val < 256
  · refine (piece48 _ _ ?hs11 r b 11 ?x11 ?hx11 208 pre11 ⟨r.val - 208, by omega⟩ (by simp only [] <;> omega)).trans ?fin11
    case hs11 => rfl
    case hx11 => rfl
    case fin11 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 256 ≤ r.val := by omega
  clear h
  by_cases h : r.val < 264
  · refine (piece8 _ _ ?hs12 r b 12 ?x12 ?hx12 256 pre12 ⟨r.val - 256, by omega⟩ (by simp only [] <;> omega)).trans ?fin12
    case hs12 => rfl
    case hx12 => rfl
    case fin12 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 264 ≤ r.val := by omega
  clear h
  by_cases h : r.val < 272
  · refine (piece8 _ _ ?hs13 r b 13 ?x13 ?hx13 264 pre13 ⟨r.val - 264, by omega⟩ (by simp only [] <;> omega)).trans ?fin13
    case hs13 => rfl
    case hx13 => rfl
    case fin13 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 272 ≤ r.val := by omega
  clear h
  by_cases h : r.val < 320
  · refine (piece48 _ _ ?hs14 r b 14 ?x14 ?hx14 272 pre14 ⟨r.val - 272, by omega⟩ (by simp only [] <;> omega)).trans ?fin14
    case hs14 => rfl
    case hx14 => rfl
    case fin14 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 320 ≤ r.val := by omega
  clear h
  by_cases h : r.val < 328
  · refine (piece8 _ _ ?hs15 r b 15 ?x15 ?hx15 320 pre15 ⟨r.val - 320, by omega⟩ (by simp only [] <;> omega)).trans ?fin15
    case hs15 => rfl
    case hx15 => rfl
    case fin15 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 328 ≤ r.val := by omega
  clear h
  by_cases h : r.val < 336
  · refine (piece8 _ _ ?hs16 r b 16 ?x16 ?hx16 328 pre16 ⟨r.val - 328, by omega⟩ (by simp only [] <;> omega)).trans ?fin16
    case hs16 => rfl
    case hx16 => rfl
    case fin16 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 336 ≤ r.val := by omega
  clear h
  by_cases h : r.val < 384
  · refine (piece48 _ _ ?hs17 r b 17 ?x17 ?hx17 336 pre17 ⟨r.val - 336, by omega⟩ (by simp only [] <;> omega)).trans ?fin17
    case hs17 => rfl
    case hx17 => rfl
    case fin17 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 384 ≤ r.val := by omega
  clear h
  by_cases h : r.val < 392
  · refine (piece8 _ _ ?hs18 r b 18 ?x18 ?hx18 384 pre18 ⟨r.val - 384, by omega⟩ (by simp only [] <;> omega)).trans ?fin18
    case hs18 => rfl
    case hx18 => rfl
    case fin18 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 392 ≤ r.val := by omega
  clear h
  by_cases h : r.val < 400
  · refine (piece8 _ _ ?hs19 r b 19 ?x19 ?hx19 392 pre19 ⟨r.val - 392, by omega⟩ (by simp only [] <;> omega)).trans ?fin19
    case hs19 => rfl
    case hx19 => rfl
    case fin19 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 400 ≤ r.val := by omega
  clear h
  by_cases h : r.val < 448
  · refine (piece48 _ _ ?hs20 r b 20 ?x20 ?hx20 400 pre20 ⟨r.val - 400, by omega⟩ (by simp only [] <;> omega)).trans ?fin20
    case hs20 => rfl
    case hx20 => rfl
    case fin20 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 448 ≤ r.val := by omega
  clear h
  by_cases h : r.val < 456
  · refine (piece8 _ _ ?hs21 r b 21 ?x21 ?hx21 448 pre21 ⟨r.val - 448, by omega⟩ (by simp only [] <;> omega)).trans ?fin21
    case hs21 => rfl
    case hx21 => rfl
    case fin21 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 456 ≤ r.val := by omega
  clear h
  by_cases h : r.val < 464
  · refine (piece8 _ _ ?hs22 r b 22 ?x22 ?hx22 456 pre22 ⟨r.val - 456, by omega⟩ (by simp only [] <;> omega)).trans ?fin22
    case hs22 => rfl
    case hx22 => rfl
    case fin22 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 464 ≤ r.val := by omega
  clear h
  by_cases h : r.val < 512
  · refine (piece48 _ _ ?hs23 r b 23 ?x23 ?hx23 464 pre23 ⟨r.val - 464, by omega⟩ (by simp only [] <;> omega)).trans ?fin23
    case hs23 => rfl
    case hx23 => rfl
    case fin23 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 512 ≤ r.val := by omega
  clear h
  by_cases h : r.val < 520
  · refine (piece8 _ _ ?hs24 r b 24 ?x24 ?hx24 512 pre24 ⟨r.val - 512, by omega⟩ (by simp only [] <;> omega)).trans ?fin24
    case hs24 => rfl
    case hx24 => rfl
    case fin24 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 520 ≤ r.val := by omega
  clear h
  by_cases h : r.val < 528
  · refine (piece8 _ _ ?hs25 r b 25 ?x25 ?hx25 520 pre25 ⟨r.val - 520, by omega⟩ (by simp only [] <;> omega)).trans ?fin25
    case hs25 => rfl
    case hx25 => rfl
    case fin25 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 528 ≤ r.val := by omega
  clear h
  by_cases h : r.val < 576
  · refine (piece48 _ _ ?hs26 r b 26 ?x26 ?hx26 528 pre26 ⟨r.val - 528, by omega⟩ (by simp only [] <;> omega)).trans ?fin26
    case hs26 => rfl
    case hx26 => rfl
    case fin26 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 576 ≤ r.val := by omega
  clear h
  by_cases h : r.val < 584
  · refine (piece8 _ _ ?hs27 r b 27 ?x27 ?hx27 576 pre27 ⟨r.val - 576, by omega⟩ (by simp only [] <;> omega)).trans ?fin27
    case hs27 => rfl
    case hx27 => rfl
    case fin27 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 584 ≤ r.val := by omega
  clear h
  by_cases h : r.val < 592
  · refine (piece8 _ _ ?hs28 r b 28 ?x28 ?hx28 584 pre28 ⟨r.val - 584, by omega⟩ (by simp only [] <;> omega)).trans ?fin28
    case hs28 => rfl
    case hx28 => rfl
    case fin28 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 592 ≤ r.val := by omega
  clear h
  by_cases h : r.val < 640
  · refine (piece48 _ _ ?hs29 r b 29 ?x29 ?hx29 592 pre29 ⟨r.val - 592, by omega⟩ (by simp only [] <;> omega)).trans ?fin29
    case hs29 => rfl
    case hx29 => rfl
    case fin29 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 640 ≤ r.val := by omega
  clear h
  by_cases h : r.val < 648
  · refine (piece8 _ _ ?hs30 r b 30 ?x30 ?hx30 640 pre30 ⟨r.val - 640, by omega⟩ (by simp only [] <;> omega)).trans ?fin30
    case hs30 => rfl
    case hx30 => rfl
    case fin30 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 648 ≤ r.val := by omega
  clear h
  by_cases h : r.val < 656
  · refine (piece8 _ _ ?hs31 r b 31 ?x31 ?hx31 648 pre31 ⟨r.val - 648, by omega⟩ (by simp only [] <;> omega)).trans ?fin31
    case hs31 => rfl
    case hx31 => rfl
    case fin31 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 656 ≤ r.val := by omega
  clear h
  by_cases h : r.val < 704
  · refine (piece48 _ _ ?hs32 r b 32 ?x32 ?hx32 656 pre32 ⟨r.val - 656, by omega⟩ (by simp only [] <;> omega)).trans ?fin32
    case hs32 => rfl
    case hx32 => rfl
    case fin32 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 704 ≤ r.val := by omega
  clear h
  by_cases h : r.val < 712
  · refine (piece8 _ _ ?hs33 r b 33 ?x33 ?hx33 704 pre33 ⟨r.val - 704, by omega⟩ (by simp only [] <;> omega)).trans ?fin33
    case hs33 => rfl
    case hx33 => rfl
    case fin33 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 712 ≤ r.val := by omega
  clear h
  by_cases h : r.val < 720
  · refine (piece8 _ _ ?hs34 r b 34 ?x34 ?hx34 712 pre34 ⟨r.val - 712, by omega⟩ (by simp only [] <;> omega)).trans ?fin34
    case hs34 => rfl
    case hx34 => rfl
    case fin34 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 720 ≤ r.val := by omega
  clear h
  by_cases h : r.val < 768
  · refine (piece48 _ _ ?hs35 r b 35 ?x35 ?hx35 720 pre35 ⟨r.val - 720, by omega⟩ (by simp only [] <;> omega)).trans ?fin35
    case hs35 => rfl
    case hx35 => rfl
    case fin35 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 768 ≤ r.val := by omega
  clear h
  by_cases h : r.val < 776
  · refine (piece8 _ _ ?hs36 r b 36 ?x36 ?hx36 768 pre36 ⟨r.val - 768, by omega⟩ (by simp only [] <;> omega)).trans ?fin36
    case hs36 => rfl
    case hx36 => rfl
    case fin36 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 776 ≤ r.val := by omega
  clear h
  by_cases h : r.val < 784
  · refine (piece8 _ _ ?hs37 r b 37 ?x37 ?hx37 776 pre37 ⟨r.val - 776, by omega⟩ (by simp only [] <;> omega)).trans ?fin37
    case hs37 => rfl
    case hx37 => rfl
    case fin37 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 784 ≤ r.val := by omega
  clear h
  by_cases h : r.val < 832
  · refine (piece48 _ _ ?hs38 r b 38 ?x38 ?hx38 784 pre38 ⟨r.val - 784, by omega⟩ (by simp only [] <;> omega)).trans ?fin38
    case hs38 => rfl
    case hx38 => rfl
    case fin38 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 832 ≤ r.val := by omega
  clear h
  by_cases h : r.val < 840
  · refine (piece8 _ _ ?hs39 r b 39 ?x39 ?hx39 832 pre39 ⟨r.val - 832, by omega⟩ (by simp only [] <;> omega)).trans ?fin39
    case hs39 => rfl
    case hx39 => rfl
    case fin39 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 840 ≤ r.val := by omega
  clear h
  by_cases h : r.val < 848
  · refine (piece8 _ _ ?hs40 r b 40 ?x40 ?hx40 840 pre40 ⟨r.val - 840, by omega⟩ (by simp only [] <;> omega)).trans ?fin40
    case hs40 => rfl
    case hx40 => rfl
    case fin40 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 848 ≤ r.val := by omega
  clear h
  by_cases h : r.val < 896
  · refine (piece48 _ _ ?hs41 r b 41 ?x41 ?hx41 848 pre41 ⟨r.val - 848, by omega⟩ (by simp only [] <;> omega)).trans ?fin41
    case hs41 => rfl
    case hx41 => rfl
    case fin41 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 896 ≤ r.val := by omega
  clear h
  by_cases h : r.val < 904
  · refine (piece8 _ _ ?hs42 r b 42 ?x42 ?hx42 896 pre42 ⟨r.val - 896, by omega⟩ (by simp only [] <;> omega)).trans ?fin42
    case hs42 => rfl
    case hx42 => rfl
    case fin42 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 904 ≤ r.val := by omega
  clear h
  by_cases h : r.val < 912
  · refine (piece8 _ _ ?hs43 r b 43 ?x43 ?hx43 904 pre43 ⟨r.val - 904, by omega⟩ (by simp only [] <;> omega)).trans ?fin43
    case hs43 => rfl
    case hx43 => rfl
    case fin43 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 912 ≤ r.val := by omega
  clear h
  by_cases h : r.val < 960
  · refine (piece48 _ _ ?hs44 r b 44 ?x44 ?hx44 912 pre44 ⟨r.val - 912, by omega⟩ (by simp only [] <;> omega)).trans ?fin44
    case hs44 => rfl
    case hx44 => rfl
    case fin44 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_c (fun r => Z (ix2 r b)) (fun d => Ct (ix2 d b)) (fun d => St (ix2 d b)) r _ ?_ ?_ ?_ <;> first | (simp only [] <;> omega) | omega
  replace hk : 960 ≤ r.val := by omega
  clear h
  by_cases h : r.val < 968
  · refine (piece8 _ _ ?hs45 r b 45 ?x45 ?hx45 960 pre45 ⟨r.val - 960, by omega⟩ (by simp only [] <;> omega)).trans ?fin45
    case hs45 => rfl
    case hx45 => rfl
    case fin45 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_a (fun r => Z (ix2 r b)) (fun d => Ct (ix2 d b)) (fun d => St (ix2 d b)) r _ _ _ ?_ ?_ ?_ ?_ <;> first | (simp only [] <;> omega) | omega
  replace hk : 968 ≤ r.val := by omega
  clear h
  by_cases h : r.val < 976
  · refine (piece8 _ _ ?hs46 r b 46 ?x46 ?hx46 968 pre46 ⟨r.val - 968, by omega⟩ (by simp only [] <;> omega)).trans ?fin46
    case hs46 => rfl
    case hx46 => rfl
    case fin46 =>
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
      generalize k0_pay3 (F := Ideal) x0 x2 = Z
      generalize k0_pay4 (F := Ideal) x9 = Ct
      generalize k0_pay5 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 976 ≤ r.val := by omega
  clear h
  have h := r.isLt
  refine (piece48 _ _ ?hs47 r b 47 ?x47 ?hx47 976 pre47 ⟨r.val - 976, by omega⟩ (by simp only [] <;> omega)).trans ?fin47
  case hs47 => rfl
  case hx47 => rfl
  case fin47 =>
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    generalize k0_pay3 (F := Ideal) x0 x2 = Z
    generalize k0_pay4 (F := Ideal) x9 = Ct
    generalize k0_pay5 (F := Ideal) x10 = St
    refine turn_c (fun r => Z (ix2 r b)) (fun d => Ct (ix2 d b)) (fun d => St (ix2 d b)) r _ ?_ ?_ ?_ <;> first | (simp only [] <;> omega) | omega

end Vars

end Cert.QkvIdeal.Value

end
-- ==== Proof.Calls.QkvQT.lean ====
module

public import proofs.«01_k».proof.Defs
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Calls.QkvPay
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.QkvIdeal.Value

open Cert.QkvIdeal Cert.QkvIdeal.Gen

section Vars
variable (x0 : Vec Ideal S256x1024 .f32) (x1 x2 x3 x4 x5 : Vec Ideal S1024x1024 .bf16) (x6 x7 x8 : Vec Ideal S256x128 .f32) (x9 x10 : Vec Ideal S8x256 .f32)

set_option maxHeartbeats 4000000 in
theorem outQT (r : Fin 1024) (b : Fin 256) : k0_pay217 (F := Ideal) x0 x1 x2 x3 x4 x5 x6 x7 x8 x9 x10 (ix2 r b) =
    turn (zT x0 x5 b) (fun d => x9 (ix2 d b)) (fun d => x10 (ix2 d b)) r * ((Named.named κ "q_scale" 0x3E38AA3B#32 : Ideal .f32) : EReal) := by
  unfold k0_pay217 k0_pay216 k0_pay215 k0_pay214 k0_pay213 k0_pay212 k0_pay211 k0_pay210 k0_pay209 k0_pay208 k0_pay207 k0_pay206 k0_pay205 k0_pay204 k0_pay203 k0_pay202 k0_pay201 k0_pay200 k0_pay199 k0_pay198 k0_pay197 k0_pay196 k0_pay195 k0_pay194 k0_pay193 k0_pay192 k0_pay191 k0_pay190 k0_pay189 k0_pay188 k0_pay187 k0_pay186 k0_pay185 k0_pay184 k0_pay183
  simp only [pay164_eq, pay180_eq, pay181_eq, pay182_eq, ld1, ld2]
  unfold k0_pay154
  refine (scale_at _ _ r b).trans ?_
  refine congrArg (fun x : EReal => x * ((Named.named κ "q_scale" 0x3E38AA3B#32 : Ideal .f32) : EReal)) ?_
  have hk : 0 ≤ r.val := Nat.zero_le _
  have e0 : zT x0 x5 b = fun r => k0_pay95 (F := Ideal) (k0_pay2 x0) x5 (ix2 r b) := funext fun r => (pay95_at x0 x5 r b).symm
  have e1 : (fun d => x9 (ix2 d b) : Fin 8 → EReal) = fun d => k0_pay96 (F := Ideal) x9 (ix2 d b) := funext fun d => (pay96_at x9 d b).symm
  have e2 : (fun d => x10 (ix2 d b) : Fin 8 → EReal) = fun d => k0_pay97 (F := Ideal) x10 (ix2 d b) := funext fun d => (pay97_at x10 d b).symm
  rw [e0, e1, e2]
  by_cases h : r.val < 8
  · refine (piece8 _ _ ?hs0 r b 0 ?x0 ?hx0 0 pre0 ⟨r.val - 0, by omega⟩ (by simp only [] <;> omega)).trans ?fin0
    case hs0 => rfl
    case hx0 => rfl
    case fin0 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 8 ≤ r.val := by omega
  clear h
  by_cases h : r.val < 16
  · refine (piece8 _ _ ?hs1 r b 1 ?x1 ?hx1 8 pre1 ⟨r.val - 8, by omega⟩ (by simp only [] <;> omega)).trans ?fin1
    case hs1 => rfl
    case hx1 => rfl
    case fin1 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 16 ≤ r.val := by omega
  clear h
  by_cases h : r.val < 64
  · refine (piece48 _ _ ?hs2 r b 2 ?x2 ?hx2 16 pre2 ⟨r.val - 16, by omega⟩ (by simp only [] <;> omega)).trans ?fin2
    case hs2 => rfl
    case hx2 => rfl
    case fin2 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 64 ≤ r.val := by omega
  clear h
  by_cases h : r.val < 72
  · refine (piece8 _ _ ?hs3 r b 3 ?x3 ?hx3 64 pre3 ⟨r.val - 64, by omega⟩ (by simp only [] <;> omega)).trans ?fin3
    case hs3 => rfl
    case hx3 => rfl
    case fin3 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 72 ≤ r.val := by omega
  clear h
  by_cases h : r.val < 80
  · refine (piece8 _ _ ?hs4 r b 4 ?x4 ?hx4 72 pre4 ⟨r.val - 72, by omega⟩ (by simp only [] <;> omega)).trans ?fin4
    case hs4 => rfl
    case hx4 => rfl
    case fin4 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 80 ≤ r.val := by omega
  clear h
  by_cases h : r.val < 128
  · refine (piece48 _ _ ?hs5 r b 5 ?x5 ?hx5 80 pre5 ⟨r.val - 80, by omega⟩ (by simp only [] <;> omega)).trans ?fin5
    case hs5 => rfl
    case hx5 => rfl
    case fin5 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 128 ≤ r.val := by omega
  clear h
  by_cases h : r.val < 136
  · refine (piece8 _ _ ?hs6 r b 6 ?x6 ?hx6 128 pre6 ⟨r.val - 128, by omega⟩ (by simp only [] <;> omega)).trans ?fin6
    case hs6 => rfl
    case hx6 => rfl
    case fin6 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 136 ≤ r.val := by omega
  clear h
  by_cases h : r.val < 144
  · refine (piece8 _ _ ?hs7 r b 7 ?x7 ?hx7 136 pre7 ⟨r.val - 136, by omega⟩ (by simp only [] <;> omega)).trans ?fin7
    case hs7 => rfl
    case hx7 => rfl
    case fin7 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 144 ≤ r.val := by omega
  clear h
  by_cases h : r.val < 192
  · refine (piece48 _ _ ?hs8 r b 8 ?x8 ?hx8 144 pre8 ⟨r.val - 144, by omega⟩ (by simp only [] <;> omega)).trans ?fin8
    case hs8 => rfl
    case hx8 => rfl
    case fin8 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 192 ≤ r.val := by omega
  clear h
  by_cases h : r.val < 200
  · refine (piece8 _ _ ?hs9 r b 9 ?x9 ?hx9 192 pre9 ⟨r.val - 192, by omega⟩ (by simp only [] <;> omega)).trans ?fin9
    case hs9 => rfl
    case hx9 => rfl
    case fin9 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 200 ≤ r.val := by omega
  clear h
  by_cases h : r.val < 208
  · refine (piece8 _ _ ?hs10 r b 10 ?x10 ?hx10 200 pre10 ⟨r.val - 200, by omega⟩ (by simp only [] <;> omega)).trans ?fin10
    case hs10 => rfl
    case hx10 => rfl
    case fin10 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 208 ≤ r.val := by omega
  clear h
  by_cases h : r.val < 256
  · refine (piece48 _ _ ?hs11 r b 11 ?x11 ?hx11 208 pre11 ⟨r.val - 208, by omega⟩ (by simp only [] <;> omega)).trans ?fin11
    case hs11 => rfl
    case hx11 => rfl
    case fin11 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 256 ≤ r.val := by omega
  clear h
  by_cases h : r.val < 264
  · refine (piece8 _ _ ?hs12 r b 12 ?x12 ?hx12 256 pre12 ⟨r.val - 256, by omega⟩ (by simp only [] <;> omega)).trans ?fin12
    case hs12 => rfl
    case hx12 => rfl
    case fin12 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 264 ≤ r.val := by omega
  clear h
  by_cases h : r.val < 272
  · refine (piece8 _ _ ?hs13 r b 13 ?x13 ?hx13 264 pre13 ⟨r.val - 264, by omega⟩ (by simp only [] <;> omega)).trans ?fin13
    case hs13 => rfl
    case hx13 => rfl
    case fin13 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 272 ≤ r.val := by omega
  clear h
  by_cases h : r.val < 320
  · refine (piece48 _ _ ?hs14 r b 14 ?x14 ?hx14 272 pre14 ⟨r.val - 272, by omega⟩ (by simp only [] <;> omega)).trans ?fin14
    case hs14 => rfl
    case hx14 => rfl
    case fin14 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 320 ≤ r.val := by omega
  clear h
  by_cases h : r.val < 328
  · refine (piece8 _ _ ?hs15 r b 15 ?x15 ?hx15 320 pre15 ⟨r.val - 320, by omega⟩ (by simp only [] <;> omega)).trans ?fin15
    case hs15 => rfl
    case hx15 => rfl
    case fin15 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 328 ≤ r.val := by omega
  clear h
  by_cases h : r.val < 336
  · refine (piece8 _ _ ?hs16 r b 16 ?x16 ?hx16 328 pre16 ⟨r.val - 328, by omega⟩ (by simp only [] <;> omega)).trans ?fin16
    case hs16 => rfl
    case hx16 => rfl
    case fin16 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 336 ≤ r.val := by omega
  clear h
  by_cases h : r.val < 384
  · refine (piece48 _ _ ?hs17 r b 17 ?x17 ?hx17 336 pre17 ⟨r.val - 336, by omega⟩ (by simp only [] <;> omega)).trans ?fin17
    case hs17 => rfl
    case hx17 => rfl
    case fin17 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 384 ≤ r.val := by omega
  clear h
  by_cases h : r.val < 392
  · refine (piece8 _ _ ?hs18 r b 18 ?x18 ?hx18 384 pre18 ⟨r.val - 384, by omega⟩ (by simp only [] <;> omega)).trans ?fin18
    case hs18 => rfl
    case hx18 => rfl
    case fin18 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 392 ≤ r.val := by omega
  clear h
  by_cases h : r.val < 400
  · refine (piece8 _ _ ?hs19 r b 19 ?x19 ?hx19 392 pre19 ⟨r.val - 392, by omega⟩ (by simp only [] <;> omega)).trans ?fin19
    case hs19 => rfl
    case hx19 => rfl
    case fin19 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 400 ≤ r.val := by omega
  clear h
  by_cases h : r.val < 448
  · refine (piece48 _ _ ?hs20 r b 20 ?x20 ?hx20 400 pre20 ⟨r.val - 400, by omega⟩ (by simp only [] <;> omega)).trans ?fin20
    case hs20 => rfl
    case hx20 => rfl
    case fin20 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 448 ≤ r.val := by omega
  clear h
  by_cases h : r.val < 456
  · refine (piece8 _ _ ?hs21 r b 21 ?x21 ?hx21 448 pre21 ⟨r.val - 448, by omega⟩ (by simp only [] <;> omega)).trans ?fin21
    case hs21 => rfl
    case hx21 => rfl
    case fin21 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 456 ≤ r.val := by omega
  clear h
  by_cases h : r.val < 464
  · refine (piece8 _ _ ?hs22 r b 22 ?x22 ?hx22 456 pre22 ⟨r.val - 456, by omega⟩ (by simp only [] <;> omega)).trans ?fin22
    case hs22 => rfl
    case hx22 => rfl
    case fin22 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 464 ≤ r.val := by omega
  clear h
  by_cases h : r.val < 512
  · refine (piece48 _ _ ?hs23 r b 23 ?x23 ?hx23 464 pre23 ⟨r.val - 464, by omega⟩ (by simp only [] <;> omega)).trans ?fin23
    case hs23 => rfl
    case hx23 => rfl
    case fin23 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 512 ≤ r.val := by omega
  clear h
  by_cases h : r.val < 520
  · refine (piece8 _ _ ?hs24 r b 24 ?x24 ?hx24 512 pre24 ⟨r.val - 512, by omega⟩ (by simp only [] <;> omega)).trans ?fin24
    case hs24 => rfl
    case hx24 => rfl
    case fin24 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 520 ≤ r.val := by omega
  clear h
  by_cases h : r.val < 528
  · refine (piece8 _ _ ?hs25 r b 25 ?x25 ?hx25 520 pre25 ⟨r.val - 520, by omega⟩ (by simp only [] <;> omega)).trans ?fin25
    case hs25 => rfl
    case hx25 => rfl
    case fin25 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 528 ≤ r.val := by omega
  clear h
  by_cases h : r.val < 576
  · refine (piece48 _ _ ?hs26 r b 26 ?x26 ?hx26 528 pre26 ⟨r.val - 528, by omega⟩ (by simp only [] <;> omega)).trans ?fin26
    case hs26 => rfl
    case hx26 => rfl
    case fin26 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 576 ≤ r.val := by omega
  clear h
  by_cases h : r.val < 584
  · refine (piece8 _ _ ?hs27 r b 27 ?x27 ?hx27 576 pre27 ⟨r.val - 576, by omega⟩ (by simp only [] <;> omega)).trans ?fin27
    case hs27 => rfl
    case hx27 => rfl
    case fin27 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 584 ≤ r.val := by omega
  clear h
  by_cases h : r.val < 592
  · refine (piece8 _ _ ?hs28 r b 28 ?x28 ?hx28 584 pre28 ⟨r.val - 584, by omega⟩ (by simp only [] <;> omega)).trans ?fin28
    case hs28 => rfl
    case hx28 => rfl
    case fin28 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 592 ≤ r.val := by omega
  clear h
  by_cases h : r.val < 640
  · refine (piece48 _ _ ?hs29 r b 29 ?x29 ?hx29 592 pre29 ⟨r.val - 592, by omega⟩ (by simp only [] <;> omega)).trans ?fin29
    case hs29 => rfl
    case hx29 => rfl
    case fin29 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 640 ≤ r.val := by omega
  clear h
  by_cases h : r.val < 648
  · refine (piece8 _ _ ?hs30 r b 30 ?x30 ?hx30 640 pre30 ⟨r.val - 640, by omega⟩ (by simp only [] <;> omega)).trans ?fin30
    case hs30 => rfl
    case hx30 => rfl
    case fin30 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 648 ≤ r.val := by omega
  clear h
  by_cases h : r.val < 656
  · refine (piece8 _ _ ?hs31 r b 31 ?x31 ?hx31 648 pre31 ⟨r.val - 648, by omega⟩ (by simp only [] <;> omega)).trans ?fin31
    case hs31 => rfl
    case hx31 => rfl
    case fin31 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 656 ≤ r.val := by omega
  clear h
  by_cases h : r.val < 704
  · refine (piece48 _ _ ?hs32 r b 32 ?x32 ?hx32 656 pre32 ⟨r.val - 656, by omega⟩ (by simp only [] <;> omega)).trans ?fin32
    case hs32 => rfl
    case hx32 => rfl
    case fin32 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 704 ≤ r.val := by omega
  clear h
  by_cases h : r.val < 712
  · refine (piece8 _ _ ?hs33 r b 33 ?x33 ?hx33 704 pre33 ⟨r.val - 704, by omega⟩ (by simp only [] <;> omega)).trans ?fin33
    case hs33 => rfl
    case hx33 => rfl
    case fin33 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 712 ≤ r.val := by omega
  clear h
  by_cases h : r.val < 720
  · refine (piece8 _ _ ?hs34 r b 34 ?x34 ?hx34 712 pre34 ⟨r.val - 712, by omega⟩ (by simp only [] <;> omega)).trans ?fin34
    case hs34 => rfl
    case hx34 => rfl
    case fin34 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 720 ≤ r.val := by omega
  clear h
  by_cases h : r.val < 768
  · refine (piece48 _ _ ?hs35 r b 35 ?x35 ?hx35 720 pre35 ⟨r.val - 720, by omega⟩ (by simp only [] <;> omega)).trans ?fin35
    case hs35 => rfl
    case hx35 => rfl
    case fin35 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 768 ≤ r.val := by omega
  clear h
  by_cases h : r.val < 776
  · refine (piece8 _ _ ?hs36 r b 36 ?x36 ?hx36 768 pre36 ⟨r.val - 768, by omega⟩ (by simp only [] <;> omega)).trans ?fin36
    case hs36 => rfl
    case hx36 => rfl
    case fin36 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 776 ≤ r.val := by omega
  clear h
  by_cases h : r.val < 784
  · refine (piece8 _ _ ?hs37 r b 37 ?x37 ?hx37 776 pre37 ⟨r.val - 776, by omega⟩ (by simp only [] <;> omega)).trans ?fin37
    case hs37 => rfl
    case hx37 => rfl
    case fin37 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 784 ≤ r.val := by omega
  clear h
  by_cases h : r.val < 832
  · refine (piece48 _ _ ?hs38 r b 38 ?x38 ?hx38 784 pre38 ⟨r.val - 784, by omega⟩ (by simp only [] <;> omega)).trans ?fin38
    case hs38 => rfl
    case hx38 => rfl
    case fin38 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 832 ≤ r.val := by omega
  clear h
  by_cases h : r.val < 840
  · refine (piece8 _ _ ?hs39 r b 39 ?x39 ?hx39 832 pre39 ⟨r.val - 832, by omega⟩ (by simp only [] <;> omega)).trans ?fin39
    case hs39 => rfl
    case hx39 => rfl
    case fin39 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 840 ≤ r.val := by omega
  clear h
  by_cases h : r.val < 848
  · refine (piece8 _ _ ?hs40 r b 40 ?x40 ?hx40 840 pre40 ⟨r.val - 840, by omega⟩ (by simp only [] <;> omega)).trans ?fin40
    case hs40 => rfl
    case hx40 => rfl
    case fin40 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 848 ≤ r.val := by omega
  clear h
  by_cases h : r.val < 896
  · refine (piece48 _ _ ?hs41 r b 41 ?x41 ?hx41 848 pre41 ⟨r.val - 848, by omega⟩ (by simp only [] <;> omega)).trans ?fin41
    case hs41 => rfl
    case hx41 => rfl
    case fin41 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 896 ≤ r.val := by omega
  clear h
  by_cases h : r.val < 904
  · refine (piece8 _ _ ?hs42 r b 42 ?x42 ?hx42 896 pre42 ⟨r.val - 896, by omega⟩ (by simp only [] <;> omega)).trans ?fin42
    case hs42 => rfl
    case hx42 => rfl
    case fin42 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 904 ≤ r.val := by omega
  clear h
  by_cases h : r.val < 912
  · refine (piece8 _ _ ?hs43 r b 43 ?x43 ?hx43 904 pre43 ⟨r.val - 904, by omega⟩ (by simp only [] <;> omega)).trans ?fin43
    case hs43 => rfl
    case hx43 => rfl
    case fin43 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 912 ≤ r.val := by omega
  clear h
  by_cases h : r.val < 960
  · refine (piece48 _ _ ?hs44 r b 44 ?x44 ?hx44 912 pre44 ⟨r.val - 912, by omega⟩ (by simp only [] <;> omega)).trans ?fin44
    case hs44 => rfl
    case hx44 => rfl
    case fin44 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_c (fun r => Z (ix2 r b)) (fun d => Ct (ix2 d b)) (fun d => St (ix2 d b)) r _ ?_ ?_ ?_ <;> first | (simp only [] <;> omega) | omega
  replace hk : 960 ≤ r.val := by omega
  clear h
  by_cases h : r.val < 968
  · refine (piece8 _ _ ?hs45 r b 45 ?x45 ?hx45 960 pre45 ⟨r.val - 960, by omega⟩ (by simp only [] <;> omega)).trans ?fin45
    case hs45 => rfl
    case hx45 => rfl
    case fin45 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_a (fun r => Z (ix2 r b)) (fun d => Ct (ix2 d b)) (fun d => St (ix2 d b)) r _ _ _ ?_ ?_ ?_ ?_ <;> first | (simp only [] <;> omega) | omega
  replace hk : 968 ≤ r.val := by omega
  clear h
  by_cases h : r.val < 976
  · refine (piece8 _ _ ?hs46 r b 46 ?x46 ?hx46 968 pre46 ⟨r.val - 968, by omega⟩ (by simp only [] <;> omega)).trans ?fin46
    case hs46 => rfl
    case hx46 => rfl
    case fin46 =>
      pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
      generalize k0_pay95 (F := Ideal) (k0_pay2 x0) x5 = Z
      generalize k0_pay96 (F := Ideal) x9 = Ct
      generalize k0_pay97 (F := Ideal) x10 = St
      refine turn_b (fun r => Z (ix2 r b)) (fun d => Ct (ix2 d b)) (fun d => St (ix2 d b)) r _ _ _ ?_ ?_ ?_ ?_ ?_ <;> first | (simp only [] <;> omega) | omega
  replace hk : 976 ≤ r.val := by omega
  clear h
  have h := r.isLt
  refine (piece48 _ _ ?hs47 r b 47 ?x47 ?hx47 976 pre47 ⟨r.val - 976, by omega⟩ (by simp only [] <;> omega)).trans ?fin47
  case hs47 => rfl
  case hx47 => rfl
  case fin47 =>
    pointwise [k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153]
    generalize k0_pay95 (F := Ideal) (k0_pay2 x0) x5 = Z
    generalize k0_pay96 (F := Ideal) x9 = Ct
    generalize k0_pay97 (F := Ideal) x10 = St
    refine turn_c (fun r => Z (ix2 r b)) (fun d => Ct (ix2 d b)) (fun d => St (ix2 d b)) r _ ?_ ?_ ?_ <;> first | (simp only [] <;> omega) | omega

end Vars

end Cert.QkvIdeal.Value

end
-- ==== Proof.Calls.QkvTab.lean ====
module

public import proofs.«01_k».proof.Defs
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import Idealize.ShloMosaic.Lib.Claim
public import Idealize.ShloMosaic.Lib.Pointwise
public import Idealize.ShloMosaic.Lib.Pipeline.ValueKit
public import proofs.«01_k».proof.Proof.Calls.QkvPay

@[expose] public section

set_option maxRecDepth 16384

noncomputable section

open Idealize.ShloMosaic Idealize.ShloMosaic.TcCoe Idealize.SL.Sem
open Idealize.ShloMosaic.Pipeline (Dat)
open scoped BigOperators

namespace Cert.QkvIdeal.Value

open Cert.QkvIdeal Cert.QkvIdeal.Gen

theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val % 32, 0]
    ∧ win0_7.index t = ![t.val % 32, 0]
    ∧ win0_8.index t = ![t.val % 32, 0]
    ∧ win0_9.index t = ![0, t.val % 32]
    ∧ win0_10.index t = ![0, t.val % 32]
    ∧ win0_11.index t = ![t.val / 32, 0, t.val % 32]
    ∧ win0_12.index t = ![t.val, 0]
    ∧ win0_13.index t = ![t.val / 32, 0, t.val % 32, 0]
    ∧ win0_14.index t = ![t.val / 32, 0, 0, t.val % 32]
    ∧ win0_15.index t = ![t.val / 32, 0, 0, t.val % 32] :=
  (by decide +kernel : ∀ t : Fin grid0.N, _)

theorem tlt (t : Fin cfg0.N) : t.val < 64 := t.isLt

variable (m : (ℓ : Loc nD τ sig) → Buf (Elt Ideal) ℓ)

/-- The rotation angles: one row for each position, one column for each pair. -/
def ang : FVec Ideal S8192x8 .f32 := mulf
      (broadcastInDim S8192x8 ![0, 1] bcast_S8192x1_S8192x8_0_1
        (broadcastInDim S8192x1 ![0] bcast_S8192_S8192x1_0
          (sitofp FTy.f32 (iotaInDim S8192 32 0))))
      (broadcastInDim S8192x8 ![0, 1] bcast_S1x8_S8192x8_0_1 (broadcastInDim S1x8 ![1] bcast_S8_S1x8_1
        (Host.powf (broadcastInDim S8 ![] bcast_S_S8 (constant S_ FTy.f32 1223959552#32))
          (Host.divf
            (Host.negf
              (addf (broadcastInDim S8 ![] bcast_S_S8 (constant S_ FTy.f32 0#32))
                (mulf (broadcastInDim S8 ![] bcast_S_S8 (constant S_ FTy.f32 1073741824#32))
                  (sitofp FTy.f32 (iotaInDim S8 32 0)))))
            (broadcastInDim S8 ![] bcast_S_S8 (constant S_ FTy.f32 1098907648#32))))))

theorem v21 (c : Dev nD) : (V m c main_v21 : FVec Ideal S8192x8 .f32) = Host.cos (F := Ideal) (φ := .f32) ang := by unfold V; after_results_simp; rfl
theorem v22 (c : Dev nD) : (V m c main_v22 : FVec Ideal S8192x8 .f32) = Host.sin (F := Ideal) (φ := .f32) ang := by unfold V; after_results_simp; rfl

/-- Rows of 64 put together from three pieces. -/
def cat3 (a b : FVec Ideal S8192x8 .f32) (d : FVec Ideal S8192x48 .f32) : FVec Ideal S8192x64 .f32 :=
  concatenate S8192x64 1 [⟨S8192x8, a⟩, ⟨S8192x8, b⟩, ⟨S8192x48, d⟩] concatenates_S8192x8_S8192x8_S8192x48_S8192x64_d1

theorem cat3_eq {a a' b b' : FVec Ideal S8192x8 .f32} {d d' : FVec Ideal S8192x48 .f32} (ha : a = a') (hb : b = b') (hd : d = d') :
    cat3 a b d = cat3 a' b' d' := by rw [ha, hb, hd]

theorem v28 (c : Dev nD) : (V m c main_v28 : FVec Ideal S8192x64 .f32) = cat3 (Host.cos (F := Ideal) (φ := .f32) ang) (Host.cos (F := Ideal) (φ := .f32) ang)
    (broadcastInDim S8192x48 ![] bcast_S_S8192x48 (constant (F := Ideal) S_ .f32 0x3F800000#32)) := by
  unfold V
  after_results_simp
  refine cat3_eq ?_ ?_ ?_
  all_goals
    dsimp only [Matrix.cons_val]
    after_results_simp
    try rfl
/-- Rows of 64 put together from two pieces. -/
def cat2 (a : FVec Ideal S8192x8 .f32) (d : FVec Ideal S8192x56 .f32) : FVec Ideal S8192x64 .f32 :=
  concatenate S8192x64 1 [⟨S8192x8, a⟩, ⟨S8192x56, d⟩] concatenates_S8192x8_S8192x56_S8192x64_d1

theorem cat2_eq {a a' : FVec Ideal S8192x8 .f32} {d d' : FVec Ideal S8192x56 .f32} (ha : a = a') (hd : d = d') :
    cat2 a d = cat2 a' d' := by rw [ha, hd]

theorem v31 (c : Dev nD) : (V m c main_v31 : FVec Ideal S8192x64 .f32) = cat2 (Host.negf (F := Ideal) (φ := .f32) (Host.sin ang))
    (broadcastInDim S8192x56 ![] bcast_S_S8192x56 (constant (F := Ideal) S_ .f32 0x00000000#32)) := by
  unfold V
  after_results_simp
  refine cat2_eq ?_ ?_
  all_goals
    try after_results_simp
    try rfl
theorem v34 (c : Dev nD) : (V m c main_v34 : FVec Ideal S8192x64 .f32) = cat3 (broadcastInDim S8192x8 ![] bcast_S_S8192x8 (constant (F := Ideal) S_ .f32 0x00000000#32))
    (Host.sin (F := Ideal) (φ := .f32) ang)
    (broadcastInDim S8192x48 ![] bcast_S_S8192x48 (constant (F := Ideal) S_ .f32 0x00000000#32)) := by
  unfold V
  after_results_simp
  refine cat3_eq ?_ ?_ ?_
  all_goals
    dsimp only [Matrix.cons_val]
    after_results_simp
    try rfl

/-- Rows of 64 table entries, repeated for both halves of a head. -/
def spread (x : FVec Ideal S8192x64 .f32) : FVec Ideal S8192x128 .f32 :=
  shapeCast S8192x128 (broadcastInDim S1x8192x2x64 ![0, 1, 2, 3] bcast_S1x8192x1x64_S1x8192x2x64_0_1_2_3
    (shapeCast S1x8192x1x64 x shapeCasts_S8192x64_S1x8192x1x64)) shapeCasts_S1x8192x2x64_S8192x128

theorem v37 (c : Dev nD) : V m c main_v37 = spread (V m c main_v28) := by rfl
theorem v40 (c : Dev nD) : V m c main_v40 = spread (V m c main_v31) := by rfl
theorem v43 (c : Dev nD) : V m c main_v43 = spread (V m c main_v34) := by rfl
theorem v44 (c : Dev nD) : V m c main_v44 = transpose S8x8192 [1, 0] (V m c main_v21 : FVec Ideal S8192x8 .f32) transposes_S8192x8_S8x8192_1_0 := by rfl
theorem v45 (c : Dev nD) : V m c main_v45 = transpose S8x8192 [1, 0] (V m c main_v22 : FVec Ideal S8192x8 .f32) transposes_S8192x8_S8x8192_1_0 := by rfl

/-- The position of row `i` of block `t`. -/
def pos (t : Fin cfg0.N) (i : Fin 256) : Fin 8192 := ⟨t.val % 32 * 256 + i.val, by omega⟩
/-- The row of the whole array that row `i` of block `t` is. -/
def row (t : Fin cfg0.N) (i : Fin 256) : Fin 16384 := ⟨t.val * 256 + i.val, by have := tlt t; omega⟩

theorem tab6 (c : Dev nD) (t : Fin cfg0.N) (i : Fin 256) (l : Fin 128) : iblk m c 6 t (ix2 i l) = (V m c main_v37 : FVec Ideal S8192x128 .f32) (ix2 (pos t i) l) := by
  simp only [iblk, pos]
  blk_ext [idx t]
theorem tab7 (c : Dev nD) (t : Fin cfg0.N) (i : Fin 256) (l : Fin 128) : iblk m c 7 t (ix2 i l) = (V m c main_v40 : FVec Ideal S8192x128 .f32) (ix2 (pos t i) l) := by
  simp only [iblk, pos]
  blk_ext [idx t]
theorem tab8 (c : Dev nD) (t : Fin cfg0.N) (i : Fin 256) (l : Fin 128) : iblk m c 8 t (ix2 i l) = (V m c main_v43 : FVec Ideal S8192x128 .f32) (ix2 (pos t i) l) := by
  simp only [iblk, pos]
  blk_ext [idx t]
theorem tab9 (c : Dev nD) (t : Fin cfg0.N) (i : Fin 256) (l : Fin 8) : iblk m c 9 t (ix2 l i) = (V m c main_v44 : FVec Ideal S8x8192 .f32) (ix2 l (pos t i)) := by
  simp only [iblk, pos]
  blk_ext [idx t]
theorem tab10 (c : Dev nD) (t : Fin cfg0.N) (i : Fin 256) (l : Fin 8) : iblk m c 10 t (ix2 l i) = (V m c main_v45 : FVec Ideal S8x8192 .f32) (ix2 l (pos t i)) := by
  simp only [iblk, pos]
  blk_ext [idx t]

theorem spread_at (x : FVec Ideal S8192x64 .f32) (p : Fin 8192) (l : Fin 128) : spread x (ix2 p l) = x (ix2 p ⟨l.val % 64, Nat.mod_lt _ (by norm_num)⟩) := by
  pointwise [spread]
theorem cat3_at (a b : FVec Ideal S8192x8 .f32) (d : FVec Ideal S8192x48 .f32) (p : Fin 8192) (l : Fin 64) : cat3 a b d (ix2 p l) =
    if h : l.val < 8 then a (ix2 p ⟨l.val, h⟩) else if h' : l.val - 8 < 8 then b (ix2 p ⟨l.val - 8, h'⟩) else d (ix2 p ⟨l.val - 8 - 8, by omega⟩) := by
  pointwise [cat3]

/-- The rotation angle of pair `d` at position `p`. -/
def A (p d : ℕ) : EReal := FloatOps.sitofp (F := Ideal) FTy.f32 (BitVec.ofNat 32 p) *
      Ideal.pow (Ideal.ofBits FTy.f32 1223959552#32)
        (Ideal.div (-(Ideal.ofBits FTy.f32 1073741824#32 * FloatOps.sitofp (F := Ideal) FTy.f32 (BitVec.ofNat 32 d)))
          (Ideal.ofBits FTy.f32 1098907648#32))
theorem ang_at (p : Fin 8192) (d : Fin 8) : ang (ix2 p d) = A p.val d.val := by
  pointwise [ang]
  unfold A; rfl
/-- The cosines at a position. -/
def cosF (p : ℕ) (d : Fin 8) : EReal := Ideal.cos (A p d.val)
/-- The sines at a position. -/
def sinF (p : ℕ) (d : Fin 8) : EReal := Ideal.sin (A p d.val)
theorem cosA (p : Fin 8192) (d : Fin 8) : Host.cos (F := Ideal) (φ := .f32) ang (ix2 p d) = Ideal.cos (A p.val d.val) := congrArg Ideal.cos (ang_at p d)
theorem sinA (p : Fin 8192) (d : Fin 8) : Host.sin (F := Ideal) (φ := .f32) ang (ix2 p d) = Ideal.sin (A p.val d.val) := congrArg Ideal.sin (ang_at p d)
theorem v31_at (c : Dev nD) (p : Fin 8192) (l : Fin 64) : (V m c main_v31 : FVec Ideal S8192x64 .f32) (ix2 p l) =
    if h : l.val < 8 then - (Host.sin (F := Ideal) (φ := .f32) ang (ix2 p ⟨l.val, h⟩)) else 0 := by
  rw [v31]
  pointwise [cat2]

/-- The factor of an entry itself. -/
def tC (p l : ℕ) : EReal := if l % 64 < 8 then Ideal.cos (A p (l % 64)) else if l % 64 - 8 < 8 then Ideal.cos (A p (l % 64 - 8)) else 1
/-- The factor of the entry eight places on. -/
def tM (p l : ℕ) : EReal := if l % 64 < 8 then - Ideal.sin (A p (l % 64)) else 0
/-- The factor of the entry eight places back. -/
def tP (p l : ℕ) : EReal := if l % 64 < 8 then 0 else if l % 64 - 8 < 8 then Ideal.sin (A p (l % 64 - 8)) else 0

theorem tab6_at (c : Dev nD) (t : Fin cfg0.N) (i : Fin 256) (l : Fin 128) : (iblk m c 6 t (ix2 i l) : EReal) = tC (pos t i).val l.val := by
  rw [tab6, v37, v28, spread_at, cat3_at]
  unfold tC
  split_ifs with h1 h2
  · exact cosA _ ⟨_, h1⟩
  · exact cosA _ ⟨_, h2⟩
  · exact (by pointwise [] : broadcastInDim S8192x48 ![] bcast_S_S8192x48 (constant (F := Ideal) S_ .f32 0x3F800000#32) (ix2 (pos t i) _) = (1 : EReal))
theorem tab7_at (c : Dev nD) (t : Fin cfg0.N) (i : Fin 256) (l : Fin 128) : (iblk m c 7 t (ix2 i l) : EReal) = tM (pos t i).val l.val := by
  rw [tab7, v40, spread_at, v31_at]
  unfold tM
  split_ifs with h1
  · exact congrArg (fun x : EReal => -x) (sinA _ ⟨_, h1⟩)
  · rfl
theorem tab8_at (c : Dev nD) (t : Fin cfg0.N) (i : Fin 256) (l : Fin 128) : (iblk m c 8 t (ix2 i l) : EReal) = tP (pos t i).val l.val := by
  rw [tab8, v43, v34, spread_at, cat3_at]
  unfold tP
  split_ifs with h1 h2
  · exact (by pointwise [] : broadcastInDim S8192x8 ![] bcast_S_S8192x8 (constant (F := Ideal) S_ .f32 0x00000000#32) (ix2 (pos t i) _) = (0 : EReal))
  · exact sinA _ ⟨_, h2⟩
  · exact (by pointwise [] : broadcastInDim S8192x48 ![] bcast_S_S8192x48 (constant (F := Ideal) S_ .f32 0x00000000#32) (ix2 (pos t i) _) = (0 : EReal))
theorem tab9_at (c : Dev nD) (t : Fin cfg0.N) (i : Fin 256) (d : Fin 8) : (iblk m c 9 t (ix2 d i) : EReal) = cosF (pos t i).val d := by
  rw [tab9, v44, v21]
  refine Eq.trans ?_ (cosA (pos t i) d)
  generalize Host.cos (F := Ideal) (φ := .f32) ang = T
  pointwise []
theorem tab10_at (c : Dev nD) (t : Fin cfg0.N) (i : Fin 256) (d : Fin 8) : (iblk m c 10 t (ix2 d i) : EReal) = sinF (pos t i).val d := by
  rw [tab10, v45, v22]
  refine Eq.trans ?_ (sinA (pos t i) d)
  generalize Host.sin (F := Ideal) (φ := .f32) ang = T
  pointwise []

theorem rotl_turn (p : ℕ) (z : Fin 1024 → EReal) (j : Fin 1024) :
    rotl z (fun l => tC p l.val) (fun l => tM p l.val) (fun l => tP p l.val) j = turn z (cosF p) (sinF p) j := by
  unfold rotl turn tC tM tP cosF sinF
  have h64 : j.val % 128 % 64 = j.val % 64 := by omega
  simp only [h64]
  split_ifs with h1 h2
  · have e : (⟨j.val / 128 * 128 + (j.val % 128 + 8) % 128, by omega⟩ : Fin 1024) = ⟨j.val + 8, by omega⟩ := Fin.ext (by simp only []; omega)
    rw [e, mul_zero, add_zero, mul_neg, sub_eq_add_neg]
  · have e : (⟨j.val / 128 * 128 + (j.val % 128 + 120) % 128, by omega⟩ : Fin 1024) = ⟨j.val - 8, by omega⟩ := Fin.ext (by simp only []; omega)
    rw [e, mul_zero, add_zero]
  · rw [mul_zero, mul_zero, add_zero, add_zero, mul_one]

theorem tabs_at (c : Dev nD) (t : Fin cfg0.N) (i : Fin 256) (z : Fin 1024 → EReal) (j : Fin 1024) :
    rotl z (fun l => iblk m c 6 t (ix2 i l)) (fun l => iblk m c 7 t (ix2 i l)) (fun l => iblk m c 8 t (ix2 i l)) j = turn z (cosF (pos t i).val) (sinF (pos t i).val) j := by
  have h2 : (fun l : Fin 128 => (iblk m c 6 t (ix2 i l) : EReal)) = fun l => tC (pos t i).val l.val := funext fun l => tab6_at m c t i l
  have h3 : (fun l : Fin 128 => (iblk m c 7 t (ix2 i l) : EReal)) = fun l => tM (pos t i).val l.val := funext fun l => tab7_at m c t i l
  have h4 : (fun l : Fin 128 => (iblk m c 8 t (ix2 i l) : EReal)) = fun l => tP (pos t i).val l.val := funext fun l => tab8_at m c t i l
  rw [← rotl_turn, ← h2, ← h3, ← h4]
theorem tabsT_at (c : Dev nD) (t : Fin cfg0.N) (i : Fin 256) (z : Fin 1024 → EReal) (j : Fin 1024) :
    turn z (fun d => iblk m c 9 t (ix2 d i)) (fun d => iblk m c 10 t (ix2 d i)) j = turn z (cosF (pos t i).val) (sinF (pos t i).val) j := by
  have h2 : (fun d : Fin 8 => (iblk m c 9 t (ix2 d i) : EReal)) = cosF (pos t i).val := funext fun d => tab9_at m c t i d
  have h3 : (fun d : Fin 8 => (iblk m c 10 t (ix2 d i) : EReal)) = sinF (pos t i).val := funext fun d => tab10_at m c t i d
  rw [h2, h3]

/-- Row `n` of the inputs times a column of the weights, the columns counted from `o` on. -/
def dotR {w : ℕ} (x : FVec Ideal S16384x1024 .f32) (y : Fin 1024 → Fin w → EReal) (o : ℕ) (ho : o + 1024 ≤ w) (n : Fin 16384) (j : Fin 1024) : EReal :=
  ∑ k : Fin 1024, x (ix2 n k) * y k ⟨o + j.val, by omega⟩

theorem x_at (c : Dev nD) (t : Fin cfg0.N) (i : Fin 256) (k : Fin 1024) : iblk m c 0 t (ix2 i k) = (m ((c : Thread nD τ).loc main_arg0) : FVec Ideal S16384x1024 .f32) (ix2 (row t i) k) := by
  simp only [row]
  blk_point [iblk, V, idx t]

abbrev W1 (c : Dev nD) : FVec Ideal S1024x2048 .f32 := m ((c : Thread nD τ).loc main_arg1)
abbrev W2 (c : Dev nD) : FVec Ideal S1024x1024 .f32 := m ((c : Thread nD τ).loc main_arg2)
theorem v1 (c : Dev nD) : (V m c main_v1 : FVec Ideal S1024x1024 .bf16) = truncf (F := Ideal) .bf16 (extractStridedSlice S1024x1024 ![0, 0] (W1 m c) slices_S1024x2048_S1024x1024_0_0) bitsLt_bf16_f32 := by rfl
theorem v3 (c : Dev nD) : (V m c main_v3 : FVec Ideal S1024x1024 .bf16) = truncf (F := Ideal) .bf16 (extractStridedSlice S1024x1024 ![0, 1024] (W1 m c) slices_S1024x2048_S1024x1024_0_1024) bitsLt_bf16_f32 := by rfl
theorem v23 (c : Dev nD) : (V m c main_v23 : FVec Ideal S1024x1024 .bf16) = transpose S1024x1024 [1, 0] (V m c main_v1 : FVec Ideal S1024x1024 .bf16) transposes_S1024x1024_S1024x1024_1_0 := by rfl
theorem v24 (c : Dev nD) : (V m c main_v24 : FVec Ideal S1024x1024 .bf16) = transpose S1024x1024 [1, 0] (V m c main_v3 : FVec Ideal S1024x1024 .bf16) transposes_S1024x1024_S1024x1024_1_0 := by rfl
theorem v26 (c : Dev nD) : (V m c main_v26 : FVec Ideal S1024x1024 .bf16) = truncf (F := Ideal) .bf16 (transpose S1024x1024 [1, 0] (W2 m c) transposes_S1024x1024_S1024x1024_1_0) bitsLt_bf16_f32 := by rfl
theorem w1_at (c : Dev nD) (t : Fin cfg0.N) (a b : Fin 1024) : (iblk m c 1 t (ix2 a b) : EReal) = W1 m c (ix2 a ⟨0 + b.val, by omega⟩) := by
  have h : iblk m c 1 t (ix2 a b) = (V m c main_v1 : FVec Ideal S1024x1024 .bf16) (ix2 a b) := by
    simp only [iblk]
    blk_ext [idx t]
  rw [h, v1]
  pointwise []
theorem w3_at (c : Dev nD) (t : Fin cfg0.N) (a b : Fin 1024) : (iblk m c 3 t (ix2 a b) : EReal) = W1 m c (ix2 a ⟨1024 + b.val, by omega⟩) := by
  have h : iblk m c 3 t (ix2 a b) = (V m c main_v3 : FVec Ideal S1024x1024 .bf16) (ix2 a b) := by
    simp only [iblk]
    blk_ext [idx t]
  rw [h, v3]
  pointwise []
theorem w2_at (c : Dev nD) (t : Fin cfg0.N) (a b : Fin 1024) : (iblk m c 2 t (ix2 a b) : EReal) = W1 m c (ix2 b ⟨0 + a.val, by omega⟩) := by
  have h : iblk m c 2 t (ix2 a b) = (V m c main_v23 : FVec Ideal S1024x1024 .bf16) (ix2 a b) := by
    simp only [iblk]
    blk_ext [idx t]
  rw [h, v23, v1]
  pointwise []
theorem w4_at (c : Dev nD) (t : Fin cfg0.N) (a b : Fin 1024) : (iblk m c 4 t (ix2 a b) : EReal) = W1 m c (ix2 b ⟨1024 + a.val, by omega⟩) := by
  have h : iblk m c 4 t (ix2 a b) = (V m c main_v24 : FVec Ideal S1024x1024 .bf16) (ix2 a b) := by
    simp only [iblk]
    blk_ext [idx t]
  rw [h, v24, v3]
  pointwise []
theorem w5_at (c : Dev nD) (t : Fin cfg0.N) (a b : Fin 1024) : (iblk m c 5 t (ix2 a b) : EReal) = W2 m c (ix2 b ⟨0 + a.val, by omega⟩) := by
  have h : iblk m c 5 t (ix2 a b) = (V m c main_v26 : FVec Ideal S1024x1024 .bf16) (ix2 a b) := by
    simp only [iblk]
    blk_ext [idx t]
  rw [h, v26]
  have e : (⟨0 + a.val, by omega⟩ : Fin 1024) = a := Fin.ext (by simp only []; omega)
  rw [e]
  pointwise []
theorem zR_K (c : Dev nD) (t : Fin cfg0.N) (i : Fin 256) : zR (iblk m c 0 t) (iblk m c 1 t) i =
    dotR (m ((c : Thread nD τ).loc main_arg0)) (fun k l => W1 m c (ix2 k l)) 0 (by norm_num) (row t i) := by
  funext j
  unfold zR dotR
  exact Finset.sum_congr rfl fun k _ => by rw [x_at, w1_at]
theorem zR_V (c : Dev nD) (t : Fin cfg0.N) (i : Fin 256) : zR (iblk m c 0 t) (iblk m c 3 t) i =
    dotR (m ((c : Thread nD τ).loc main_arg0)) (fun k l => W1 m c (ix2 k l)) 1024 (by norm_num) (row t i) := by
  funext j
  unfold zR dotR
  exact Finset.sum_congr rfl fun k _ => by rw [x_at, w3_at]
theorem zT_K (c : Dev nD) (t : Fin cfg0.N) (i : Fin 256) : zT (iblk m c 0 t) (iblk m c 2 t) i =
    dotR (m ((c : Thread nD τ).loc main_arg0)) (fun k l => W1 m c (ix2 k l)) 0 (by norm_num) (row t i) := by
  funext j
  unfold zT dotR
  exact Finset.sum_congr rfl fun k _ => by rw [x_at, w2_at, mul_comm]
theorem zT_V (c : Dev nD) (t : Fin cfg0.N) (i : Fin 256) : zT (iblk m c 0 t) (iblk m c 4 t) i =
    dotR (m ((c : Thread nD τ).loc main_arg0)) (fun k l => W1 m c (ix2 k l)) 1024 (by norm_num) (row t i) := by
  funext j
  unfold zT dotR
  exact Finset.sum_congr rfl fun k _ => by rw [x_at, w4_at, mul_comm]
theorem zT_Q (c : Dev nD) (t : Fin cfg0.N) (i : Fin 256) : zT (iblk m c 0 t) (iblk m c 5 t) i =
    dotR (m ((c : Thread nD τ).loc main_arg0)) (fun k l => W2 m c (ix2 k l)) 0 (by norm_num) (row t i) := by
  funext j
  unfold zT dotR
  exact Finset.sum_congr rfl fun k _ => by rw [x_at, w5_at, mul_comm]

end Cert.QkvIdeal.Value

end
-- ==== Proof.Calls.QkvRef.lean ====
module

public import proofs.«01_k».proof.Defs
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import Idealize.ShloMosaic.Lib.Claim
public import Idealize.ShloMosaic.Lib.Pointwise
public import Idealize.ShloMosaic.Lib.Pipeline.ValueKit
public import proofs.«01_k».proof.Proof.Calls.QkvTab

@[expose] public section

set_option maxRecDepth 16384

noncomputable section

open Idealize.ShloMosaic Idealize.ShloMosaic.TcCoe Idealize.SL.Sem
open Idealize.ShloMosaic.Pipeline (Dat)
open scoped BigOperators

namespace Cert.QkvRefIdeal.Rows

open Cert.QkvRefIdeal Cert.QkvRefIdeal.Gen
open Cert.QkvIdeal.Value (turn turn_a turn_b turn_c dotR cosF sinF A)

/-- The rows of products with the first sixteen entries of every half of a head turned by the angles. -/
def RR (Z : FVec Ideal S16384x1024 .f32) (Ct St : FVec Ideal S8192x8 .f32) : FVec Ideal S2x8192x8x2x64 .f32 :=
  (concatenate S2x8192x8x2x64 4 [⟨S2x8192x8x2x8, ((subf (mulf (extractStridedSlice S2x8192x8x2x8 ![0, 0, 0, 0, 0] (shapeCast _ Z shapeCasts_S16384x1024_S2x8192x8x2x64) slices_S2x8192x8x2x64_S2x8192x8x2x8_0_0_0_0_0) (broadcastInDim S2x8192x8x2x8 ![0, 1, 2, 3, 4] bcast_S1x8192x1x1x8_S2x8192x8x2x8_0_1_2_3_4 (broadcastInDim S1x8192x1x1x8 ![1, 4] bcast_S8192x8_S1x8192x1x1x8_1_4 Ct))) (mulf (extractStridedSlice S2x8192x8x2x8 ![0, 0, 0, 0, 8] (shapeCast _ Z shapeCasts_S16384x1024_S2x8192x8x2x64) slices_S2x8192x8x2x64_S2x8192x8x2x8_0_0_0_0_8) (broadcastInDim S2x8192x8x2x8 ![0, 1, 2, 3, 4] bcast_S1x8192x1x1x8_S2x8192x8x2x8_0_1_2_3_4 (broadcastInDim S1x8192x1x1x8 ![1, 4] bcast_S8192x8_S1x8192x1x1x8_1_4 St)))) : (⟨S2x8192x8x2x8, .f32⟩ : BufTy).Contents (Elt Ideal))⟩, ⟨S2x8192x8x2x8, ((addf (mulf (extractStridedSlice S2x8192x8x2x8 ![0, 0, 0, 0, 8] (shapeCast _ Z shapeCasts_S16384x1024_S2x8192x8x2x64) slices_S2x8192x8x2x64_S2x8192x8x2x8_0_0_0_0_8) (broadcastInDim S2x8192x8x2x8 ![0, 1, 2, 3, 4] bcast_S1x8192x1x1x8_S2x8192x8x2x8_0_1_2_3_4 (broadcastInDim S1x8192x1x1x8 ![1, 4] bcast_S8192x8_S1x8192x1x1x8_1_4 Ct))) (mulf (extractStridedSlice S2x8192x8x2x8 ![0, 0, 0, 0, 0] (shapeCast _ Z shapeCasts_S16384x1024_S2x8192x8x2x64) slices_S2x8192x8x2x64_S2x8192x8x2x8_0_0_0_0_0) (broadcastInDim S2x8192x8x2x8 ![0, 1, 2, 3, 4] bcast_S1x8192x1x1x8_S2x8192x8x2x8_0_1_2_3_4 (broadcastInDim S1x8192x1x1x8 ![1, 4] bcast_S8192x8_S1x8192x1x1x8_1_4 St)))) : (⟨S2x8192x8x2x8, .f32⟩ : BufTy).Contents (Elt Ideal))⟩, ⟨S2x8192x8x2x48, ((extractStridedSlice S2x8192x8x2x48 ![0, 0, 0, 0, 16] (shapeCast _ Z shapeCasts_S16384x1024_S2x8192x8x2x64) slices_S2x8192x8x2x64_S2x8192x8x2x48_0_0_0_0_16) : (⟨S2x8192x8x2x48, .f32⟩ : BufTy).Contents (Elt Ideal))⟩] concatenates_S2x8192x8x2x8_S2x8192x8x2x8_S2x8192x8x2x48_S2x8192x8x2x64_d4 : (⟨S2x8192x8x2x64, .f32⟩ : BufTy).Contents (Elt Ideal))

/-- The angles. -/
def angR : FVec Ideal S8192x8 .f32 := (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))))))

/-- The row of a position of a sequence. -/
def nrow (u : Fin 2) (p : Fin 8192) : Fin 16384 := ⟨u.val * 8192 + p.val, by omega⟩

theorem angR_at (p : Fin 8192) (d : Fin 8) : angR (ix2 p d) = A p.val d.val := by
  pointwise [angR]
  unfold A; rfl
theorem cos_at (p : Fin 8192) (d : Fin 8) : Host.cos (F := Ideal) (φ := .f32) angR (ix2 p d) = cosF p.val d := congrArg Ideal.cos (angR_at p d)
theorem sin_at (p : Fin 8192) (d : Fin 8) : Host.sin (F := Ideal) (φ := .f32) angR (ix2 p d) = sinF p.val d := congrArg Ideal.sin (angR_at p d)

set_option maxHeartbeats 1000000 in
theorem RR_at (Z : FVec Ideal S16384x1024 .f32) (Ct St : FVec Ideal S8192x8 .f32) (u : Fin 2) (p : Fin 8192) (h : Fin 8) (s : Fin 2) (e : Fin 64) (j : Fin 1024)
    (hj : j.val = h.val * 128 + s.val * 64 + e.val) :
    RR Z Ct St (ix5 u p h s e) = turn (fun j => Z (ix2 (nrow u p) j)) (fun d => Ct (ix2 p d)) (fun d => St (ix2 p d)) j := by
  pointwise [RR]
  by_cases h1 : e.val < 8
  · rw [dif_pos h1]
    refine turn_a (fun j => Z (ix2 (nrow u p) j)) (fun d => Ct (ix2 p d)) (fun d => St (ix2 p d)) j _ _ _ ?_ ?_ ?_ ?_ <;> first | (simp only [] <;> omega) | omega
  · rw [dif_neg h1]
    by_cases h2 : e.val - 8 < 8
    · rw [dif_pos h2]
      refine turn_b (fun j => Z (ix2 (nrow u p) j)) (fun d => Ct (ix2 p d)) (fun d => St (ix2 p d)) j _ _ _ ?_ ?_ ?_ ?_ ?_ <;> first | (simp only [] <;> omega) | omega
    · rw [dif_neg h2]
      refine turn_c (fun j => Z (ix2 (nrow u p) j)) (fun d => Ct (ix2 p d)) (fun d => St (ix2 p d)) j _ ?_ ?_ ?_ <;> first | (simp only [] <;> omega) | omega

theorem tr87 (C : FVec Ideal S2x8192x8x2x64 .f32) (u : Fin 2) (j : Fin 1024) (p : Fin 8192) :
    shapeCast S2x1024x8192 (transpose S2x8x2x64x8192 [0, 2, 3, 4, 1] C transposes_S2x8192x8x2x64_S2x8x2x64x8192_0_2_3_4_1) shapeCasts_S2x8x2x64x8192_S2x1024x8192 (ix3 u j p)
      = C (ix5 u p ⟨j.val / 128, by omega⟩ ⟨j.val / 64 % 2, by omega⟩ ⟨j.val % 64, by omega⟩) := by
  pointwise []
theorem tr89 (C : FVec Ideal S2x8192x8x2x64 .f32) (u : Fin 2) (h : Fin 8) (p : Fin 8192) (l : Fin 128) :
    truncf (F := Ideal) .bf16 (transpose S2x8x8192x128 [0, 2, 1, 3] (shapeCast S2x8192x8x128 C shapeCasts_S2x8192x8x2x64_S2x8192x8x128) transposes_S2x8192x8x128_S2x8x8192x128_0_2_1_3) bitsLt_bf16_f32 (ix4 u h p l)
      = C (ix5 u p h ⟨l.val / 64, by omega⟩ ⟨l.val % 64, by omega⟩) := by
  pointwise []
theorem tr91 (C : FVec Ideal S2x8192x8x2x64 .f32) (u : Fin 2) (h : Fin 8) (p : Fin 8192) (l : Fin 128) :
    truncf (F := Ideal) .bf16 (transpose S2x8x128x8192 [0, 2, 3, 1] (shapeCast S2x8192x8x128 C shapeCasts_S2x8192x8x2x64_S2x8192x8x128) transposes_S2x8192x8x128_S2x8x128x8192_0_2_3_1) bitsLt_bf16_f32 (ix4 u h l p)
      = C (ix5 u p h ⟨l.val / 64, by omega⟩ ⟨l.val % 64, by omega⟩) := by
  pointwise []
theorem sc91 (C : FVec Ideal S2x8192x8x2x64 .f32) (u : Fin 2) (p : Fin 8192) (h : Fin 8) (s : Fin 2) (e : Fin 64) :
    Host.divf (mulf C (broadcastInDim S2x8192x8x2x64 ![] bcast_S_S2x8192x8x2x64 (constant (F := Ideal) S_ .f32 0x3E000000#32))) (broadcastInDim S2x8192x8x2x64 ![] bcast_S_S2x8192x8x2x64 (Host.log (constant (F := Ideal) S_ .f32 0x40000000#32))) (ix5 u p h s e)
      = Ideal.div (C (ix5 u p h s e) * Ideal.ofBits .f32 0x3E000000#32) (Ideal.log (Ideal.ofBits .f32 0x40000000#32)) := by
  pointwise []
theorem tr88 (C : FVec Ideal S16384x1024 .f32) (n : Fin 16384) (j : Fin 1024) :
    shapeCast S16384x1024 (shapeCast S2x8192x8x128 C shapeCasts_S16384x1024_S2x8192x8x128) shapeCasts_S2x8192x8x128_S16384x1024 (ix2 n j) = C (ix2 n j) := by
  pointwise []
theorem tr90 (C : FVec Ideal S16384x1024 .f32) (u : Fin 2) (h : Fin 8) (p : Fin 8192) (l : Fin 128) :
    truncf (F := Ideal) .bf16 (transpose S2x8x128x8192 [0, 2, 3, 1] (shapeCast S2x8192x8x128 C shapeCasts_S16384x1024_S2x8192x8x128) transposes_S2x8192x8x128_S2x8x128x8192_0_2_3_1) bitsLt_bf16_f32 (ix4 u h l p)
      = C (ix2 (nrow u p) ⟨h.val * 128 + l.val, by omega⟩) := by
  pointwise [nrow]

variable (m : (ℓ : Loc nD τ sig) → Buf (Elt Ideal) ℓ)
abbrev X0 (c : Dev nD) : FVec Ideal S16384x1024 .f32 := m ((c : Thread nD τ).loc main_arg0)
abbrev X1 (c : Dev nD) : FVec Ideal S1024x2048 .f32 := m ((c : Thread nD τ).loc main_arg1)
abbrev X2 (c : Dev nD) : FVec Ideal S1024x1024 .f32 := m ((c : Thread nD τ).loc main_arg2)
/-- The rows of keys before they are turned. -/
def ZK (c : Dev nD) : FVec Ideal S16384x1024 .f32 := extractStridedSlice S16384x1024 ![0, 0] (Host.dotGeneral dot_S16384x1024_S1024x2048_S16384x2048_1_0_0_1_n_n none (X0 m c) (X1 m c)) slices_S16384x2048_S16384x1024_0_0
/-- The rows of values. -/
def ZV (c : Dev nD) : FVec Ideal S16384x1024 .f32 := extractStridedSlice S16384x1024 ![0, 1024] (Host.dotGeneral dot_S16384x1024_S1024x2048_S16384x2048_1_0_0_1_n_n none (X0 m c) (X1 m c)) slices_S16384x2048_S16384x1024_0_1024
/-- The rows of queries before they are turned. -/
def ZQ (c : Dev nD) : FVec Ideal S16384x1024 .f32 := Host.dotGeneral dot_S16384x1024_S1024x1024_S16384x1024_1_0_0_1_n_n none (X0 m c) (X2 m c)

theorem ZK_at (c : Dev nD) (n : Fin 16384) (j : Fin 1024) : ZK m c (ix2 n j) = dotR (X0 m c) (fun k l => X1 m c (ix2 k l)) 0 (by norm_num) n j := by
  pointwise [ZK]
  unfold dotR
  exact Finset.sum_congr (M := EReal) rfl fun k _ => congrArg (fun n' => X0 m c (ix2 n k) * X1 m c (ix2 k n')) (Fin.ext (by simp only [] <;> omega))
theorem ZV_at (c : Dev nD) (n : Fin 16384) (j : Fin 1024) : ZV m c (ix2 n j) = dotR (X0 m c) (fun k l => X1 m c (ix2 k l)) 1024 (by norm_num) n j := by
  pointwise [ZV]
  unfold dotR; rfl
theorem ZQ_at (c : Dev nD) (n : Fin 16384) (j : Fin 1024) : ZQ m c (ix2 n j) = dotR (X0 m c) (fun k l => X2 m c (ix2 k l)) 0 (by norm_num) n j := by
  pointwise [ZQ]
  unfold dotR
  exact Finset.sum_congr (M := EReal) rfl fun k _ => congrArg (fun n' => X0 m c (ix2 n k) * X2 m c (ix2 k n')) (Fin.ext (by simp only [] <;> omega))

theorem refKT (c : Dev nD) (u : Fin 2) (j : Fin 1024) (p : Fin 8192) : Value.res_main_v87 m c (ix3 u j p) =
    turn (dotR (X0 m c) (fun k l => X1 m c (ix2 k l)) 0 (by norm_num) (nrow u p)) (cosF p.val) (sinF p.val) j := by
  refine (tr87 (RR (ZK m c) (Host.cos angR) (Host.sin angR)) u j p).trans ?_
  refine (RR_at _ _ _ u p _ _ _ j (by simp only [] <;> omega)).trans ?_
  simp only [ZK_at, cos_at, sin_at]
theorem refKB (c : Dev nD) (u : Fin 2) (h : Fin 8) (p : Fin 8192) (l : Fin 128) : Value.res_main_v89 m c (ix4 u h p l) =
    turn (dotR (X0 m c) (fun k l => X1 m c (ix2 k l)) 0 (by norm_num) (nrow u p)) (cosF p.val) (sinF p.val) ⟨h.val * 128 + l.val, by omega⟩ := by
  refine (tr89 (RR (ZK m c) (Host.cos angR) (Host.sin angR)) u h p l).trans ?_
  refine (RR_at _ _ _ u p _ _ _ ⟨h.val * 128 + l.val, by omega⟩ (by simp only [] <;> omega)).trans ?_
  simp only [ZK_at, cos_at, sin_at]
theorem refQT (c : Dev nD) (u : Fin 2) (h : Fin 8) (l : Fin 128) (p : Fin 8192) : Value.res_main_v91 m c (ix4 u h l p) =
    Ideal.div (turn (dotR (X0 m c) (fun k l => X2 m c (ix2 k l)) 0 (by norm_num) (nrow u p)) (cosF p.val) (sinF p.val) ⟨h.val * 128 + l.val, by omega⟩ * Ideal.ofBits .f32 0x3E000000#32)
      (Ideal.log (Ideal.ofBits .f32 0x40000000#32)) := by
  refine (tr91 (Host.divf (mulf (RR (ZQ m c) (Host.cos angR) (Host.sin angR)) (broadcastInDim S2x8192x8x2x64 ![] bcast_S_S2x8192x8x2x64 (constant (F := Ideal) S_ .f32 0x3E000000#32))) (broadcastInDim S2x8192x8x2x64 ![] bcast_S_S2x8192x8x2x64 (Host.log (constant (F := Ideal) S_ .f32 0x40000000#32)))) u h p l).trans ?_
  refine (sc91 _ u p _ _ _).trans ?_
  refine congrArg (fun x : EReal => Ideal.div (x * Ideal.ofBits .f32 0x3E000000#32) (Ideal.log (Ideal.ofBits .f32 0x40000000#32))) ?_
  refine (RR_at _ _ _ u p _ _ _ ⟨h.val * 128 + l.val, by omega⟩ (by simp only [] <;> omega)).trans ?_
  simp only [ZQ_at, cos_at, sin_at]

end Cert.QkvRefIdeal.Rows

end
-- ==== Proof.Calls.QkvOut.lean ====
module

public import proofs.«01_k».proof.Defs
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import Idealize.ShloMosaic.Lib.Claim
public import Idealize.ShloMosaic.Lib.Pointwise
public import Idealize.ShloMosaic.Lib.Pipeline.ValueKit
public import proofs.«01_k».proof.Proof.Calls.QkvKT
public import proofs.«01_k».proof.Proof.Calls.QkvQT
public import proofs.«01_k».proof.Proof.Calls.QkvRef

@[expose] public section

set_option maxRecDepth 16384

noncomputable section

open Idealize.ShloMosaic Idealize.ShloMosaic.TcCoe Idealize.SL.Sem
open Idealize.ShloMosaic.Pipeline (Dat)
open scoped BigOperators

namespace Cert.QkvIdeal.Value

open Cert.QkvIdeal Cert.QkvIdeal.Gen

section Vars
variable (x0 : Vec Ideal S256x1024 .f32) (x1 x2 x3 x4 x5 : Vec Ideal S1024x1024 .bf16) (x6 x7 x8 : Vec Ideal S256x128 .f32) (x9 x10 : Vec Ideal S8x256 .f32)

theorem slB0 (C : FVec Ideal S256x1024 .bf16) (i : Fin 256) (l : Fin 128) : shapeCast S1x1x256x128 (extractStridedSlice S256x128 ![0, 0] C slices_S256x1024_o0_0_S256x128) shapeCasts_S256x128_S1x1x256x128 (ix4 0 0 i l)
    = C (ix2 i ⟨0 + l.val, by omega⟩) := by
  pointwise []
theorem slT0 (C : FVec Ideal S1024x256 .bf16) (i : Fin 256) (l : Fin 128) : shapeCast S1x1x128x256 (extractStridedSlice S128x256 ![0, 0] C slices_S1024x256_o0_0_S128x256) shapeCasts_S128x256_S1x1x128x256 (ix4 0 0 l i)
    = C (ix2 ⟨0 + l.val, by omega⟩ i) := by
  pointwise []
theorem slB1 (C : FVec Ideal S256x1024 .bf16) (i : Fin 256) (l : Fin 128) : shapeCast S1x1x256x128 (extractStridedSlice S256x128 ![0, 128] C slices_S256x1024_o0_128_S256x128) shapeCasts_S256x128_S1x1x256x128 (ix4 0 0 i l)
    = C (ix2 i ⟨128 + l.val, by omega⟩) := by
  pointwise []
theorem slT1 (C : FVec Ideal S1024x256 .bf16) (i : Fin 256) (l : Fin 128) : shapeCast S1x1x128x256 (extractStridedSlice S128x256 ![128, 0] C slices_S1024x256_o128_0_S128x256) shapeCasts_S128x256_S1x1x128x256 (ix4 0 0 l i)
    = C (ix2 ⟨128 + l.val, by omega⟩ i) := by
  pointwise []
theorem slB2 (C : FVec Ideal S256x1024 .bf16) (i : Fin 256) (l : Fin 128) : shapeCast S1x1x256x128 (extractStridedSlice S256x128 ![0, 256] C slices_S256x1024_o0_256_S256x128) shapeCasts_S256x128_S1x1x256x128 (ix4 0 0 i l)
    = C (ix2 i ⟨256 + l.val, by omega⟩) := by
  pointwise []
theorem slT2 (C : FVec Ideal S1024x256 .bf16) (i : Fin 256) (l : Fin 128) : shapeCast S1x1x128x256 (extractStridedSlice S128x256 ![256, 0] C slices_S1024x256_o256_0_S128x256) shapeCasts_S128x256_S1x1x128x256 (ix4 0 0 l i)
    = C (ix2 ⟨256 + l.val, by omega⟩ i) := by
  pointwise []
theorem slB3 (C : FVec Ideal S256x1024 .bf16) (i : Fin 256) (l : Fin 128) : shapeCast S1x1x256x128 (extractStridedSlice S256x128 ![0, 384] C slices_S256x1024_o0_384_S256x128) shapeCasts_S256x128_S1x1x256x128 (ix4 0 0 i l)
    = C (ix2 i ⟨384 + l.val, by omega⟩) := by
  pointwise []
theorem slT3 (C : FVec Ideal S1024x256 .bf16) (i : Fin 256) (l : Fin 128) : shapeCast S1x1x128x256 (extractStridedSlice S128x256 ![384, 0] C slices_S1024x256_o384_0_S128x256) shapeCasts_S128x256_S1x1x128x256 (ix4 0 0 l i)
    = C (ix2 ⟨384 + l.val, by omega⟩ i) := by
  pointwise []
theorem slB4 (C : FVec Ideal S256x1024 .bf16) (i : Fin 256) (l : Fin 128) : shapeCast S1x1x256x128 (extractStridedSlice S256x128 ![0, 512] C slices_S256x1024_o0_512_S256x128) shapeCasts_S256x128_S1x1x256x128 (ix4 0 0 i l)
    = C (ix2 i ⟨512 + l.val, by omega⟩) := by
  pointwise []
theorem slT4 (C : FVec Ideal S1024x256 .bf16) (i : Fin 256) (l : Fin 128) : shapeCast S1x1x128x256 (extractStridedSlice S128x256 ![512, 0] C slices_S1024x256_o512_0_S128x256) shapeCasts_S128x256_S1x1x128x256 (ix4 0 0 l i)
    = C (ix2 ⟨512 + l.val, by omega⟩ i) := by
  pointwise []
theorem slB5 (C : FVec Ideal S256x1024 .bf16) (i : Fin 256) (l : Fin 128) : shapeCast S1x1x256x128 (extractStridedSlice S256x128 ![0, 640] C slices_S256x1024_o0_640_S256x128) shapeCasts_S256x128_S1x1x256x128 (ix4 0 0 i l)
    = C (ix2 i ⟨640 + l.val, by omega⟩) := by
  pointwise []
theorem slT5 (C : FVec Ideal S1024x256 .bf16) (i : Fin 256) (l : Fin 128) : shapeCast S1x1x128x256 (extractStridedSlice S128x256 ![640, 0] C slices_S1024x256_o640_0_S128x256) shapeCasts_S128x256_S1x1x128x256 (ix4 0 0 l i)
    = C (ix2 ⟨640 + l.val, by omega⟩ i) := by
  pointwise []
theorem slB6 (C : FVec Ideal S256x1024 .bf16) (i : Fin 256) (l : Fin 128) : shapeCast S1x1x256x128 (extractStridedSlice S256x128 ![0, 768] C slices_S256x1024_o0_768_S256x128) shapeCasts_S256x128_S1x1x256x128 (ix4 0 0 i l)
    = C (ix2 i ⟨768 + l.val, by omega⟩) := by
  pointwise []
theorem slT6 (C : FVec Ideal S1024x256 .bf16) (i : Fin 256) (l : Fin 128) : shapeCast S1x1x128x256 (extractStridedSlice S128x256 ![768, 0] C slices_S1024x256_o768_0_S128x256) shapeCasts_S128x256_S1x1x128x256 (ix4 0 0 l i)
    = C (ix2 ⟨768 + l.val, by omega⟩ i) := by
  pointwise []
theorem slB7 (C : FVec Ideal S256x1024 .bf16) (i : Fin 256) (l : Fin 128) : shapeCast S1x1x256x128 (extractStridedSlice S256x128 ![0, 896] C slices_S256x1024_o0_896_S256x128) shapeCasts_S256x128_S1x1x256x128 (ix4 0 0 i l)
    = C (ix2 i ⟨896 + l.val, by omega⟩) := by
  pointwise []
theorem slT7 (C : FVec Ideal S1024x256 .bf16) (i : Fin 256) (l : Fin 128) : shapeCast S1x1x128x256 (extractStridedSlice S128x256 ![896, 0] C slices_S1024x256_o896_0_S128x256) shapeCasts_S128x256_S1x1x128x256 (ix4 0 0 l i)
    = C (ix2 ⟨896 + l.val, by omega⟩ i) := by
  pointwise []

set_option maxHeartbeats 2000000 in
theorem tile13 (u : Fin 1) (h : Fin 8) (i : Fin 256) (l : Fin 128) : out0_13 (F := Ideal) x0 x1 x2 x3 x4 x5 x6 x7 x8 x9 x10 (ix4 u h i l) = k0_pay178 (F := Ideal) x0 x1 x2 x3 x4 x5 x6 x7 x8 x9 x10 (ix2 i ⟨h.val * 128 + l.val, by omega⟩) := by
  canon_tiles w hw
  · idx_vars w
    have e1 : h.val = 7 + w1.val := hw1
    obtain rfl : i = w2 := Fin.ext hw2
    obtain rfl : l = w3 := Fin.ext hw3
    have e4 : w1.val = 0 := by omega
    obtain rfl : w0 = 0 := Subsingleton.elim _ _
    obtain rfl : w1 = 0 := Subsingleton.elim _ _
    refine (slB7 (k0_pay178 (F := Ideal) x0 x1 x2 x3 x4 x5 x6 x7 x8 x9 x10) i l).trans ?_
    exact congrArg (fun j => k0_pay178 (F := Ideal) x0 x1 x2 x3 x4 x5 x6 x7 x8 x9 x10 (ix2 i j)) (Fin.ext (by simp only [] <;> omega))
  · idx_vars w
    have e1 : h.val = 6 + w1.val := hw1
    obtain rfl : i = w2 := Fin.ext hw2
    obtain rfl : l = w3 := Fin.ext hw3
    have e4 : w1.val = 0 := by omega
    obtain rfl : w0 = 0 := Subsingleton.elim _ _
    obtain rfl : w1 = 0 := Subsingleton.elim _ _
    refine (slB6 (k0_pay178 (F := Ideal) x0 x1 x2 x3 x4 x5 x6 x7 x8 x9 x10) i l).trans ?_
    exact congrArg (fun j => k0_pay178 (F := Ideal) x0 x1 x2 x3 x4 x5 x6 x7 x8 x9 x10 (ix2 i j)) (Fin.ext (by simp only [] <;> omega))
  · idx_vars w
    have e1 : h.val = 5 + w1.val := hw1
    obtain rfl : i = w2 := Fin.ext hw2
    obtain rfl : l = w3 := Fin.ext hw3
    have e4 : w1.val = 0 := by omega
    obtain rfl : w0 = 0 := Subsingleton.elim _ _
    obtain rfl : w1 = 0 := Subsingleton.elim _ _
    refine (slB5 (k0_pay178 (F := Ideal) x0 x1 x2 x3 x4 x5 x6 x7 x8 x9 x10) i l).trans ?_
    exact congrArg (fun j => k0_pay178 (F := Ideal) x0 x1 x2 x3 x4 x5 x6 x7 x8 x9 x10 (ix2 i j)) (Fin.ext (by simp only [] <;> omega))
  · idx_vars w
    have e1 : h.val = 4 + w1.val := hw1
    obtain rfl : i = w2 := Fin.ext hw2
    obtain rfl : l = w3 := Fin.ext hw3
    have e4 : w1.val = 0 := by omega
    obtain rfl : w0 = 0 := Subsingleton.elim _ _
    obtain rfl : w1 = 0 := Subsingleton.elim _ _
    refine (slB4 (k0_pay178 (F := Ideal) x0 x1 x2 x3 x4 x5 x6 x7 x8 x9 x10) i l).trans ?_
    exact congrArg (fun j => k0_pay178 (F := Ideal) x0 x1 x2 x3 x4 x5 x6 x7 x8 x9 x10 (ix2 i j)) (Fin.ext (by simp only [] <;> omega))
  · idx_vars w
    have e1 : h.val = 3 + w1.val := hw1
    obtain rfl : i = w2 := Fin.ext hw2
    obtain rfl : l = w3 := Fin.ext hw3
    have e4 : w1.val = 0 := by omega
    obtain rfl : w0 = 0 := Subsingleton.elim _ _
    obtain rfl : w1 = 0 := Subsingleton.elim _ _
    refine (slB3 (k0_pay178 (F := Ideal) x0 x1 x2 x3 x4 x5 x6 x7 x8 x9 x10) i l).trans ?_
    exact congrArg (fun j => k0_pay178 (F := Ideal) x0 x1 x2 x3 x4 x5 x6 x7 x8 x9 x10 (ix2 i j)) (Fin.ext (by simp only [] <;> omega))
  · idx_vars w
    have e1 : h.val = 2 + w1.val := hw1
    obtain rfl : i = w2 := Fin.ext hw2
    obtain rfl : l = w3 := Fin.ext hw3
    have e4 : w1.val = 0 := by omega
    obtain rfl : w0 = 0 := Subsingleton.elim _ _
    obtain rfl : w1 = 0 := Subsingleton.elim _ _
    refine (slB2 (k0_pay178 (F := Ideal) x0 x1 x2 x3 x4 x5 x6 x7 x8 x9 x10) i l).trans ?_
    exact congrArg (fun j => k0_pay178 (F := Ideal) x0 x1 x2 x3 x4 x5 x6 x7 x8 x9 x10 (ix2 i j)) (Fin.ext (by simp only [] <;> omega))
  · idx_vars w
    have e1 : h.val = 1 + w1.val := hw1
    obtain rfl : i = w2 := Fin.ext hw2
    obtain rfl : l = w3 := Fin.ext hw3
    have e4 : w1.val = 0 := by omega
    obtain rfl : w0 = 0 := Subsingleton.elim _ _
    obtain rfl : w1 = 0 := Subsingleton.elim _ _
    refine (slB1 (k0_pay178 (F := Ideal) x0 x1 x2 x3 x4 x5 x6 x7 x8 x9 x10) i l).trans ?_
    exact congrArg (fun j => k0_pay178 (F := Ideal) x0 x1 x2 x3 x4 x5 x6 x7 x8 x9 x10 (ix2 i j)) (Fin.ext (by simp only [] <;> omega))
  · idx_vars w
    have e1 : h.val = w1.val := hw1
    obtain rfl : i = w2 := Fin.ext hw2
    obtain rfl : l = w3 := Fin.ext hw3
    have e4 : w1.val = 0 := by omega
    obtain rfl : w0 = 0 := Subsingleton.elim _ _
    obtain rfl : w1 = 0 := Subsingleton.elim _ _
    refine (slB0 (k0_pay178 (F := Ideal) x0 x1 x2 x3 x4 x5 x6 x7 x8 x9 x10) i l).trans ?_
    exact congrArg (fun j => k0_pay178 (F := Ideal) x0 x1 x2 x3 x4 x5 x6 x7 x8 x9 x10 (ix2 i j)) (Fin.ext (by simp only [] <;> omega))

set_option maxHeartbeats 2000000 in
theorem tile14 (u : Fin 1) (h : Fin 8) (i : Fin 256) (l : Fin 128) : out0_14 (F := Ideal) x0 x1 x2 x3 x4 x5 x6 x7 x8 x9 x10 (ix4 u h l i) = k0_pay179 (F := Ideal) x0 x1 x2 x3 x4 x5 x6 x7 x8 x9 x10 (ix2 ⟨h.val * 128 + l.val, by omega⟩ i) := by
  canon_tiles w hw
  · idx_vars w
    have e1 : h.val = 7 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT7 (k0_pay179 (F := Ideal) x0 x1 x2 x3 x4 x5 x6 x7 x8 x9 x10) i l).trans ?_
    exact congrArg (fun j => k0_pay179 (F := Ideal) x0 x1 x2 x3 x4 x5 x6 x7 x8 x9 x10 (ix2 j i)) (Fin.ext (by simp only [] <;> omega))
  · idx_vars w
    have e1 : h.val = 6 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT6 (k0_pay179 (F := Ideal) x0 x1 x2 x3 x4 x5 x6 x7 x8 x9 x10) i l).trans ?_
    exact congrArg (fun j => k0_pay179 (F := Ideal) x0 x1 x2 x3 x4 x5 x6 x7 x8 x9 x10 (ix2 j i)) (Fin.ext (by simp only [] <;> omega))
  · idx_vars w
    have e1 : h.val = 5 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT5 (k0_pay179 (F := Ideal) x0 x1 x2 x3 x4 x5 x6 x7 x8 x9 x10) i l).trans ?_
    exact congrArg (fun j => k0_pay179 (F := Ideal) x0 x1 x2 x3 x4 x5 x6 x7 x8 x9 x10 (ix2 j i)) (Fin.ext (by simp only [] <;> omega))
  · idx_vars w
    have e1 : h.val = 4 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT4 (k0_pay179 (F := Ideal) x0 x1 x2 x3 x4 x5 x6 x7 x8 x9 x10) i l).trans ?_
    exact congrArg (fun j => k0_pay179 (F := Ideal) x0 x1 x2 x3 x4 x5 x6 x7 x8 x9 x10 (ix2 j i)) (Fin.ext (by simp only [] <;> omega))
  · idx_vars w
    have e1 : h.val = 3 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT3 (k0_pay179 (F := Ideal) x0 x1 x2 x3 x4 x5 x6 x7 x8 x9 x10) i l).trans ?_
    exact congrArg (fun j => k0_pay179 (F := Ideal) x0 x1 x2 x3 x4 x5 x6 x7 x8 x9 x10 (ix2 j i)) (Fin.ext (by simp only [] <;> omega))
  · idx_vars w
    have e1 : h.val = 2 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT2 (k0_pay179 (F := Ideal) x0 x1 x2 x3 x4 x5 x6 x7 x8 x9 x10) i l).trans ?_
    exact congrArg (fun j => k0_pay179 (F := Ideal) x0 x1 x2 x3 x4 x5 x6 x7 x8 x9 x10 (ix2 j i)) (Fin.ext (by simp only [] <;> omega))
  · idx_vars w
    have e1 : h.val = 1 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT1 (k0_pay179 (F := Ideal) x0 x1 x2 x3 x4 x5 x6 x7 x8 x9 x10) i l).trans ?_
    exact congrArg (fun j => k0_pay179 (F := Ideal) x0 x1 x2 x3 x4 x5 x6 x7 x8 x9 x10 (ix2 j i)) (Fin.ext (by simp only [] <;> omega))
  · idx_vars w
    have e1 : h.val = w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT0 (k0_pay179 (F := Ideal) x0 x1 x2 x3 x4 x5 x6 x7 x8 x9 x10) i l).trans ?_
    exact congrArg (fun j => k0_pay179 (F := Ideal) x0 x1 x2 x3 x4 x5 x6 x7 x8 x9 x10 (ix2 j i)) (Fin.ext (by simp only [] <;> omega))

set_option maxHeartbeats 2000000 in
theorem tile15 (u : Fin 1) (h : Fin 8) (i : Fin 256) (l : Fin 128) : out0_15 (F := Ideal) x0 x1 x2 x3 x4 x5 x6 x7 x8 x9 x10 (ix4 u h l i) = k0_pay217 (F := Ideal) x0 x1 x2 x3 x4 x5 x6 x7 x8 x9 x10 (ix2 ⟨h.val * 128 + l.val, by omega⟩ i) := by
  canon_tiles w hw
  · idx_vars w
    have e1 : h.val = 7 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT7 (k0_pay217 (F := Ideal) x0 x1 x2 x3 x4 x5 x6 x7 x8 x9 x10) i l).trans ?_
    exact congrArg (fun j => k0_pay217 (F := Ideal) x0 x1 x2 x3 x4 x5 x6 x7 x8 x9 x10 (ix2 j i)) (Fin.ext (by simp only [] <;> omega))
  · idx_vars w
    have e1 : h.val = 6 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT6 (k0_pay217 (F := Ideal) x0 x1 x2 x3 x4 x5 x6 x7 x8 x9 x10) i l).trans ?_
    exact congrArg (fun j => k0_pay217 (F := Ideal) x0 x1 x2 x3 x4 x5 x6 x7 x8 x9 x10 (ix2 j i)) (Fin.ext (by simp only [] <;> omega))
  · idx_vars w
    have e1 : h.val = 5 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT5 (k0_pay217 (F := Ideal) x0 x1 x2 x3 x4 x5 x6 x7 x8 x9 x10) i l).trans ?_
    exact congrArg (fun j => k0_pay217 (F := Ideal) x0 x1 x2 x3 x4 x5 x6 x7 x8 x9 x10 (ix2 j i)) (Fin.ext (by simp only [] <;> omega))
  · idx_vars w
    have e1 : h.val = 4 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT4 (k0_pay217 (F := Ideal) x0 x1 x2 x3 x4 x5 x6 x7 x8 x9 x10) i l).trans ?_
    exact congrArg (fun j => k0_pay217 (F := Ideal) x0 x1 x2 x3 x4 x5 x6 x7 x8 x9 x10 (ix2 j i)) (Fin.ext (by simp only [] <;> omega))
  · idx_vars w
    have e1 : h.val = 3 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT3 (k0_pay217 (F := Ideal) x0 x1 x2 x3 x4 x5 x6 x7 x8 x9 x10) i l).trans ?_
    exact congrArg (fun j => k0_pay217 (F := Ideal) x0 x1 x2 x3 x4 x5 x6 x7 x8 x9 x10 (ix2 j i)) (Fin.ext (by simp only [] <;> omega))
  · idx_vars w
    have e1 : h.val = 2 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT2 (k0_pay217 (F := Ideal) x0 x1 x2 x3 x4 x5 x6 x7 x8 x9 x10) i l).trans ?_
    exact congrArg (fun j => k0_pay217 (F := Ideal) x0 x1 x2 x3 x4 x5 x6 x7 x8 x9 x10 (ix2 j i)) (Fin.ext (by simp only [] <;> omega))
  · idx_vars w
    have e1 : h.val = 1 + w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT1 (k0_pay217 (F := Ideal) x0 x1 x2 x3 x4 x5 x6 x7 x8 x9 x10) i l).trans ?_
    exact congrArg (fun j => k0_pay217 (F := Ideal) x0 x1 x2 x3 x4 x5 x6 x7 x8 x9 x10 (ix2 j i)) (Fin.ext (by simp only [] <;> omega))
  · idx_vars w
    have e1 : h.val = w1.val := hw1
    obtain rfl : l = w2 := Fin.ext hw2
    obtain rfl : i = w3 := Fin.ext hw3
    have e4 : w1.val = 0 := by omega
    obtain rfl : w0 = 0 := Subsingleton.elim _ _
    obtain rfl : w1 = 0 := Subsingleton.elim _ _
    refine (slT0 (k0_pay217 (F := Ideal) x0 x1 x2 x3 x4 x5 x6 x7 x8 x9 x10) i l).trans ?_
    exact congrArg (fun j => k0_pay217 (F := Ideal) x0 x1 x2 x3 x4 x5 x6 x7 x8 x9 x10 (ix2 j i)) (Fin.ext (by simp only [] <;> omega))

end Vars
end Cert.QkvIdeal.Value

end
-- ==== Proof.Calls.Qkv.lean ====
module

public import proofs.«01_k».proof.Defs
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import Idealize.ShloMosaic.Lib.Claim
public import Idealize.ShloMosaic.Lib.Pointwise
public import Idealize.ShloMosaic.Lib.Pipeline.ValueKit
public import proofs.«01_k».proof.Proof.Calls.QkvOut

@[expose] public section

set_option maxRecDepth 16384

noncomputable section

open Idealize.ShloMosaic Idealize.ShloMosaic.TcCoe Idealize.SL.Sem
open Idealize.ShloMosaic.Pipeline (Dat)
open scoped BigOperators

namespace Cert.QkvIdeal.Value

open Cert.QkvIdeal Cert.QkvIdeal.Gen
open Cert.QkvRefIdeal.Rows (nrow refKT refKB refQT ZV ZV_at tr88 tr90 X0 X1 X2)

variable (m : (ℓ : Loc nD τ sig) → Buf (Elt Ideal) ℓ)

theorem bits_eighth : Ideal.ofBits .f32 0x3E000000#32 = ((1 / 8 : ℝ) : EReal) := by
  simp [Ideal.ofBits, Ideal.ieee, -EReal.coe_mul]
  norm_num
theorem bits_two : Ideal.ofBits .f32 0x40000000#32 = ((2 : ℝ) : EReal) := by
  simp [Ideal.ofBits, Ideal.ieee, -EReal.coe_mul]
  norm_num
/-- An eighth, then the logarithm of two divided out, is the one scale. -/
theorem scale_eq (z : EReal) : Ideal.div (z * Ideal.ofBits .f32 0x3E000000#32) (Ideal.log (Ideal.ofBits .f32 0x40000000#32)) =
    z * ((Named.named κ "q_scale" 0x3E38AA3B#32 : Ideal .f32) : EReal) := by
  have hq : ((Named.named κ "q_scale" 0x3E38AA3B#32 : Ideal .f32) : EReal) = ((1 / 8 : ℝ) : EReal) * ((1 / Real.log 2 : ℝ) : EReal) := by
    rw [← EReal.coe_mul, one_div (Real.log 2)]; rfl
  have hl : Ideal.log ((2 : ℝ) : EReal) = ((Real.log 2 : ℝ) : EReal) := if_neg (by norm_num)
  rw [hq, bits_eighth, bits_two, hl, Ideal.div_coe (Real.log_pos (by norm_num)).ne', mul_assoc]

/-- The sequence that block `t` is of. -/
def sq (t : Fin cfg0.N) : Fin 2 := ⟨t.val / 32, by have := tlt t; omega⟩
theorem nrow_eq (t : Fin cfg0.N) (i : Fin 256) : nrow (sq t) (pos t i) = row t i := Fin.ext (by simp only [nrow, sq, pos, row]; omega)

theorem emb11 (t : Fin cfg0.N) (u : Fin 1) (r : Fin 1024) (i : Fin 256) : ((View.whole main_v46_0).slice (win0_11.rect t)).emb (ix3 u r i) = ix3 (sq t) r (pos t i) := by
  simp only [sq, pos]
  blk_ext [idx t]
theorem emb12 (t : Fin cfg0.N) (i : Fin 256) (j : Fin 1024) : ((View.whole main_v46_1).slice (win0_12.rect t)).emb (ix2 i j) = ix2 (row t i) j := by
  simp only [row]
  blk_ext [idx t]
theorem emb13 (t : Fin cfg0.N) (u : Fin 1) (h : Fin 8) (i : Fin 256) (l : Fin 128) : ((View.whole main_v46_2).slice (win0_13.rect t)).emb (ix4 u h i l) = ix4 (sq t) h (pos t i) l := by
  simp only [sq, pos]
  blk_ext [idx t]
theorem emb14 (t : Fin cfg0.N) (u : Fin 1) (h : Fin 8) (l : Fin 128) (i : Fin 256) : ((View.whole main_v46_3).slice (win0_14.rect t)).emb (ix4 u h l i) = ix4 (sq t) h l (pos t i) := by
  simp only [sq, pos]
  blk_ext [idx t]
theorem emb15 (t : Fin cfg0.N) (u : Fin 1) (h : Fin 8) (l : Fin 128) (i : Fin 256) : ((View.whole main_v46_4).slice (win0_15.rect t)).emb (ix4 u h l i) = ix4 (sq t) h l (pos t i) := by
  simp only [sq, pos]
  blk_ext [idx t]

set_option maxHeartbeats 4000000 in
theorem algebraic : Cert.algebraic_QkvIdeal_QkvRefIdeal := by
  pair_intro
  · run_from Cert.QkvIdeal.Gen.run_main m g
  · run_from Cert.QkvRefIdeal.Value.run m' g'
    · symm
      refine (dats m 0 c).arrAt_eq_of_covers 11 _ (by decide +kernel) fun t hf y => ?_
      blk_simp; rw [after0_11]; frame_out
      idx_vars y
      obtain ⟨ha0, ha1, ha2⟩ := hagree c
      have e0 : X0 m' c = m ((c : Thread nD τ).loc main_arg0) := ha0
      have e1 : X1 m' c = m ((c : Thread nD τ).loc main_arg1) := ha1
      rw [emb11]
      refine (outKT _ _ _ _ _ _ _ _ _ _ _ y0 y1 y2).trans ?_
      refine Eq.trans ?_ (refKT m' c (sq t) y1 (pos t y2)).symm
      rw [e0, e1, tabsT_at, zT_K, nrow_eq]
    · symm
      refine (dats m 0 c).arrAt_eq_of_covers 12 _ (by decide +kernel) fun t hf y => ?_
      blk_simp; rw [after0_12]; frame_out
      idx_vars y
      obtain ⟨ha0, ha1, ha2⟩ := hagree c
      have e0 : X0 m' c = m ((c : Thread nD τ).loc main_arg0) := ha0
      have e1 : X1 m' c = m ((c : Thread nD τ).loc main_arg1) := ha1
      rw [emb12, pay164_eq, ← ha0, ← ha1]
      refine (pay75_at _ _ y0 y1).trans ?_
      refine Eq.trans ?_ (tr88 (ZV m' c) (row t y0) y1).symm
      rw [ZV_at, e0, e1, zR_V]
    · symm
      refine (dats m 0 c).arrAt_eq_of_covers 13 _ (by decide +kernel) fun t hf y => ?_
      blk_simp; rw [after0_13]
      idx_vars y
      obtain ⟨ha0, ha1, ha2⟩ := hagree c
      have e0 : X0 m' c = m ((c : Thread nD τ).loc main_arg0) := ha0
      have e1 : X1 m' c = m ((c : Thread nD τ).loc main_arg1) := ha1
      rw [emb13]
      refine (tile13 _ _ _ _ _ _ _ _ _ _ _ y0 y1 y2 y3).trans ?_
      refine (outKB _ _ _ _ _ _ _ _ _ _ _ y2 _).trans ?_
      refine Eq.trans ?_ (refKB m' c (sq t) y1 (pos t y2) y3).symm
      rw [e0, e1, tabs_at, zR_K, nrow_eq]
    · symm
      refine (dats m 0 c).arrAt_eq_of_covers 14 _ (by decide +kernel) fun t hf y => ?_
      blk_simp; rw [after0_14]
      idx_vars y
      obtain ⟨ha0, ha1, ha2⟩ := hagree c
      have e0 : X0 m' c = m ((c : Thread nD τ).loc main_arg0) := ha0
      have e1 : X1 m' c = m ((c : Thread nD τ).loc main_arg1) := ha1
      rw [emb14, ← ha0, ← ha1]
      refine (tile14 _ _ _ _ _ _ _ _ _ _ _ y0 y1 y3 y2).trans ?_
      rw [pay179_eq]
      refine (pay76_at _ _ _ y3).trans ?_
      refine Eq.trans ?_ (tr90 (ZV m' c) (sq t) y1 (pos t y3) y2).symm
      rw [ZV_at, e0, e1, zT_V, nrow_eq]
    · symm
      refine (dats m 0 c).arrAt_eq_of_covers 15 _ (by decide +kernel) fun t hf y => ?_
      blk_simp; rw [after0_15]
      idx_vars y
      obtain ⟨ha0, ha1, ha2⟩ := hagree c
      have e0 : X0 m' c = m ((c : Thread nD τ).loc main_arg0) := ha0
      have e2 : X2 m' c = m ((c : Thread nD τ).loc main_arg2) := ha2
      rw [emb15]
      refine (tile15 _ _ _ _ _ _ _ _ _ _ _ y0 y1 y3 y2).trans ?_
      refine (outQT _ _ _ _ _ _ _ _ _ _ _ _ y3).trans ?_
      refine Eq.trans ?_ (refQT m' c (sq t) y1 y2 (pos t y3)).symm
      rw [scale_eq, e0, e2, tabsT_at, zT_Q, nrow_eq]

end Cert.QkvIdeal.Value

end
-- ==== Proof.Calls.QkvStep.lean ====
module

public import proofs.«01_k».proof.Defs
public import proofs.«01_k».proof.Proof.Gen.QkvStepIdeal
public import proofs.«01_k».proof.Proof.Gen.QkvStepIdeal.Skeleton
public import proofs.«01_k».proof.Proof.Gen.QkvStepIdeal.Launch
public import proofs.«01_k».proof.Proof.Gen.QkvStepIdeal.Points
public import proofs.«01_k».proof.Proof.Gen.QkvStepIdeal.Frame
public import proofs.«01_k».proof.Proof.Gen.QkvStepRefIdeal
public import proofs.«01_k».proof.Proof.Gen.QkvStepRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.QkvStepIdeal.Value

open Cert.QkvStepIdeal Cert.QkvStepIdeal.Gen

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

variable (m : (ℓ : Loc nD τ sig) → Buf (Elt Ideal) ℓ)
/-- The rotation angle of the `d`th pair at the one position. -/
def ang : FVec Ideal S1x8 .f32 := mulf
      (broadcastInDim S1x8 ![0, 1] bcast_S1x1_S1x8_0_1
        (broadcastInDim S1x1 ![0] bcast_S1_S1x1_0
          (sitofp FTy.f32 (addi (broadcastInDim S1 ![] bcast_S_S1 (constantI S_ 32 2048#32)) (iotaInDim S1 32 0)))))
      (broadcastInDim S1x8 ![1] bcast_S8_S1x8_1
        (Host.powf (broadcastInDim S8 ![] bcast_S_S8 (constant S_ FTy.f32 1223959552#32))
          (Host.divf
            (Host.negf
              (addf (broadcastInDim S8 ![] bcast_S_S8 (constant S_ FTy.f32 0#32))
                (mulf (broadcastInDim S8 ![] bcast_S_S8 (constant S_ FTy.f32 1073741824#32))
                  (sitofp FTy.f32 (iotaInDim S8 32 0)))))
            (broadcastInDim S8 ![] bcast_S_S8 (constant S_ FTy.f32 1098907648#32)))))

theorem v18 (c : Dev nD) : (V m c main_v18 : FVec Ideal S1x8 .f32) = Host.cos (F := Ideal) (φ := .f32) ang := by unfold V; after_results_simp; rfl
theorem v19 (c : Dev nD) : (V m c main_v19 : FVec Ideal S1x8 .f32) = Host.sin (F := Ideal) (φ := .f32) ang := by unfold V; after_results_simp; rfl
theorem v22 (c : Dev nD) : (V m c main_v22 : FVec Ideal S1x8 .f32) = Host.negf (F := Ideal) (φ := .f32) (Host.sin ang) := by unfold V; after_results_simp; rfl
theorem v20 (c : Dev nD) : (V m c main_v20 : FVec Ideal S1x48 .f32) = broadcastInDim S1x48 ![] bcast_S_S1x48 (constant (F := Ideal) S_ .f32 0x3F800000#32) := by
  unfold V; after_results_simp
theorem v23 (c : Dev nD) : (V m c main_v23 : FVec Ideal S1x56 .f32) = broadcastInDim S1x56 ![] bcast_S_S1x56 (constant (F := Ideal) S_ .f32 0x00000000#32) := by
  unfold V; after_results_simp
theorem v25 (c : Dev nD) : (V m c main_v25 : FVec Ideal S1x8 .f32) = broadcastInDim S1x8 ![] bcast_S_S1x8 (constant (F := Ideal) S_ .f32 0x00000000#32) := by
  unfold V; after_results_simp
theorem v26 (c : Dev nD) : (V m c main_v26 : FVec Ideal S1x48 .f32) = broadcastInDim S1x48 ![] bcast_S_S1x48 (constant (F := Ideal) S_ .f32 0x00000000#32) := by
  unfold V; after_results_simp

/-- A row of 64 put together from three pieces. -/
def cat3 (a b : FVec Ideal S1x8 .f32) (d : FVec Ideal S1x48 .f32) : FVec Ideal S1x64 .f32 :=
  concatenate S1x64 1 [⟨S1x8, a⟩, ⟨S1x8, b⟩, ⟨S1x48, d⟩] concatenates_S1x8_S1x8_S1x48_S1x64_d1

theorem cat3_eq {a a' b b' : FVec Ideal S1x8 .f32} {d d' : FVec Ideal S1x48 .f32} (ha : a = a') (hb : b = b') (hd : d = d') :
    cat3 a b d = cat3 a' b' d' := by rw [ha, hb, hd]

theorem v21 (c : Dev nD) : (V m c main_v21 : FVec Ideal S1x64 .f32) = cat3 (Host.cos (F := Ideal) (φ := .f32) ang) (Host.cos (F := Ideal) (φ := .f32) ang)
    (broadcastInDim S1x48 ![] bcast_S_S1x48 (constant (F := Ideal) S_ .f32 0x3F800000#32)) := by
  unfold V
  after_results_simp
  refine cat3_eq ?_ ?_ ?_
  all_goals
    dsimp only [Matrix.cons_val]
    after_results_simp
    try rfl
theorem v24 (c : Dev nD) : (V m c main_v24 : FVec Ideal S1x64 .f32) = concatenate S1x64 1 [⟨S1x8, (V m c main_v22 : FVec Ideal S1x8 .f32)⟩,
    ⟨S1x56, (V m c main_v23 : FVec Ideal S1x56 .f32)⟩] concatenates_S1x8_S1x56_S1x64_d1 := by
  rfl
theorem v27 (c : Dev nD) : (V m c main_v27 : FVec Ideal S1x64 .f32) = cat3 (broadcastInDim S1x8 ![] bcast_S_S1x8 (constant (F := Ideal) S_ .f32 0x00000000#32))
    (Host.sin (F := Ideal) (φ := .f32) ang)
    (broadcastInDim S1x48 ![] bcast_S_S1x48 (constant (F := Ideal) S_ .f32 0x00000000#32)) := by
  unfold V
  after_results_simp
  refine cat3_eq ?_ ?_ ?_
  all_goals
    dsimp only [Matrix.cons_val]
    after_results_simp
    try rfl

/-- A row of 64 table entries, repeated for every half of a head and every row. -/
def spread (x : FVec Ideal S1x64 .f32) : FVec Ideal S128x128 .f32 :=
  broadcastInDim S128x128 ![0, 1] bcast_S1x128_S128x128_0_1 (shapeCast S1x128 (broadcastInDim S1x1x2x64 ![0, 1, 2, 3] bcast_S1x1x1x64_S1x1x2x64_0_1_2_3
    (shapeCast S1x1x1x64 x shapeCasts_S1x64_S1x1x1x64)) shapeCasts_S1x1x2x64_S1x128)

theorem v37 (c : Dev nD) : V m c main_v37 = spread (V m c main_v21) := by rfl
theorem v38 (c : Dev nD) : V m c main_v38 = spread (V m c main_v24) := by rfl
theorem v39 (c : Dev nD) : V m c main_v39 = spread (V m c main_v27) := by rfl

theorem tab2 (c : Dev nD) (t : Fin cfg0.N) (i l : Fin 128) : iblk m c 2 t (ix2 i l) = (V m c main_v37 : FVec Ideal S128x128 .f32) (ix2 i l) := by
  simp only [iblk]
  blk_ext [idx t]
theorem tab3 (c : Dev nD) (t : Fin cfg0.N) (i l : Fin 128) : iblk m c 3 t (ix2 i l) = (V m c main_v38 : FVec Ideal S128x128 .f32) (ix2 i l) := by
  simp only [iblk]
  blk_ext [idx t]
theorem tab4 (c : Dev nD) (t : Fin cfg0.N) (i l : Fin 128) : iblk m c 4 t (ix2 i l) = (V m c main_v39 : FVec Ideal S128x128 .f32) (ix2 i l) := by
  simp only [iblk]
  blk_ext [idx t]

theorem spread_at (x : FVec Ideal S1x64 .f32) (i l : Fin 128) : spread x (ix2 i l) = x (ix2 0 ⟨l.val % 64, Nat.mod_lt _ (by norm_num)⟩) := by
  pointwise [spread]
theorem cat3_at (a b : FVec Ideal S1x8 .f32) (d : FVec Ideal S1x48 .f32) (l : Fin 64) : cat3 a b d (ix2 0 l) =
    if h : l.val < 8 then a (ix2 0 ⟨l.val, h⟩) else if h' : l.val - 8 < 8 then b (ix2 0 ⟨l.val - 8, h'⟩) else d (ix2 0 ⟨l.val - 8 - 8, by omega⟩) := by
  pointwise [cat3]

/-- The rotation angle of pair `d`. -/
def A (d : ℕ) : EReal := FloatOps.sitofp (F := Ideal) FTy.f32 (IntOp.addi 2048#32 0#32) *
      Ideal.pow (Ideal.ofBits FTy.f32 1223959552#32)
        (Ideal.div (-(Ideal.ofBits FTy.f32 1073741824#32 * FloatOps.sitofp (F := Ideal) FTy.f32 (BitVec.ofNat 32 d)))
          (Ideal.ofBits FTy.f32 1098907648#32))
theorem ang_at (d : Fin 8) : ang (ix2 0 d) = A d.val := by
  pointwise [ang]
  unfold A; rfl
theorem cosA (d : Fin 8) : Host.cos (F := Ideal) (φ := .f32) ang (ix2 0 d) = Ideal.cos (A d.val) := congrArg Ideal.cos (ang_at d)
theorem sinA (d : Fin 8) : Host.sin (F := Ideal) (φ := .f32) ang (ix2 0 d) = Ideal.sin (A d.val) := congrArg Ideal.sin (ang_at d)
theorem v24_at (c : Dev nD) (l : Fin 64) : (V m c main_v24 : FVec Ideal S1x64 .f32) (ix2 0 l) =
    if h : l.val < 8 then - (Host.sin (F := Ideal) (φ := .f32) ang (ix2 0 ⟨l.val, h⟩)) else 0 := by
  rw [v24, v22, v23]
  pointwise []

/-- The factor of an entry itself. -/
def tC (l : ℕ) : EReal := if l % 64 < 8 then Ideal.cos (A (l % 64)) else if l % 64 - 8 < 8 then Ideal.cos (A (l % 64 - 8)) else 1
/-- The factor of the entry eight places on. -/
def tM (l : ℕ) : EReal := if l % 64 < 8 then - Ideal.sin (A (l % 64)) else 0
/-- The factor of the entry eight places back. -/
def tP (l : ℕ) : EReal := if l % 64 < 8 then 0 else if l % 64 - 8 < 8 then Ideal.sin (A (l % 64 - 8)) else 0

theorem tab2_at (c : Dev nD) (t : Fin cfg0.N) (i l : Fin 128) : (iblk m c 2 t (ix2 i l) : EReal) = tC l.val := by
  rw [tab2, v37, v21, spread_at, cat3_at]
  unfold tC
  split_ifs with h1 h2
  · exact cosA ⟨_, h1⟩
  · exact cosA ⟨_, h2⟩
  · exact (by pointwise [] : broadcastInDim S1x48 ![] bcast_S_S1x48 (constant (F := Ideal) S_ .f32 0x3F800000#32) (ix2 0 _) = (1 : EReal))
theorem tab3_at (c : Dev nD) (t : Fin cfg0.N) (i l : Fin 128) : (iblk m c 3 t (ix2 i l) : EReal) = tM l.val := by
  rw [tab3, v38, spread_at, v24_at]
  unfold tM
  split_ifs with h1
  · exact congrArg (fun x : EReal => -x) (sinA ⟨_, h1⟩)
  · rfl
theorem tab4_at (c : Dev nD) (t : Fin cfg0.N) (i l : Fin 128) : (iblk m c 4 t (ix2 i l) : EReal) = tP l.val := by
  rw [tab4, v39, v27, spread_at, cat3_at]
  unfold tP
  split_ifs with h1 h2
  · exact (by pointwise [] : broadcastInDim S1x8 ![] bcast_S_S1x8 (constant (F := Ideal) S_ .f32 0x00000000#32) (ix2 0 _) = (0 : EReal))
  · exact sinA ⟨_, h2⟩
  · exact (by pointwise [] : broadcastInDim S1x48 ![] bcast_S_S1x48 (constant (F := Ideal) S_ .f32 0x00000000#32) (ix2 0 _) = (0 : EReal))

/-- Entry `j` of a row turned by tables: itself, the entry eight on and the entry eight back within its 128. -/
def rotl (z : Fin 1024 → EReal) (c sa sb : Fin 128 → EReal) (j : Fin 1024) : EReal :=
  z j * c ⟨j.val % 128, by omega⟩ + z ⟨j.val / 128 * 128 + (j.val % 128 + 8) % 128, by omega⟩ * sa ⟨j.val % 128, by omega⟩
    + z ⟨j.val / 128 * 128 + (j.val % 128 + 120) % 128, by omega⟩ * sb ⟨j.val % 128, by omega⟩

theorem rung (z : Fin 1024 → EReal) (c sa sb : Fin 128 → EReal) (j a b d : Fin 1024) (l : Fin 128)
    (ha : a.val = j.val) (hb : b.val = j.val / 128 * 128 + (j.val % 128 + 8) % 128)
    (hd : d.val = j.val / 128 * 128 + (j.val % 128 + 120) % 128) (hl : l.val = j.val % 128) :
    z a * c l + z b * sa l + z d * sb l = rotl z c sa sb j := by
  have ea : a = j := Fin.ext ha
  have el : l = ⟨j.val % 128, by omega⟩ := Fin.ext hl
  have eb : b = ⟨j.val / 128 * 128 + (j.val % 128 + 8) % 128, by omega⟩ := Fin.ext hb
  have ed : d = ⟨j.val / 128 * 128 + (j.val % 128 + 120) % 128, by omega⟩ := Fin.ext hd
  exact congrArg₂ (· + ·) (congrArg₂ (· + ·) (congrArg₂ (· * ·) (congrArg z ea) (congrArg c el))
    (congrArg₂ (· * ·) (congrArg z eb) (congrArg sa el))) (congrArg₂ (· * ·) (congrArg z ed) (congrArg sb el))

/-- Entry `j` of a row whose halves of a head have their first sixteen entries turned by the angles. -/
def rope (z : Fin 1024 → EReal) (j : Fin 1024) : EReal :=
  if h : j.val % 64 < 8 then z j * Ideal.cos (A (j.val % 64)) - z ⟨j.val + 8, by omega⟩ * Ideal.sin (A (j.val % 64))
  else if j.val % 64 - 8 < 8 then z j * Ideal.cos (A (j.val % 64 - 8)) + z ⟨j.val - 8, by omega⟩ * Ideal.sin (A (j.val % 64 - 8))
  else z j

theorem rotl_rope (z : Fin 1024 → EReal) (j : Fin 1024) :
    rotl z (fun l => tC l.val) (fun l => tM l.val) (fun l => tP l.val) j = rope z j := by
  unfold rotl rope tC tM tP
  have h64 : j.val % 128 % 64 = j.val % 64 := by omega
  simp only [h64]
  split_ifs with h1 h2
  · have e : (⟨j.val / 128 * 128 + (j.val % 128 + 8) % 128, by omega⟩ : Fin 1024) = ⟨j.val + 8, by omega⟩ := Fin.ext (by simp only []; omega)
    rw [e, mul_zero, add_zero, mul_neg, sub_eq_add_neg]
  · have e : (⟨j.val / 128 * 128 + (j.val % 128 + 120) % 128, by omega⟩ : Fin 1024) = ⟨j.val - 8, by omega⟩ := Fin.ext (by simp only []; omega)
    rw [e, mul_zero, add_zero]
  · rw [mul_zero, mul_zero, add_zero, add_zero, mul_one]

section Vars
variable (x0 : Vec Ideal S128x1024 .f32) (x1 : Vec Ideal S1024x3072 .bf16) (x2 x3 x4 : Vec Ideal S128x128 .f32)

theorem ld0 (x : Vec Ideal S128x1024 .f32) : View.ld x r0_0 = x := by
  funext i; idx_vars i; pointwise []
theorem ld1 (x : Vec Ideal S1024x3072 .bf16) : View.ld x r0_1 = x := by
  funext i; idx_vars i; pointwise []
theorem ld2 (x : Vec Ideal S128x128 .f32) : View.ld x r0_2 = x := by
  funext i; idx_vars i; pointwise []

/-- The row of products at row `i`, from column `o` on. -/
def prod (o : ℕ) (i : Fin 128) (ho : o ≤ 2048) (j : Fin 1024) : EReal := ∑ k : Fin 1024, x0 (ix2 i k) * x1 (ix2 k ⟨o + j.val, by omega⟩)

theorem pay6_at (i : Fin 128) (j : Fin 1024) : k0_pay6 (F := Ideal) x0 x1 (ix2 i j) = prod x0 x1 0 i (by norm_num) j := by
  pointwise [k0_pay6, k0_pay2]
  unfold prod
  refine Finset.sum_congr rfl fun k _ => ?_
  simp only [Nat.zero_add]
theorem pay14_at (i : Fin 128) (j : Fin 1024) : k0_pay14 (F := Ideal) (k0_pay2 x0 x1) (ix2 i j) = prod x0 x1 2048 i (by norm_num) j := by
  pointwise [k0_pay14, k0_pay2]
  unfold prod
  rfl
theorem pay3_at (i l : Fin 128) : k0_pay3 (F := Ideal) x2 (ix2 i l) = x2 (ix2 i l) := by
  pointwise [k0_pay3]
theorem pay4_at (i l : Fin 128) : k0_pay4 (F := Ideal) x2 (ix2 i l) = x2 (ix2 i l) := by
  pointwise [k0_pay4]
theorem pay5_at (i l : Fin 128) : k0_pay5 (F := Ideal) x2 (ix2 i l) = x2 (ix2 i l) := by
  pointwise [k0_pay5]

set_option maxHeartbeats 1000000 in
theorem outK (i : Fin 128) (j : Fin 1024) : (k0_pay12 (F := Ideal) (k0_pay28 x0 x1 x2 x3 x4) (k0_pay29 x0 x1 x2 x3 x4) (k0_pay30 x0 x1 x2 x3 x4) (k0_pay6 x0 x1) (k0_pay7 x0 x1 x2 x3 x4) (k0_pay8 x0 x1 x2 x3 x4) (k0_pay9 x0 x1 x2 x3 x4)
   (k0_pay10 x0 x1) (k0_pay11 x0 x1 x2 x3)) (ix2 i j) =
    rotl (prod x0 x1 0 i (by norm_num)) (fun l => x2 (ix2 i l)) (fun l => x3 (ix2 i l)) (fun l => x4 (ix2 i l)) j := by
  pointwise [k0_pay12, k0_pay7, k0_pay8, k0_pay9, k0_pay10, k0_pay11, k0_pay28, k0_pay29, k0_pay30]
  simp only [ld0, ld1, ld2, pay6_at, pay3_at, pay4_at, pay5_at]
  split_ifs
  all_goals
    refine rung (prod x0 x1 0 i (by norm_num)) (fun l => x2 (ix2 i l)) (fun l => x3 (ix2 i l)) (fun l => x4 (ix2 i l)) j _ _ _ _ ?_ ?_ ?_ ?_
    all_goals (first | (simp only [] <;> omega) | omega)

theorem pay27_eq : k0_pay27 (F := Ideal) x0 x1 x2 x3 x4 = k0_pay2 x0 x1 := by
  unfold k0_pay27; rw [ld0, ld1]
theorem pay31_eq : k0_pay31 (F := Ideal) x0 x1 x2 x3 x4 = k0_pay14 (k0_pay2 x0 x1) := by
  unfold k0_pay31; rw [pay27_eq]

theorem outV (i : Fin 128) (j : Fin 1024) : k0_pay13 (F := Ideal) (k0_pay2 x0 x1) (ix2 i j) = prod x0 x1 1024 i (by norm_num) j := by
  pointwise [k0_pay13, k0_pay2]
  unfold prod
  rfl

set_option maxHeartbeats 1000000 in
theorem outQ (i : Fin 128) (j : Fin 1024) : k0_pay1 (F := Ideal) (k0_pay28 x0 x1 x2 x3 x4) (k0_pay29 x0 x1 x2 x3 x4) (k0_pay30 x0 x1 x2 x3 x4) (k0_pay31 x0 x1 x2 x3 x4) (k0_pay18 (k0_pay30 x0 x1 x2 x3 x4) (k0_pay15 (k0_pay27 x0 x1 x2 x3 x4)) (k0_pay16 (k0_pay27 x0 x1 x2 x3 x4) (k0_pay28 x0 x1 x2 x3 x4)) (k0_pay17 (k0_pay27 x0 x1 x2 x3 x4) (k0_pay29 x0 x1 x2 x3 x4))) (k0_pay19 (k0_pay28 x0 x1 x2 x3 x4) (k0_pay29 x0 x1 x2 x3 x4) (k0_pay30 x0 x1 x2 x3 x4) (k0_pay31 x0 x1 x2 x3 x4)) (k0_pay20 (k0_pay28 x0 x1 x2 x3 x4) (k0_pay29 x0 x1 x2 x3 x4) (k0_pay30 x0 x1 x2 x3 x4) (k0_pay31 x0 x1 x2 x3 x4)) (k0_pay21 (k0_pay28 x0 x1 x2 x3 x4) (k0_pay29 x0 x1 x2 x3 x4) (k0_pay30 x0 x1 x2 x3 x4) (k0_pay31 x0 x1 x2 x3 x4)) (k0_pay22 (k0_pay28 x0 x1 x2 x3 x4) (k0_pay29 x0 x1 x2 x3 x4) (k0_pay30 x0 x1 x2 x3 x4) (k0_pay31 x0 x1 x2 x3 x4)) (k0_pay23 (k0_pay28 x0 x1 x2 x3 x4) (k0_pay29 x0 x1 x2 x3 x4) (k0_pay30 x0 x1 x2 x3 x4) (k0_pay31 x0 x1 x2 x3 x4)) (k0_pay24 (k0_pay31 x0 x1 x2 x3 x4)) (k0_pay25 (k0_pay28 x0 x1 x2 x3 x4) (k0_pay31 x0 x1 x2 x3 x4)) (k0_pay26 (k0_pay29 x0 x1 x2 x3 x4) (k0_pay31 x0 x1 x2 x3 x4)) (ix2 i j) =
    rotl (prod x0 x1 2048 i (by norm_num)) (fun l => x2 (ix2 i l)) (fun l => x3 (ix2 i l)) (fun l => x4 (ix2 i l)) j * Ideal.ofBits .f32 0x3E000000#32 := by
  simp only [pay27_eq, pay31_eq]
  pointwise [k0_pay1, k0_pay28, k0_pay29, k0_pay30, k0_pay18, k0_pay15, k0_pay16, k0_pay17, k0_pay19, k0_pay20, k0_pay21, k0_pay22, k0_pay23, k0_pay24, k0_pay25, k0_pay26]
  simp only [ld0, ld1, ld2, pay14_at, pay3_at, pay4_at, pay5_at]
  split_ifs
  all_goals
    refine congrArg (fun x : EReal => x * Ideal.ofBits .f32 0x3E000000#32) (rung (prod x0 x1 2048 i (by norm_num)) (fun l => x2 (ix2 i l)) (fun l => x3 (ix2 i l)) (fun l => x4 (ix2 i l)) j _ _ _ _ ?_ ?_ ?_ ?_)
    all_goals (first | (simp only [] <;> omega) | omega)

end Vars

theorem v41 (c : Dev nD) : (V m c main_v41 : FVec Ideal S1024x3072 .bf16) = truncf (F := Ideal) .bf16 (concatenate S1024x3072 1 [⟨S1024x2048, (m ((c : Thread nD τ).loc main_arg1) : FVec Ideal S1024x2048 .f32)⟩,
    ⟨S1024x1024, (m ((c : Thread nD τ).loc main_arg2) : FVec Ideal S1024x1024 .f32)⟩] concatenates_S1024x2048_S1024x1024_S1024x3072_d1) bitsLt_bf16_f32 := by
  rfl
theorem w_at (c : Dev nD) (t : Fin cfg0.N) (k : Fin 1024) (n : Fin 3072) : (iblk m c 1 t (ix2 k n) : EReal) =
    if h : n.val < 2048 then m ((c : Thread nD τ).loc main_arg1) (ix2 k ⟨n.val, h⟩) else m ((c : Thread nD τ).loc main_arg2) (ix2 k ⟨n.val - 2048, by omega⟩) := by
  have h : iblk m c 1 t (ix2 k n) = (V m c main_v41 : FVec Ideal S1024x3072 .bf16) (ix2 k n) := by
    simp only [iblk]
    blk_ext [idx t]
  rw [h, v41]
  pointwise []
theorem x_at (c : Dev nD) (t : Fin cfg0.N) (i : Fin 128) (k : Fin 1024) : iblk m c 0 t (ix2 i k) = m ((c : Thread nD τ).loc main_arg0) (ix2 i k) := by
  blk_point [iblk, V, idx t]

/-- Row `i` of the product of the first `1024` columns from column `o` on. -/
def dotR {w : ℕ} (x : Vec Ideal S128x1024 .f32) (y : Fin 1024 → Fin w → EReal) (o : ℕ) (ho : o + 1024 ≤ w) (i : Fin 128) (j : Fin 1024) : EReal :=
  ∑ k : Fin 1024, x (ix2 i k) * y k ⟨o + j.val, by omega⟩

theorem prodK (c : Dev nD) (t : Fin cfg0.N) (i : Fin 128) (o : ℕ) (ho : o ≤ 2048) (ho' : o ≤ 1024) :
    prod (iblk m c 0 t) (iblk m c 1 t) o i ho = dotR (m ((c : Thread nD τ).loc main_arg0)) (fun k l => (m ((c : Thread nD τ).loc main_arg1) : Vec Ideal S1024x2048 .f32) (ix2 k l)) o (by omega) i := by
  funext j
  unfold prod dotR
  refine Finset.sum_congr rfl fun k _ => ?_
  rw [x_at, w_at, dif_pos (show o + j.val < 2048 by omega)]
theorem prodQ (c : Dev nD) (t : Fin cfg0.N) (i : Fin 128) :
    prod (iblk m c 0 t) (iblk m c 1 t) 2048 i (by norm_num) = dotR (m ((c : Thread nD τ).loc main_arg0)) (fun k l => (m ((c : Thread nD τ).loc main_arg2) : Vec Ideal S1024x1024 .f32) (ix2 k l)) 0 (by norm_num) i := by
  funext j
  unfold prod dotR
  refine Finset.sum_congr rfl fun k _ => ?_
  rw [x_at, w_at, dif_neg (show ¬ 2048 + j.val < 2048 by omega)]
  have e : (⟨2048 + j.val - 2048, by omega⟩ : Fin 1024) = ⟨0 + j.val, by omega⟩ := Fin.ext (by simp only []; omega)
  rw [e]

theorem tabs_at (c : Dev nD) (t : Fin cfg0.N) (i : Fin 128) (z : Fin 1024 → EReal) (j : Fin 1024) :
    rotl z (fun l => iblk m c 2 t (ix2 i l)) (fun l => iblk m c 3 t (ix2 i l)) (fun l => iblk m c 4 t (ix2 i l)) j = rope z j := by
  have h2 : (fun l : Fin 128 => (iblk m c 2 t (ix2 i l) : EReal)) = fun l => tC l.val := funext fun l => tab2_at m c t i l
  have h3 : (fun l : Fin 128 => (iblk m c 3 t (ix2 i l) : EReal)) = fun l => tM l.val := funext fun l => tab3_at m c t i l
  have h4 : (fun l : Fin 128 => (iblk m c 4 t (ix2 i l) : EReal)) = fun l => tP l.val := funext fun l => tab4_at m c t i l
  rw [← rotl_rope, ← h2, ← h3, ← h4]

theorem emb5 (t : Fin cfg0.N) (a : Fin 128) (b : Fin 1024) : ((View.whole main_v42_0).slice (win0_5.rect t)).emb (ix2 a b) = ix2 a b := by
  blk_ext [idx t]
theorem emb6 (t : Fin cfg0.N) (a : Fin 128) (b : Fin 1024) : ((View.whole main_v42_1).slice (win0_6.rect t)).emb (ix2 a b) = ix2 a b := by
  blk_ext [idx t]
theorem emb7 (t : Fin cfg0.N) (a : Fin 128) (b : Fin 1024) : ((View.whole main_v42_2).slice (win0_7.rect t)).emb (ix2 a b) = ix2 a b := by
  blk_ext [idx t]

section Ref
open Cert.QkvStepRefIdeal (main_arg0 main_arg1 main_arg2)
variable (m' : (ℓ : Loc Cert.QkvStepRefIdeal.nD Cert.QkvStepRefIdeal.τ Cert.QkvStepRefIdeal.sig) → Buf (Elt Ideal) ℓ)
abbrev X0 (c : Dev nD) : Vec Ideal S128x1024 .f32 := m' ((c : Thread nD τ).loc Cert.QkvStepRefIdeal.main_arg0)
abbrev X1 (c : Dev nD) : Vec Ideal S1024x2048 .f32 := m' ((c : Thread nD τ).loc Cert.QkvStepRefIdeal.main_arg1)
abbrev X2 (c : Dev nD) : Vec Ideal S1024x1024 .f32 := m' ((c : Thread nD τ).loc Cert.QkvStepRefIdeal.main_arg2)

set_option maxHeartbeats 1000000 in
theorem refK (c : Dev nD) (i : Fin 128) (j : Fin 1024) : Cert.QkvStepRefIdeal.Value.res_main_v76 m' c (ix2 i j) =
    rope (dotR (X0 m' c) (fun k l => X1 m' c (ix2 k l)) 0 (by norm_num) i) j := by
  pointwise [Cert.QkvStepRefIdeal.Value.res_main_v76]
  unfold rope dotR
  by_cases h1 : j.val % 64 < 8
  · rw [dif_pos h1, dif_pos h1]
    exact congrArg₂ (fun a b : EReal => a * Ideal.cos (A (j.val % 64)) - b * Ideal.sin (A (j.val % 64))) (Finset.sum_congr rfl fun k _ => congrArg (fun n => X0 m' c (ix2 i k) * X1 m' c (ix2 k n)) (Fin.ext (by simp only [] <;> omega))) (Finset.sum_congr rfl fun k _ => congrArg (fun n => X0 m' c (ix2 i k) * X1 m' c (ix2 k n)) (Fin.ext (by simp only [] <;> omega)))
  · rw [dif_neg h1, dif_neg h1]
    by_cases h2 : j.val % 64 - 8 < 8
    · rw [dif_pos h2, if_pos h2]
      exact congrArg₂ (fun a b : EReal => a * Ideal.cos (A (j.val % 64 - 8)) + b * Ideal.sin (A (j.val % 64 - 8))) (Finset.sum_congr rfl fun k _ => congrArg (fun n => X0 m' c (ix2 i k) * X1 m' c (ix2 k n)) (Fin.ext (by simp only [] <;> omega))) (Finset.sum_congr rfl fun k _ => congrArg (fun n => X0 m' c (ix2 i k) * X1 m' c (ix2 k n)) (Fin.ext (by simp only [] <;> omega)))
    · rw [dif_neg h2, if_neg h2]
      exact Finset.sum_congr (M := EReal) rfl fun k _ => congrArg (fun n => X0 m' c (ix2 i k) * X1 m' c (ix2 k n)) (Fin.ext (by simp only [] <;> omega))
set_option maxHeartbeats 1000000 in
theorem refQ (c : Dev nD) (i : Fin 128) (j : Fin 1024) : Cert.QkvStepRefIdeal.Value.res_main_v81 m' c (ix2 i j) =
    rope (dotR (X0 m' c) (fun k l => X2 m' c (ix2 k l)) 0 (by norm_num) i) j * Ideal.ofBits .f32 0x3E000000#32 := by
  pointwise [Cert.QkvStepRefIdeal.Value.res_main_v81]
  refine congrArg (fun x : EReal => x * Ideal.ofBits .f32 0x3E000000#32) ?_
  unfold rope dotR
  by_cases h1 : j.val % 64 < 8
  · rw [dif_pos h1, dif_pos h1]
    exact congrArg₂ (fun a b : EReal => a * Ideal.cos (A (j.val % 64)) - b * Ideal.sin (A (j.val % 64))) (Finset.sum_congr rfl fun k _ => congrArg (fun n => X0 m' c (ix2 i k) * X2 m' c (ix2 k n)) (Fin.ext (by simp only [] <;> omega))) (Finset.sum_congr rfl fun k _ => congrArg (fun n => X0 m' c (ix2 i k) * X2 m' c (ix2 k n)) (Fin.ext (by simp only [] <;> omega)))
  · rw [dif_neg h1, dif_neg h1]
    by_cases h2 : j.val % 64 - 8 < 8
    · rw [dif_pos h2, if_pos h2]
      exact congrArg₂ (fun a b : EReal => a * Ideal.cos (A (j.val % 64 - 8)) + b * Ideal.sin (A (j.val % 64 - 8))) (Finset.sum_congr rfl fun k _ => congrArg (fun n => X0 m' c (ix2 i k) * X2 m' c (ix2 k n)) (Fin.ext (by simp only [] <;> omega))) (Finset.sum_congr rfl fun k _ => congrArg (fun n => X0 m' c (ix2 i k) * X2 m' c (ix2 k n)) (Fin.ext (by simp only [] <;> omega)))
    · rw [dif_neg h2, if_neg h2]
      exact Finset.sum_congr (M := EReal) rfl fun k _ => congrArg (fun n => X0 m' c (ix2 i k) * X2 m' c (ix2 k n)) (Fin.ext (by simp only [] <;> omega))
end Ref

set_option maxHeartbeats 4000000 in
theorem algebraic : Cert.algebraic_QkvStepIdeal_QkvStepRefIdeal := by
  pair_intro
  · run_from Cert.QkvStepIdeal.Gen.run_main m g
  · run_from Cert.QkvStepRefIdeal.Value.run m' g'
    · symm
      refine (dats m 0 c).arrAt_eq_of_covers 5 _ (by decide +kernel) fun t hf y => ?_
      blk_simp; rw [after0_5]; frame_out
      idx_vars y
      obtain ⟨ha0, ha1, ha2⟩ := hagree c
      rw [emb5]
      have e0 : X0 m' c = m ((c : Thread nD τ).loc main_arg0) := ha0
      have e1 : X1 m' c = m ((c : Thread nD τ).loc main_arg1) := ha1
      refine (outK _ _ _ _ _ y0 y1).trans ?_
      refine Eq.trans ?_ (refK m' c y0 y1).symm
      rw [e0, e1, tabs_at, prodK m c t y0 0 _ (by norm_num)]
    · symm
      refine (dats m 0 c).arrAt_eq_of_covers 6 _ (by decide +kernel) fun t hf y => ?_
      blk_simp; rw [after0_6]; frame_out
      idx_vars y
      obtain ⟨ha0, ha1, ha2⟩ := hagree c
      rw [emb6, pay27_eq]
      refine (outV _ _ y0 y1).trans ?_
      rw [prodK m c t y0 1024 _ (by norm_num), ← ha0, ← ha1]
      pointwise []
      unfold dotR
      rfl
    · symm
      refine (dats m 0 c).arrAt_eq_of_covers 7 _ (by decide +kernel) fun t hf y => ?_
      blk_simp; rw [after0_7]; frame_out
      idx_vars y
      obtain ⟨ha0, ha1, ha2⟩ := hagree c
      rw [emb7]
      have e0 : X0 m' c = m ((c : Thread nD τ).loc main_arg0) := ha0
      have e2 : X2 m' c = m ((c : Thread nD τ).loc main_arg2) := ha2
      refine (outQ _ _ _ _ _ y0 y1).trans ?_
      refine Eq.trans ?_ (refQ m' c y0 y1).symm
      rw [e0, e2, tabs_at, prodQ m c t y0]

end Cert.QkvStepIdeal.Value

end
-- ==== Proof.lean ====
/- The three claims about the attention call: it runs and leaves its arguments alone (as printed and idealized), and the
   idealized program differs from the printed one by the name of one constant alone. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerIdeal.Value
public import proofs.«01_k».proof.Proof.Gen.MixerStep
public import proofs.«01_k».proof.Proof.Gen.MixerStep.Skeleton
public import proofs.«01_k».proof.Proof.Gen.MixerStep.Launch
public import proofs.«01_k».proof.Proof.Gen.MixerStep.Points
public import proofs.«01_k».proof.Proof.Gen.MixerStep.Frame
public import proofs.«01_k».proof.Proof.Gen.MixerStepIdeal
public import proofs.«01_k».proof.Proof.Gen.MixerStepIdeal.Skeleton
public import proofs.«01_k».proof.Proof.Gen.MixerStepIdeal.Launch
public import proofs.«01_k».proof.Proof.Gen.MixerStepIdeal.Points
public import proofs.«01_k».proof.Proof.Gen.MixerStepIdeal.Frame
public import proofs.«01_k».proof.Proof.Gen.MixerStepIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvStep
public import proofs.«01_k».proof.Proof.Gen.QkvStep.Skeleton
public import proofs.«01_k».proof.Proof.Gen.QkvStep.Launch
public import proofs.«01_k».proof.Proof.Gen.QkvStep.Points
public import proofs.«01_k».proof.Proof.Gen.QkvStep.Frame
public import proofs.«01_k».proof.Proof.Gen.QkvStepIdeal
public import proofs.«01_k».proof.Proof.Gen.QkvStepIdeal.Skeleton
public import proofs.«01_k».proof.Proof.Gen.QkvStepIdeal.Launch
public import proofs.«01_k».proof.Proof.Gen.QkvStepIdeal.Points
public import proofs.«01_k».proof.Proof.Gen.QkvStepIdeal.Frame
public import proofs.«01_k».proof.Proof.Gen.QkvStepIdeal.Value
public import proofs.«01_k».proof.Proof.Gen.PostRefIdeal
public import proofs.«01_k».proof.Proof.Gen.PostRefIdeal.Run
public import proofs.«01_k».proof.Proof.Gen.MixerRefIdeal
public import proofs.«01_k».proof.Proof.Gen.MixerRefIdeal.Run
public import proofs.«01_k».proof.Proof.Gen.MixerStepRefIdeal
public import proofs.«01_k».proof.Proof.Gen.MixerStepRefIdeal.Run
public import proofs.«01_k».proof.Proof.Gen.QkvRefIdeal
public import proofs.«01_k».proof.Proof.Gen.QkvRefIdeal.Run
public import proofs.«01_k».proof.Proof.Gen.QkvStepRefIdeal
public import proofs.«01_k».proof.Proof.Gen.QkvStepRefIdeal.Run
public import proofs.«01_k».proof.Proof.Gen.ReferenceIdeal
public import proofs.«01_k».proof.Proof.Gen.ReferenceIdeal.Run
public import proofs.«01_k».proof.Proof.Gen.Pre_pages_in_pool
public import proofs.«01_k».proof.Proof.Attn.Frame
public import proofs.«01_k».proof.Proof.AttnBits.Frame
public import proofs.«01_k».proof.Proof.Calls.PostRun
public import proofs.«01_k».proof.Proof.Calls.PostBits
public import proofs.«01_k».proof.Proof.Calls.Post
public import proofs.«01_k».proof.Proof.Calls.Mixer
public import proofs.«01_k».proof.Proof.Calls.MixerStep
public import proofs.«01_k».proof.Proof.Calls.Qkv
public import proofs.«01_k».proof.Proof.Calls.QkvStep
public import Idealize.ShloMosaic.Lib.ReduceAll
public import Idealize.ShloMosaic.Adequacy
public import Idealize.ShloMosaic.Init

@[expose] public section

noncomputable section

namespace Cert.Proof

open Idealize.ShloMosaic Idealize.ShloMosaic.TcCoe Idealize.SL.Sem

/-- A page number between 0 and 2559 as signed words is below 2560 as a natural number. -/
theorem page_lt (w : BitVec 32) (h : andi (s := ⟨0, ![]⟩) (cmpi .sge (fun _ => w) (fun _ => 0#32)) (cmpi .slt (fun _ => w) (fun _ => 2560#32)) (fun i => i.elim0) = 1#1) :
    w.toNat < 2560 := by
  obtain ⟨h1, h2⟩ := IntOp.andi_eq_one.1 h
  have a := IntOp.cmpi_sge.1 h1
  have b := IntOp.cmpi_slt.1 h2
  simp only [BitVec.toInt_eq_toNat_cond] at a b
  norm_num at a b
  split at b <;> omega

/-- What the precondition says of the page table. -/
theorem pages {F : FTy → Type} [FloatOps F] [Cert.Pre_pages_in_pool.Facts] {a0 a1 a2 a4 a5 a6 a7 a8 a9 a10 a11 a12 a13} {t : IVec Cert.Pre_pages_in_pool.S128x16 32}
    (h : Cert.Pre_pages_in_pool.fn (F := F) a0 a1 a2 t a4 a5 a6 a7 a8 a9 a10 a11 a12 a13 = fun _ => 1#1) (i : Cert.Pre_pages_in_pool.S128x16.Idx) : (t i).toNat < 2560 :=
  haveI : Subsingleton Cert.Pre_pages_in_pool.S_.Idx := ⟨fun a b => funext fun k => k.elim0⟩
  page_lt (t i) (Host.reduce_andi_all _ _ _ _ (fun k => k.elim0) (congrFun h _) i)

theorem ReferenceIdeal_frame : Cert.quiescent_ReferenceIdeal := by
  intro m g h
  run_from Cert.ReferenceIdeal.Value.run m g
  · exact fun _ => by simp
  · exact sem_eq_zero_of_no_sems rfl _

theorem PostRefIdeal_frame : Cert.quiescent_PostRefIdeal := by
  intro m g h
  run_from Cert.PostRefIdeal.Value.run m g
  · exact fun _ => by simp
  · exact sem_eq_zero_of_no_sems rfl _

theorem MixerRefIdeal_frame : Cert.quiescent_MixerRefIdeal := by
  intro m g h
  run_from Cert.MixerRefIdeal.Value.run m g
  · exact fun _ => by simp
  · exact sem_eq_zero_of_no_sems rfl _

theorem MixerStepRefIdeal_frame : Cert.quiescent_MixerStepRefIdeal := by
  intro m g h
  run_from Cert.MixerStepRefIdeal.Value.run m g
  · exact fun _ => by simp
  · exact sem_eq_zero_of_no_sems rfl _

theorem QkvRefIdeal_frame : Cert.quiescent_QkvRefIdeal := by
  intro m g h
  run_from Cert.QkvRefIdeal.Value.run m g
  · exact fun _ => by simp
  · exact sem_eq_zero_of_no_sems rfl _

theorem QkvStepRefIdeal_frame : Cert.quiescent_QkvStepRefIdeal := by
  intro m g h
  run_from Cert.QkvStepRefIdeal.Value.run m g
  · exact fun _ => by simp
  · exact sem_eq_zero_of_no_sems rfl _

theorem claim : Cert.Claim :=
  ⟨Cert.Kernel.Gen.facts,
    Cert.KernelIdeal.Gen.facts,
    Cert.ReferenceIdeal.Gen.facts,
    Cert.Post.Gen.facts,
    Cert.PostIdeal.Gen.facts,
    Cert.PostRefIdeal.Gen.facts,
    Cert.Mixer.Gen.facts,
    Cert.MixerIdeal.Gen.facts,
    Cert.MixerRefIdeal.Gen.facts,
    Cert.MixerStep.Gen.facts,
    Cert.MixerStepIdeal.Gen.facts,
    Cert.MixerStepRefIdeal.Gen.facts,
    Cert.Qkv.Gen.facts,
    Cert.QkvIdeal.Gen.facts,
    Cert.QkvRefIdeal.Gen.facts,
    Cert.QkvStep.Gen.facts,
    Cert.QkvStepIdeal.Gen.facts,
    Cert.QkvStepRefIdeal.Gen.facts,
    Cert.Pre_pages_in_pool.Gen.facts,
    fun m g h => Cert.Kernel.Attn.frame m g (Cert.Kernel.Attn.tables_of m fun x => pages (h 0) x),
    fun m g h => Cert.KernelIdeal.Attn.frame m g (Cert.KernelIdeal.Attn.tables_of m fun x => pages (h 0) x),
    ReferenceIdeal_frame,
    fun m g _ => Cert.Post.Call.frame m g,
    fun m g _ => Cert.PostIdeal.Call.frame m g,
    PostRefIdeal_frame,
    fun m g _ => Cert.Mixer.Gen.frame m g,
    fun m g _ => Cert.MixerIdeal.Gen.frame m g,
    MixerRefIdeal_frame,
    fun m g _ => Cert.MixerStep.Gen.frame m g,
    fun m g _ => Cert.MixerStepIdeal.Gen.frame m g,
    MixerStepRefIdeal_frame,
    fun m g _ => Cert.Qkv.Gen.frame m g,
    fun m g _ => Cert.QkvIdeal.Gen.frame m g,
    QkvRefIdeal_frame,
    fun m g _ => Cert.QkvStep.Gen.frame m g,
    fun m g _ => Cert.QkvStepIdeal.Gen.frame m g,
    QkvStepRefIdeal_frame,
    IdealRules.named_const.statement Cert.KernelIdeal.κ "mask" .f32 0xF149F2CA#32 ⊥ rfl,
    trivial,
    Cert.PostIdeal.Call.algebraic,
    trivial,
    Cert.MixerIdeal.Value.algebraic,
    trivial,
    Cert.MixerStepIdeal.Value.algebraic,
    IdealRules.named_const.statement Cert.QkvIdeal.κ "q_scale" .f32 0x3E38AA3B#32 _ rfl,
    Cert.QkvIdeal.Value.algebraic,
    trivial,
    Cert.QkvStepIdeal.Value.algebraic⟩

end Cert.Proof

end
